-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  IdealRules.named_const.Statement Cert.KernelIdeal.κ "floor" .f32 0xEFA18F08#32 ⊥
  ∧ IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "inv_192" .f32 0x3BAAAAAB#32 ((1 / 192 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v69)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v69) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  IdealRules.named_const.Statement Cert.Kernel11Ideal.κ "inv_192" .f32 0x3BAAAAAB#32 ((1 / 192 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v46)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v46) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v50) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  IdealRules.named_const.Statement Cert.Kernel12Ideal.κ "inv_192" .f32 0x3BAAAAAB#32 ((1 / 192 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v48)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v48) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v52) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_inputs.lean ====
abbrev S4x2048x16x192 : Shape := ⟨4, ![4, 2048, 16, 192]⟩
abbrev S4x2048x16x256 : Shape := ⟨4, ![4, 2048, 16, 256]⟩
abbrev S_ : Shape := ⟨0, ![]⟩

class Facts : Prop where
  bcast_S_S4x2048x16x192 : S_.BroadcastsInDim S4x2048x16x192 (![] : Fin 0 → Fin S4x2048x16x192.rank)
  reducesTo_S4x2048x16x192_S_d0_1_2_3 : S4x2048x16x192.ReducesTo [0, 1, 2, 3] S_
  h_S_ : 0 < S_.numel

variable [Facts]

def fn {F : FTy → Type} [FloatOps F] (main_arg0 : FVec F S4x2048x16x192 .f32) (main_arg1 : FVec F S4x2048x16x192 .f32) (main_arg2 : FVec F S4x2048x16x256 .f32) : IVec S_ 1 :=
  let main_v0 : FVec F S4x2048x16x192 .f32 := Host.absf main_arg0
  let main_cst : FVec F S_ .f32 := constant S_ .f32 0x7F800000#32
  let main_v1 : FVec F S4x2048x16x192 .f32 := broadcastInDim S4x2048x16x192 ![] bcast_S_S4x2048x16x192 main_cst
  let main_v2 : IVec S4x2048x16x192 1 := cmpf .olt main_v0 main_v1
  let main_c : IVec S_ 1 := constantI S_ 1 1#1
  let main_v3 : IVec S_ 1 := (fun x v => Host.reduce IntOp.andi x v reducesTo_S4x2048x16x192_S_d0_1_2_3 h_S_) main_v2 main_c
  let main_v4 : FVec F S4x2048x16x192 .f32 := Host.absf main_arg1
  let main_cst_0 : FVec F S_ .f32 := constant S_ .f32 0x7F800000#32
  let main_v5 : FVec F S4x2048x16x192 .f32 := broadcastInDim S4x2048x16x192 ![] bcast_S_S4x2048x16x192 main_cst_0
  let main_v6 : IVec S4x2048x16x192 1 := cmpf .olt main_v4 main_v5
  let main_c_1 : IVec S_ 1 := constantI S_ 1 1#1
  let main_v7 : IVec S_ 1 := (fun x v => Host.reduce IntOp.andi x v reducesTo_S4x2048x16x192_S_d0_1_2_3 h_S_) main_v6 main_c_1
  let main_v8 : IVec S_ 1 := andi main_v3 main_v7
  main_v8
-- ==== Kernel.lean ====
abbrev S4x2048x16x192 : Shape := ⟨4, ![4, 2048, 16, 192]⟩
abbrev S4x2048x16x256 : Shape := ⟨4, ![4, 2048, 16, 256]⟩
abbrev S_ : Shape := ⟨0, ![]⟩
abbrev S8192x4096 : Shape := ⟨2, ![8192, 4096]⟩
abbrev S8192x2048 : Shape := ⟨2, ![8192, 2048]⟩
abbrev S512x1024 : Shape := ⟨2, ![512, 1024]⟩
abbrev S2048x1024 : Shape := ⟨2, ![2048, 1024]⟩
abbrev S512x512 : Shape := ⟨2, ![512, 512]⟩
abbrev S4x512x128 : Shape := ⟨3, ![4, 512, 128]⟩
abbrev S4x512x256 : Shape := ⟨3, ![4, 512, 256]⟩
abbrev S512x128 : Shape := ⟨2, ![512, 128]⟩
abbrev S512x256 : Shape := ⟨2, ![512, 256]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩

abbrev nBuf : Space → Nat
  | .hbm => 19
  | .vmem => 10
  | .smem => 0
  | _ => 0

abbrev bufTy : (tb : Table) → Fin (tcTables nBuf tb) → BufTy
  | .hbm, ⟨0, _⟩ => ⟨S4x2048x16x192, .f32⟩
  | .hbm, ⟨1, _⟩ => ⟨S4x2048x16x192, .f32⟩
  | .hbm, ⟨2, _⟩ => ⟨S4x2048x16x256, .f32⟩
  | .hbm, ⟨3, _⟩ => ⟨S_, .f32⟩
  | .hbm, ⟨4, _⟩ => ⟨S4x2048x16x192, .f32⟩
  | .hbm, ⟨5, _⟩ => ⟨S4x2048x16x192, .f32⟩
  | .hbm, ⟨6, _⟩ => ⟨S_, .i32⟩
  | .hbm, ⟨7, _⟩ => ⟨S_, .f32⟩
  | .hbm, ⟨8, _⟩ => ⟨S4x2048x16x256, .f32⟩
  | .hbm, ⟨9, _⟩ => ⟨S8192x4096, .f32⟩
  | .hbm, ⟨10, _⟩ => ⟨S8192x4096, .bf16⟩
  | .hbm, ⟨11, _⟩ => ⟨S_, .i32⟩
  | .hbm, ⟨12, _⟩ => ⟨S_, .f32⟩
  | .hbm, ⟨13, _⟩ => ⟨S4x2048x16x256, .f32⟩
  | .hbm, ⟨14, _⟩ => ⟨S8192x4096, .f32⟩
  | .hbm, ⟨15, _⟩ => ⟨S8192x4096, .bf16⟩
  | .hbm, ⟨16, _⟩ => ⟨S8192x4096, .f32⟩
  | .hbm, ⟨17, _⟩ => ⟨S8192x4096, .bf16⟩
  | .hbm, ⟨18, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x512, .bf16⟩
  | .local _ .vmem, ⟨7, _⟩ => ⟨S512x512, .bf16⟩
  | .local _ .vmem, ⟨8, _⟩ => ⟨S4x512x128, .f32⟩
  | .local _ .vmem, ⟨9, _⟩ => ⟨S4x512x256, .f32⟩
  | _, _ => ⟨S4x2048x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

@[reducible] def k0_t1_loop (i : grid0.Coords) : Scf.Loop 32 :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_33 : BitVec 32 := 1#32
  ⟨c0_i32_31, v73, c1_i32_33⟩
def k0_cond1 (i : grid0.Coords) (k0_t1 : Fin (k0_t1_loop i).trips) : BitVec 1 :=
  let c0_i32_31 : BitVec 32 := 0#32
  let c1_i32_33 : BitVec 32 := 1#32
  let arg9 : BitVec 32 := Scf.iv c0_i32_31 c1_i32_33 k0_t1
  let c512_i32_56 : BitVec 32 := 512#32
  let v110 : BitVec 32 := Scalar.muli arg9 c512_i32_56
  let c512_i32_57 : BitVec 32 := 512#32
  let v111 : BitVec 32 := Scalar.addi v110 c512_i32_57
  let c1_i32_58 : BitVec 32 := 1#32
  let v112 : BitVec 32 := Scalar.subi v111 c1_i32_58
  let arg2 : BitVec 32 := BitVec.ofNat 32 (i 2).val
  let c512_i32 : BitVec 32 := 512#32
  let v0 : BitVec 32 := Scalar.muli arg2 c512_i32
  let v113 : BitVec 1 := Scalar.cmpi .sle v112 v0
  let v114 : BitVec 32 := Scalar.extui v113
  let c0_i32_59 : BitVec 32 := 0#32
  let v115 : BitVec 1 := Scalar.cmpi .ne v114 c0_i32_59
  v115

def k0_mult1 (i : grid0.Coords) (k0_t1 : Fin (k0_t1_loop i).trips) : BitVec 32 :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  v116
def k0_off1 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v119 : Index := Scalar.indexCast v117
  let c0_61 : Index := 0#32
  ![v119.toNat, 0]
def k0_off2 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v122 : Index := Scalar.indexCast v117
  let c128_62 : Index := 128#32
  ![v122.toNat, 128]
def k0_off3 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v167 : Index := Scalar.indexCast v117
  let c256_78 : Index := 256#32
  ![v167.toNat, 256]
def k0_off4 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v170 : Index := Scalar.indexCast v117
  let c384_79 : Index := 384#32
  ![v170.toNat, 384]
def k0_off5 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v215 : Index := Scalar.indexCast v117
  let c512_95 : Index := 512#32
  ![v215.toNat, 512]
def k0_off6 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v218 : Index := Scalar.indexCast v117
  let c640_96 : Index := 640#32
  ![v218.toNat, 640]
def k0_off7 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v263 : Index := Scalar.indexCast v117
  let c768_112 : Index := 768#32
  ![v263.toNat, 768]
def k0_off8 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v266 : Index := Scalar.indexCast v117
  let c896_113 : Index := 896#32
  ![v266.toNat, 896]
def k0_mult2 (i : grid0.Coords) (k0_t1 : Fin (k0_t1_loop i).trips) : BitVec 32 :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  v116
def k0_off9 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v122 : Index := Scalar.indexCast v117
  let c0_62 : Index := 0#32
  ![v122.toNat, 0]
def k0_off10 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v125 : Index := Scalar.indexCast v117
  let c128_63 : Index := 128#32
  ![v125.toNat, 128]
def k0_off11 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v172 : Index := Scalar.indexCast v117
  let c256_80 : Index := 256#32
  ![v172.toNat, 256]
def k0_off12 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v175 : Index := Scalar.indexCast v117
  let c384_81 : Index := 384#32
  ![v175.toNat, 384]
def k0_off13 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v222 : Index := Scalar.indexCast v117
  let c512_98 : Index := 512#32
  ![v222.toNat, 512]
def k0_off14 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v225 : Index := Scalar.indexCast v117
  let c640_99 : Index := 640#32
  ![v225.toNat, 640]
def k0_off15 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v272 : Index := Scalar.indexCast v117
  let c768_116 : Index := 768#32
  ![v272.toNat, 768]
def k0_off16 (i : grid0.Coords) (k0_t1 : Fin (k0_t1_loop i).trips) : Fin 2 → Nat :=
  let c0_i32_31 : BitVec 32 := 0#32
  let c1_i32_33 : BitVec 32 := 1#32
  let arg9 : BitVec 32 := Scf.iv c0_i32_31 c1_i32_33 k0_t1
  let c512_i32_60 : BitVec 32 := 512#32
  let v116 : BitVec 32 := Scalar.muli arg9 c512_i32_60
  let v117 : BitVec 32 := v116
  let v275 : Index := Scalar.indexCast v117
  let c896_117 : Index := 896#32
  ![v275.toNat, 896]
@[reducible] def k0_t2_loop (i : grid0.Coords) : Scf.Loop 32 :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let v70 : BitVec 32 := Scalar.addi c0_i32_31 v69
  let c1_i32_34 : BitVec 32 := 1#32
  ⟨v73, v70, c1_i32_34⟩
def k0_cond2 (i : grid0.Coords) (k0_t2 : Fin (k0_t2_loop i).trips) : BitVec 1 :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_56 : BitVec 32 := 512#32
  let v110 : BitVec 32 := Scalar.muli arg9 c512_i32_56
  let c512_i32_57 : BitVec 32 := 512#32
  let v111 : BitVec 32 := Scalar.addi v110 c512_i32_57
  let c1_i32_58 : BitVec 32 := 1#32
  let v112 : BitVec 32 := Scalar.subi v111 c1_i32_58
  let v113 : BitVec 1 := Scalar.cmpi .sle v112 v0
  let v114 : BitVec 32 := Scalar.extui v113
  let c0_i32_59 : BitVec 32 := 0#32
  let v115 : BitVec 1 := Scalar.cmpi .ne v114 c0_i32_59
  v115

def k0_mult3 (i : grid0.Coords) (k0_t2 : Fin (k0_t2_loop i).trips) : BitVec 32 :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  v116
def k0_off17 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v119 : Index := Scalar.indexCast v117
  let c0_61 : Index := 0#32
  ![v119.toNat, 0]
def k0_off18 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v122 : Index := Scalar.indexCast v117
  let c128_62 : Index := 128#32
  ![v122.toNat, 128]
def k0_off19 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v167 : Index := Scalar.indexCast v117
  let c256_78 : Index := 256#32
  ![v167.toNat, 256]
def k0_off20 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v170 : Index := Scalar.indexCast v117
  let c384_79 : Index := 384#32
  ![v170.toNat, 384]
def k0_off21 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v215 : Index := Scalar.indexCast v117
  let c512_95 : Index := 512#32
  ![v215.toNat, 512]
def k0_off22 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v218 : Index := Scalar.indexCast v117
  let c640_96 : Index := 640#32
  ![v218.toNat, 640]
def k0_off23 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v263 : Index := Scalar.indexCast v117
  let c768_112 : Index := 768#32
  ![v263.toNat, 768]
def k0_off24 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v266 : Index := Scalar.indexCast v117
  let c896_113 : Index := 896#32
  ![v266.toNat, 896]
def k0_mult4 (i : grid0.Coords) (k0_t2 : Fin (k0_t2_loop i).trips) : BitVec 32 :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  v116
def k0_off25 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v122 : Index := Scalar.indexCast v117
  let c0_62 : Index := 0#32
  ![v122.toNat, 0]
def k0_off26 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v125 : Index := Scalar.indexCast v117
  let c128_63 : Index := 128#32
  ![v125.toNat, 128]
def k0_off27 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v172 : Index := Scalar.indexCast v117
  let c256_80 : Index := 256#32
  ![v172.toNat, 256]
def k0_off28 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v175 : Index := Scalar.indexCast v117
  let c384_81 : Index := 384#32
  ![v175.toNat, 384]
def k0_off29 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v222 : Index := Scalar.indexCast v117
  let c512_98 : Index := 512#32
  ![v222.toNat, 512]
def k0_off30 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v225 : Index := Scalar.indexCast v117
  let c640_99 : Index := 640#32
  ![v225.toNat, 640]
def k0_off31 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v272 : Index := Scalar.indexCast v117
  let c768_116 : Index := 768#32
  ![v272.toNat, 768]
def k0_off32 (i : grid0.Coords) (k0_t2 : Fin (k0_t2_loop i).trips) : Fin 2 → Nat :=
  let c0_i32_31 : BitVec 32 := 0#32
  let arg2 : BitVec 32 := BitVec.ofNat 32 (i 2).val
  let c512_i32 : BitVec 32 := 512#32
  let v0 : BitVec 32 := Scalar.muli arg2 c512_i32
  let c512_i32_20 : BitVec 32 := 512#32
  let v49 : BitVec 32 := Scalar.addi v0 c512_i32_20
  let c1_i32_21 : BitVec 32 := 1#32
  let v50 : BitVec 32 := Scalar.subi v49 c1_i32_21
  let c0_i32_23 : BitVec 32 := 0#32
  let v52 : BitVec 1 := Scalar.cmpi .sgt v50 c0_i32_23
  let v53 : BitVec 32 := Scalar.extui v52
  let c0_i32_24 : BitVec 32 := 0#32
  let v54 : BitVec 1 := Scalar.cmpi .slt v50 c0_i32_24
  let v55 : BitVec 32 := Scalar.extui v54
  let v56 : BitVec 32 := Scalar.subi v53 v55
  let c512_i32_22 : BitVec 32 := 512#32
  let c0_i32_25 : BitVec 32 := 0#32
  let v57 : BitVec 1 := Scalar.cmpi .sgt c512_i32_22 c0_i32_25
  let v58 : BitVec 32 := Scalar.extui v57
  let c0_i32_26 : BitVec 32 := 0#32
  let v59 : BitVec 1 := Scalar.cmpi .slt c512_i32_22 c0_i32_26
  let v60 : BitVec 32 := Scalar.extui v59
  let v61 : BitVec 32 := Scalar.subi v58 v60
  let v62 : BitVec 1 := Scalar.cmpi .ne v56 v61
  let v63 : BitVec 32 := Scalar.remsi v50 c512_i32_22
  let c0_i32_27 : BitVec 32 := 0#32
  let v64 : BitVec 1 := Scalar.cmpi .ne v63 c0_i32_27
  let v65 : BitVec 1 := Scalar.andi v62 v64
  let v51 : BitVec 32 := Scalar.divsi v50 c512_i32_22
  let c1_i32_28 : BitVec 32 := 1#32
  let v66 : BitVec 32 := Scalar.subi v51 c1_i32_28
  let v67 : BitVec 32 := Scalar.select v65 v66 v51
  let c1_i32_29 : BitVec 32 := 1#32
  let v68 : BitVec 32 := Scalar.addi v67 c1_i32_29
  let v69 : BitVec 32 := Scalar.subi v68 c0_i32_31
  let c1_i32_32 : BitVec 32 := 1#32
  let v71 : BitVec 32 := Scalar.divsi v69 c1_i32_32
  let v72 : BitVec 32 := Scalar.muli v71 c1_i32_32
  let v73 : BitVec 32 := Scalar.addi c0_i32_31 v72
  let c1_i32_34 : BitVec 32 := 1#32
  let arg9 : BitVec 32 := Scf.iv v73 c1_i32_34 k0_t2
  let c512_i32_60 : BitVec 32 := 512#32
  let v116 : BitVec 32 := Scalar.muli arg9 c512_i32_60
  let v117 : BitVec 32 := v116
  let v275 : Index := Scalar.indexCast v117
  let c896_117 : Index := 896#32
  ![v275.toNat, 896]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "floor" => some ⊥
  | "mask" => some ⊥
  | _ => none
-- ==== ReferenceIdeal.lean ====
abbrev S4x2048x16x192 : Shape := ⟨4, ![4, 2048, 16, 192]⟩
abbrev S4x2048x16x256 : Shape := ⟨4, ![4, 2048, 16, 256]⟩
abbrev S4x2048x16x128 : Shape := ⟨4, ![4, 2048, 16, 128]⟩
abbrev S2048 : Shape := ⟨1, ![2048]⟩
abbrev S4x16x2048x2048 : Shape := ⟨4, ![4, 16, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S8192x2048 : Shape := ⟨2, ![8192, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x16x192, .f32⟩
  | .hbm, ⟨1, _⟩ => ⟨S4x2048x16x192, .f32⟩
  | .hbm, ⟨2, _⟩ => ⟨S4x2048x16x256, .f32⟩
  | .hbm, ⟨3, _⟩ => ⟨S4x2048x16x128, .f32⟩
  | .hbm, ⟨4, _⟩ => ⟨S2048, .i32⟩
  | .hbm, ⟨5, _⟩ => ⟨S4x16x2048x2048, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S4x16x2048x2048, .i1⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S4x16x2048x1, .f32⟩
  | .hbm, ⟨22, _⟩ => ⟨S4x16x2048x1, .f32⟩
  | .hbm, ⟨23, _⟩ => ⟨S_, .f32⟩
  | .hbm, ⟨24, _⟩ => ⟨S4x16x2048x1, .f32⟩
  | .hbm, ⟨25, _⟩ => ⟨S4x16x2048x1, .i1⟩
  | .hbm, ⟨26, _⟩ => ⟨S_, .f32⟩
  | .hbm, ⟨27, _⟩ => ⟨S_, .f32⟩
  | .hbm, ⟨28, _⟩ => ⟨S4x16x2048x1, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S4x16x2048x1, .f32⟩
  | .hbm, ⟨36, _⟩ => ⟨S_, .f32⟩
  | .hbm, ⟨37, _⟩ => ⟨S4x16x2048x1, .f32⟩
  | .hbm, ⟨38, _⟩ => ⟨S4x16x2048x1, .f32⟩
  | .hbm, ⟨39, _⟩ => ⟨S4x16x2048x2048, .f32⟩
  | .hbm, ⟨40, _⟩ => ⟨S4x16x2048x2048, .f32⟩
  | .hbm, ⟨41, _⟩ => ⟨S4x16x128x2048, .f32⟩
  | .hbm, ⟨42, _⟩ => ⟨S4x2048x16x128, .f32⟩
  | .hbm, ⟨43, _⟩ => ⟨S8192x2048, .f32⟩
  | .hbm, ⟨44, _⟩ => ⟨S8192x2048, .bf16⟩
  | _, _ => ⟨S4x2048x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel2.lean ====
abbrev S4x2048x4096 : Shape := ⟨3, ![4, 2048, 4096]⟩
abbrev S4096x4096 : Shape := ⟨2, ![4096, 4096]⟩
abbrev S4096 : Shape := ⟨1, ![4096]⟩
abbrev S4x1x4096 : Shape := ⟨3, ![4, 1, 4096]⟩
abbrev S8192x4096 : Shape := ⟨2, ![8192, 4096]⟩
abbrev S1x4096 : Shape := ⟨2, ![1, 4096]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩
abbrev S1x1x512 : Shape := ⟨3, ![1, 1, 512]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x2048x4096, .f32⟩
  | .hbm, ⟨4, _⟩ => ⟨S4x1x4096, .f32⟩
  | .hbm, ⟨5, _⟩ => ⟨S8192x4096, .f32⟩
  | .hbm, ⟨6, _⟩ => ⟨S8192x4096, .bf16⟩
  | .hbm, ⟨7, _⟩ => ⟨S8192x4096, .f32⟩
  | .hbm, ⟨8, _⟩ => ⟨S4096x4096, .bf16⟩
  | .hbm, ⟨9, _⟩ => ⟨S1x4096, .f32⟩
  | .hbm, ⟨10, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4x2048x4096 : Shape := ⟨3, ![4, 2048, 4096]⟩
abbrev S4096x4096 : Shape := ⟨2, ![4096, 4096]⟩
abbrev S4096 : Shape := ⟨1, ![4096]⟩
abbrev S4x1x4096 : Shape := ⟨3, ![4, 1, 4096]⟩
abbrev S1x1x4096 : Shape := ⟨3, ![1, 1, 4096]⟩
abbrev S8192x4096 : Shape := ⟨2, ![8192, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x2048x4096, .f32⟩
  | .hbm, ⟨4, _⟩ => ⟨S4x1x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel3.lean ====
abbrev S4x2048x2048 : Shape := ⟨3, ![4, 2048, 2048]⟩
abbrev S4096x4096 : Shape := ⟨2, ![4096, 4096]⟩
abbrev S4x2048x4096 : Shape := ⟨3, ![4, 2048, 4096]⟩
abbrev S4x1x4096 : Shape := ⟨3, ![4, 1, 4096]⟩
abbrev S8192x2048 : Shape := ⟨2, ![8192, 2048]⟩
abbrev S8192x4096 : Shape := ⟨2, ![8192, 4096]⟩
abbrev S1024x2048 : Shape := ⟨2, ![1024, 2048]⟩
abbrev S4096x512 : Shape := ⟨2, ![4096, 512]⟩
abbrev S1024x512 : Shape := ⟨2, ![1024, 512]⟩
abbrev S1x1x512 : Shape := ⟨3, ![1, 1, 512]⟩
abbrev S2048x512 : Shape := ⟨2, ![2048, 512]⟩
abbrev S1x512 : Shape := ⟨2, ![1, 512]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4096x4096, .f32⟩
  | .hbm, ⟨3, _⟩ => ⟨S4x2048x4096, .f32⟩
  | .hbm, ⟨4, _⟩ => ⟨S4x1x4096, .f32⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .bf16⟩
  | .hbm, ⟨9, _⟩ => ⟨S8192x4096, .f32⟩
  | .hbm, ⟨10, _⟩ => ⟨S4096x4096, .bf16⟩
  | .hbm, ⟨11, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S4x2048x2048 : Shape := ⟨3, ![4, 2048, 2048]⟩
abbrev S4096x4096 : Shape := ⟨2, ![4096, 4096]⟩
abbrev S4x2048x4096 : Shape := ⟨3, ![4, 2048, 4096]⟩
abbrev S4x1x4096 : Shape := ⟨3, ![4, 1, 4096]⟩
abbrev S8192x4096 : Shape := ⟨2, ![8192, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4096x4096, .f32⟩
  | .hbm, ⟨3, _⟩ => ⟨S4x2048x4096, .f32⟩
  | .hbm, ⟨4, _⟩ => ⟨S4x1x4096, .f32⟩
  | .hbm, ⟨5, _⟩ => ⟨S4x2048x4096, .f32⟩
  | .hbm, ⟨6, _⟩ => ⟨S4x2048x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S8192x4096, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S4x2048x4096 : Shape := ⟨3, ![4, 2048, 4096]⟩
abbrev S4096x5120 : Shape := ⟨2, ![4096, 5120]⟩
abbrev S5120 : Shape := ⟨1, ![5120]⟩
abbrev S64 : Shape := ⟨1, ![64]⟩
abbrev S8192x4096 : Shape := ⟨2, ![8192, 4096]⟩
abbrev S_ : Shape := ⟨0, ![]⟩
abbrev S1x64 : Shape := ⟨2, ![1, 64]⟩
abbrev S64x64 : Shape := ⟨2, ![64, 64]⟩
abbrev S4096 : Shape := ⟨1, ![4096]⟩
abbrev S8x64 : Shape := ⟨2, ![8, 64]⟩
abbrev S512 : Shape := ⟨1, ![512]⟩
abbrev S4608 : Shape := ⟨1, ![4608]⟩
abbrev S1x5120 : Shape := ⟨2, ![1, 5120]⟩
abbrev S8192x5120 : Shape := ⟨2, ![8192, 5120]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 29
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x5120, .f32⟩
  | .hbm, ⟨2, _⟩ => ⟨S5120, .f32⟩
  | .hbm, ⟨3, _⟩ => ⟨S64, .f32⟩
  | .hbm, ⟨4, _⟩ => ⟨S64, .f32⟩
  | .hbm, ⟨5, _⟩ => ⟨S8192x4096, .f32⟩
  | .hbm, ⟨6, _⟩ => ⟨S8192x4096, .bf16⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S64x64, .f32⟩
  | .hbm, ⟨12, _⟩ => ⟨S4096, .f32⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S5120, .f32⟩
  | .hbm, ⟨19, _⟩ => ⟨S_, .f32⟩
  | .hbm, ⟨20, _⟩ => ⟨S4608, .f32⟩
  | .hbm, ⟨21, _⟩ => ⟨S_, .f32⟩
  | .hbm, ⟨22, _⟩ => ⟨S512, .f32⟩
  | .hbm, ⟨23, _⟩ => ⟨S5120, .f32⟩
  | .hbm, ⟨24, _⟩ => ⟨S4096x5120, .bf16⟩
  | .hbm, ⟨25, _⟩ => ⟨S1x5120, .f32⟩
  | .hbm, ⟨26, _⟩ => ⟨S1x5120, .f32⟩
  | .hbm, ⟨27, _⟩ => ⟨S1x5120, .f32⟩
  | .hbm, ⟨28, _⟩ => ⟨S8192x5120, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S4x2048x4096 : Shape := ⟨3, ![4, 2048, 4096]⟩
abbrev S4096x5120 : Shape := ⟨2, ![4096, 5120]⟩
abbrev S5120 : Shape := ⟨1, ![5120]⟩
abbrev S64 : Shape := ⟨1, ![64]⟩
abbrev S4x2048x5120 : Shape := ⟨3, ![4, 2048, 5120]⟩
abbrev S1x1x5120 : Shape := ⟨3, ![1, 1, 5120]⟩
abbrev S4x2048x512 : Shape := ⟨3, ![4, 2048, 512]⟩
abbrev S4x2048x64x64 : Shape := ⟨4, ![4, 2048, 64, 64]⟩
abbrev S_ : Shape := ⟨0, ![]⟩
abbrev S4x2048x64 : Shape := ⟨3, ![4, 2048, 64]⟩
abbrev S4x2048x64x1 : Shape := ⟨4, ![4, 2048, 64, 1]⟩
abbrev S1x1x1x64 : Shape := ⟨4, ![1, 1, 1, 64]⟩
abbrev S4x2048x8x64 : Shape := ⟨4, ![4, 2048, 8, 64]⟩
abbrev S4x2048x8 : Shape := ⟨3, ![4, 2048, 8]⟩
abbrev S4x2048x8x1 : Shape := ⟨4, ![4, 2048, 8, 1]⟩
abbrev S8192x5120 : Shape := ⟨2, ![8192, 5120]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x5120, .f32⟩
  | .hbm, ⟨2, _⟩ => ⟨S5120, .f32⟩
  | .hbm, ⟨3, _⟩ => ⟨S64, .f32⟩
  | .hbm, ⟨4, _⟩ => ⟨S64, .f32⟩
  | .hbm, ⟨5, _⟩ => ⟨S4x2048x5120, .f32⟩
  | .hbm, ⟨6, _⟩ => ⟨S1x1x5120, .f32⟩
  | .hbm, ⟨7, _⟩ => ⟨S4x2048x5120, .f32⟩
  | .hbm, ⟨8, _⟩ => ⟨S4x2048x5120, .f32⟩
  | .hbm, ⟨9, _⟩ => ⟨S4x2048x4096, .f32⟩
  | .hbm, ⟨10, _⟩ => ⟨S4x2048x512, .f32⟩
  | .hbm, ⟨11, _⟩ => ⟨S4x2048x512, .f32⟩
  | .hbm, ⟨12, _⟩ => ⟨S4x2048x64x64, .f32⟩
  | .hbm, ⟨13, _⟩ => ⟨S4x2048x64x64, .f32⟩
  | .hbm, ⟨14, _⟩ => ⟨S_, .f32⟩
  | .hbm, ⟨15, _⟩ => ⟨S4x2048x64, .f32⟩
  | .hbm, ⟨16, _⟩ => ⟨S4x2048x64x1, .f32⟩
  | .hbm, ⟨17, _⟩ => ⟨S_, .f32⟩
  | .hbm, ⟨18, _⟩ => ⟨S4x2048x64x1, .f32⟩
  | .hbm, ⟨19, _⟩ => ⟨S4x2048x64x1, .f32⟩
  | .hbm, ⟨20, _⟩ => ⟨S_, .f32⟩
  | .hbm, ⟨21, _⟩ => ⟨S4x2048x64x1, .f32⟩
  | .hbm, ⟨22, _⟩ => ⟨S4x2048x64x1, .f32⟩
  | .hbm, ⟨23, _⟩ => ⟨S4x2048x64x1, .f32⟩
  | .hbm, ⟨24, _⟩ => ⟨S4x2048x64x64, .f32⟩
  | .hbm, ⟨25, _⟩ => ⟨S4x2048x64x64, .f32⟩
  | .hbm, ⟨26, _⟩ => ⟨S1x1x1x64, .f32⟩
  | .hbm, ⟨27, _⟩ => ⟨S4x2048x64x64, .f32⟩
  | .hbm, ⟨28, _⟩ => ⟨S4x2048x64x64, .f32⟩
  | .hbm, ⟨29, _⟩ => ⟨S_, .f32⟩
  | .hbm, ⟨30, _⟩ => ⟨S4x2048x64x64, .f32⟩
  | .hbm, ⟨31, _⟩ => ⟨S4x2048x64x64, .f32⟩
  | .hbm, ⟨32, _⟩ => ⟨S4x2048x8x64, .f32⟩
  | .hbm, ⟨33, _⟩ => ⟨S4x2048x8x64, .f32⟩
  | .hbm, ⟨34, _⟩ => ⟨S_, .f32⟩
  | .hbm, ⟨35, _⟩ => ⟨S4x2048x8, .f32⟩
  | .hbm, ⟨36, _⟩ => ⟨S4x2048x8x1, .f32⟩
  | .hbm, ⟨37, _⟩ => ⟨S_, .f32⟩
  | .hbm, ⟨38, _⟩ => ⟨S4x2048x8x1, .f32⟩
  | .hbm, ⟨39, _⟩ => ⟨S4x2048x8x1, .f32⟩
  | .hbm, ⟨40, _⟩ => ⟨S_, .f32⟩
  | .hbm, ⟨41, _⟩ => ⟨S4x2048x8x1, .f32⟩
  | .hbm, ⟨42, _⟩ => ⟨S4x2048x8x1, .f32⟩
  | .hbm, ⟨43, _⟩ => ⟨S4x2048x8x1, .f32⟩
  | .hbm, ⟨44, _⟩ => ⟨S4x2048x8x64, .f32⟩
  | .hbm, ⟨45, _⟩ => ⟨S4x2048x8x64, .f32⟩
  | .hbm, ⟨46, _⟩ => ⟨S1x1x1x64, .f32⟩
  | .hbm, ⟨47, _⟩ => ⟨S4x2048x8x64, .f32⟩
  | .hbm, ⟨48, _⟩ => ⟨S4x2048x8x64, .f32⟩
  | .hbm, ⟨49, _⟩ => ⟨S4x2048x4096, .f32⟩
  | .hbm, ⟨50, _⟩ => ⟨S4x2048x512, .f32⟩
  | .hbm, ⟨51, _⟩ => ⟨S4x2048x5120, .f32⟩
  | .hbm, ⟨52, _⟩ => ⟨S8192x5120, .f32⟩
  | .hbm, ⟨53, _⟩ => ⟨S8192x5120, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel5.lean ====
abbrev S4x2048x4096 : Shape := ⟨3, ![4, 2048, 4096]⟩
abbrev S4096x8560 : Shape := ⟨2, ![4096, 8560]⟩
abbrev S192 : Shape := ⟨1, ![192]⟩
abbrev S3x192 : Shape := ⟨2, ![3, 192]⟩
abbrev S8192x4096 : Shape := ⟨2, ![8192, 4096]⟩
abbrev S4096x3072 : Shape := ⟨2, ![4096, 3072]⟩
abbrev S4096x768 : Shape := ⟨2, ![4096, 768]⟩
abbrev S4096x512 : Shape := ⟨2, ![4096, 512]⟩
abbrev S4096x48 : Shape := ⟨2, ![4096, 48]⟩
abbrev S4096x1024 : Shape := ⟨2, ![4096, 1024]⟩
abbrev S4096x576 : Shape := ⟨2, ![4096, 576]⟩
abbrev S4096x64 : Shape := ⟨2, ![4096, 64]⟩
abbrev S4096x32 : Shape := ⟨2, ![4096, 32]⟩
abbrev S4096x16x192 : Shape := ⟨3, ![4096, 16, 192]⟩
abbrev S_ : Shape := ⟨0, ![]⟩
abbrev S4096x16x256 : Shape := ⟨3, ![4096, 16, 256]⟩
abbrev S4096x4096 : Shape := ⟨2, ![4096, 4096]⟩
abbrev S4096x4x192 : Shape := ⟨3, ![4096, 4, 192]⟩
abbrev S4096x4x256 : Shape := ⟨3, ![4096, 4, 256]⟩
abbrev S4096x336 : Shape := ⟨2, ![4096, 336]⟩
abbrev S4096x10752 : Shape := ⟨2, ![4096, 10752]⟩
abbrev S10752 : Shape := ⟨1, ![10752]⟩
abbrev S256 : Shape := ⟨1, ![256]⟩
abbrev S1x256 : Shape := ⟨2, ![1, 256]⟩
abbrev S16x256 : Shape := ⟨2, ![16, 256]⟩
abbrev S4096 : Shape := ⟨1, ![4096]⟩
abbrev S1 : Shape := ⟨1, ![1]⟩
abbrev S1x192 : Shape := ⟨2, ![1, 192]⟩
abbrev S4x256 : Shape := ⟨2, ![4, 256]⟩
abbrev S1024 : Shape := ⟨1, ![1024]⟩
abbrev S1x10752 : Shape := ⟨2, ![1, 10752]⟩
abbrev S8192x10752 : Shape := ⟨2, ![8192, 10752]⟩
abbrev S1024x4096 : Shape := ⟨2, ![1024, 4096]⟩
abbrev S1x768 : Shape := ⟨2, ![1, 768]⟩
abbrev S1024x768 : Shape := ⟨2, ![1024, 768]⟩
abbrev S1024x128 : Shape := ⟨2, ![1024, 128]⟩
abbrev S1024x1 : Shape := ⟨2, ![1024, 1]⟩
abbrev S1024x256 : Shape := ⟨2, ![1024, 256]⟩

abbrev nBuf : Space → Nat
  | .hbm => 97
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x8560, .f32⟩
  | .hbm, ⟨2, _⟩ => ⟨S192, .f32⟩
  | .hbm, ⟨3, _⟩ => ⟨S3x192, .f32⟩
  | .hbm, ⟨4, _⟩ => ⟨S8192x4096, .f32⟩
  | .hbm, ⟨5, _⟩ => ⟨S8192x4096, .bf16⟩
  | .hbm, ⟨6, _⟩ => ⟨S4096x8560, .bf16⟩
  | .hbm, ⟨7, _⟩ => ⟨S4096x3072, .bf16⟩
  | .hbm, ⟨8, _⟩ => ⟨S4096x768, .bf16⟩
  | .hbm, ⟨9, _⟩ => ⟨S4096x512, .bf16⟩
  | .hbm, ⟨10, _⟩ => ⟨S4096x768, .bf16⟩
  | .hbm, ⟨11, _⟩ => ⟨S4096x512, .bf16⟩
  | .hbm, ⟨12, _⟩ => ⟨S4096x768, .bf16⟩
  | .hbm, ⟨13, _⟩ => ⟨S4096x512, .bf16⟩
  | .hbm, ⟨14, _⟩ => ⟨S4096x48, .bf16⟩
  | .hbm, ⟨15, _⟩ => ⟨S4096x1024, .bf16⟩
  | .hbm, ⟨16, _⟩ => ⟨S4096x576, .bf16⟩
  | .hbm, ⟨17, _⟩ => ⟨S4096x64, .bf16⟩
  | .hbm, ⟨18, _⟩ => ⟨S4096x32, .bf16⟩
  | .hbm, ⟨19, _⟩ => ⟨S4096x32, .bf16⟩
  | .hbm, ⟨20, _⟩ => ⟨S4096x64, .bf16⟩
  | .hbm, ⟨21, _⟩ => ⟨S4096x16x192, .bf16⟩
  | .hbm, ⟨22, _⟩ => ⟨S_, .i32⟩
  | .hbm, ⟨23, _⟩ => ⟨S_, .bf16⟩
  | .hbm, ⟨24, _⟩ => ⟨S4096x16x256, .bf16⟩
  | .hbm, ⟨25, _⟩ => ⟨S4096x4096, .bf16⟩
  | .hbm, ⟨26, _⟩ => ⟨S4096x4x192, .bf16⟩
  | .hbm, ⟨27, _⟩ => ⟨S_, .i32⟩
  | .hbm, ⟨28, _⟩ => ⟨S_, .bf16⟩
  | .hbm, ⟨29, _⟩ => ⟨S4096x4x256, .bf16⟩
  | .hbm, ⟨30, _⟩ => ⟨S4096x1024, .bf16⟩
  | .hbm, ⟨31, _⟩ => ⟨S4096x4x192, .bf16⟩
  | .hbm, ⟨32, _⟩ => ⟨S_, .i32⟩
  | .hbm, ⟨33, _⟩ => ⟨S_, .bf16⟩
  | .hbm, ⟨34, _⟩ => ⟨S4096x4x256, .bf16⟩
  | .hbm, ⟨35, _⟩ => ⟨S4096x1024, .bf16⟩
  | .hbm, ⟨36, _⟩ => ⟨S4096x4x192, .bf16⟩
  | .hbm, ⟨37, _⟩ => ⟨S_, .i32⟩
  | .hbm, ⟨38, _⟩ => ⟨S_, .bf16⟩
  | .hbm, ⟨39, _⟩ => ⟨S4096x4x256, .bf16⟩
  | .hbm, ⟨40, _⟩ => ⟨S4096x1024, .bf16⟩
  | .hbm, ⟨41, _⟩ => ⟨S4096x512, .bf16⟩
  | .hbm, ⟨42, _⟩ => ⟨S_, .bf16⟩
  | .hbm, ⟨43, _⟩ => ⟨S4096x336, .bf16⟩
  | .hbm, ⟨44, _⟩ => ⟨S4096x10752, .bf16⟩
  | .hbm, ⟨45, _⟩ => ⟨S_, .f32⟩
  | .hbm, ⟨46, _⟩ => ⟨S10752, .f32⟩
  | .hbm, ⟨47, _⟩ => ⟨S_, .f32⟩
  | .hbm, ⟨48, _⟩ => ⟨S192, .f32⟩
  | .hbm, ⟨49, _⟩ => ⟨S192, .f32⟩
  | .hbm, ⟨50, _⟩ => ⟨S_, .i32⟩
  | .hbm, ⟨51, _⟩ => ⟨S_, .f32⟩
  | .hbm, ⟨52, _⟩ => ⟨S256, .f32⟩
  | .hbm, ⟨53, _⟩ => ⟨S1x256, .f32⟩
  | .hbm, ⟨54, _⟩ => ⟨S16x256, .f32⟩
  | .hbm, ⟨55, _⟩ => ⟨S4096, .f32⟩
  | .hbm, ⟨56, _⟩ => ⟨S_, .i32⟩
  | .hbm, ⟨57, _⟩ => ⟨S1, .i32⟩
  | .hbm, ⟨58, _⟩ => ⟨S10752, .f32⟩
  | .hbm, ⟨59, _⟩ => ⟨S1x192, .f32⟩
  | .hbm, ⟨60, _⟩ => ⟨S192, .f32⟩
  | .hbm, ⟨61, _⟩ => ⟨S_, .i32⟩
  | .hbm, ⟨62, _⟩ => ⟨S_, .f32⟩
  | .hbm, ⟨63, _⟩ => ⟨S256, .f32⟩
  | .hbm, ⟨64, _⟩ => ⟨S1x256, .f32⟩
  | .hbm, ⟨65, _⟩ => ⟨S4x256, .f32⟩
  | .hbm, ⟨66, _⟩ => ⟨S1024, .f32⟩
  | .hbm, ⟨67, _⟩ => ⟨S_, .i32⟩
  | .hbm, ⟨68, _⟩ => ⟨S1, .i32⟩
  | .hbm, ⟨69, _⟩ => ⟨S10752, .f32⟩
  | .hbm, ⟨70, _⟩ => ⟨S1x192, .f32⟩
  | .hbm, ⟨71, _⟩ => ⟨S192, .f32⟩
  | .hbm, ⟨72, _⟩ => ⟨S_, .i32⟩
  | .hbm, ⟨73, _⟩ => ⟨S_, .f32⟩
  | .hbm, ⟨74, _⟩ => ⟨S256, .f32⟩
  | .hbm, ⟨75, _⟩ => ⟨S1x256, .f32⟩
  | .hbm, ⟨76, _⟩ => ⟨S4x256, .f32⟩
  | .hbm, ⟨77, _⟩ => ⟨S1024, .f32⟩
  | .hbm, ⟨78, _⟩ => ⟨S_, .i32⟩
  | .hbm, ⟨79, _⟩ => ⟨S1, .i32⟩
  | .hbm, ⟨80, _⟩ => ⟨S10752, .f32⟩
  | .hbm, ⟨81, _⟩ => ⟨S10752, .i32⟩
  | .hbm, ⟨82, _⟩ => ⟨S_, .i32⟩
  | .hbm, ⟨83, _⟩ => ⟨S10752, .i32⟩
  | .hbm, ⟨84, _⟩ => ⟨S10752, .i1⟩
  | .hbm, ⟨85, _⟩ => ⟨S_, .i32⟩
  | .hbm, ⟨86, _⟩ => ⟨S10752, .i32⟩
  | .hbm, ⟨87, _⟩ => ⟨S10752, .i1⟩
  | .hbm, ⟨88, _⟩ => ⟨S_, .i32⟩
  | .hbm, ⟨89, _⟩ => ⟨S10752, .i32⟩
  | .hbm, ⟨90, _⟩ => ⟨S10752, .i1⟩
  | .hbm, ⟨91, _⟩ => ⟨S10752, .i1⟩
  | .hbm, ⟨92, _⟩ => ⟨S10752, .i1⟩
  | .hbm, ⟨93, _⟩ => ⟨S10752, .f32⟩
  | .hbm, ⟨94, _⟩ => ⟨S1x10752, .f32⟩
  | .hbm, ⟨95, _⟩ => ⟨S1x10752, .f32⟩
  | .hbm, ⟨96, _⟩ => ⟨S8192x10752, .bf16⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S4096x768, .bf16⟩
  | .local _ .vmem, ⟨4, _⟩ => ⟨S1x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1024x768, .bf16⟩
  | .local _ .vmem, ⟨9, _⟩ => ⟨S1024x768, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_call0_v0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_0 : Ref sig .tc := ⟨.hbm, 27, rfl⟩
abbrev main_call1_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_call2_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_call3_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_call4_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_call5_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_call6_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel5Ideal.lean ====
variable {F : FTy → Type} [FloatOps F] [Named F]
def κ : String → Option EReal := fun
  | "inv_192" => some ((1 / 192 : ℝ) : EReal)
  | _ => none
-- ==== Reference5Ideal.lean ====
abbrev S4x2048x4096 : Shape := ⟨3, ![4, 2048, 4096]⟩
abbrev S4096x8560 : Shape := ⟨2, ![4096, 8560]⟩
abbrev S192 : Shape := ⟨1, ![192]⟩
abbrev S3x192 : Shape := ⟨2, ![3, 192]⟩
abbrev S4x2048x8560 : Shape := ⟨3, ![4, 2048, 8560]⟩
abbrev S8192x8560 : Shape := ⟨2, ![8192, 8560]⟩
abbrev S8192x3072 : Shape := ⟨2, ![8192, 3072]⟩
abbrev S8192x768 : Shape := ⟨2, ![8192, 768]⟩
abbrev S8192x512 : Shape := ⟨2, ![8192, 512]⟩
abbrev S8192x48 : Shape := ⟨2, ![8192, 48]⟩
abbrev S8192x1024 : Shape := ⟨2, ![8192, 1024]⟩
abbrev S8192x576 : Shape := ⟨2, ![8192, 576]⟩
abbrev S8192x16x192 : Shape := ⟨3, ![8192, 16, 192]⟩
abbrev S_ : Shape := ⟨0, ![]⟩
abbrev S8192x16 : Shape := ⟨2, ![8192, 16]⟩
abbrev S8192x16x1 : Shape := ⟨3, ![8192, 16, 1]⟩
abbrev S1x1x192 : Shape := ⟨3, ![1, 1, 192]⟩
abbrev S8192x4x192 : Shape := ⟨3, ![8192, 4, 192]⟩
abbrev S1x192 : Shape := ⟨2, ![1, 192]⟩
abbrev S8192x4 : Shape := ⟨2, ![8192, 4]⟩
abbrev S8192x4x1 : Shape := ⟨3, ![8192, 4, 1]⟩
abbrev S8192x16x256 : Shape := ⟨3, ![8192, 16, 256]⟩
abbrev S8192x4096 : Shape := ⟨2, ![8192, 4096]⟩
abbrev S8192x4x256 : Shape := ⟨3, ![8192, 4, 256]⟩
abbrev S8192x64 : Shape := ⟨2, ![8192, 64]⟩
abbrev S8192x32 : Shape := ⟨2, ![8192, 32]⟩
abbrev S8192x336 : Shape := ⟨2, ![8192, 336]⟩
abbrev S8192x10752 : Shape := ⟨2, ![8192, 10752]⟩

abbrev nBuf : Space → Nat
  | .hbm => 99
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8560, .f32⟩
  | .hbm, ⟨2, _⟩ => ⟨S192, .f32⟩
  | .hbm, ⟨3, _⟩ => ⟨S3x192, .f32⟩
  | .hbm, ⟨4, _⟩ => ⟨S4x2048x8560, .f32⟩
  | .hbm, ⟨5, _⟩ => ⟨S8192x8560, .f32⟩
  | .hbm, ⟨6, _⟩ => ⟨S8192x3072, .f32⟩
  | .hbm, ⟨7, _⟩ => ⟨S8192x768, .f32⟩
  | .hbm, ⟨8, _⟩ => ⟨S8192x512, .f32⟩
  | .hbm, ⟨9, _⟩ => ⟨S8192x768, .f32⟩
  | .hbm, ⟨10, _⟩ => ⟨S8192x512, .f32⟩
  | .hbm, ⟨11, _⟩ => ⟨S8192x768, .f32⟩
  | .hbm, ⟨12, _⟩ => ⟨S8192x512, .f32⟩
  | .hbm, ⟨13, _⟩ => ⟨S8192x48, .f32⟩
  | .hbm, ⟨14, _⟩ => ⟨S8192x1024, .f32⟩
  | .hbm, ⟨15, _⟩ => ⟨S8192x576, .f32⟩
  | .hbm, ⟨16, _⟩ => ⟨S8192x16x192, .f32⟩
  | .hbm, ⟨17, _⟩ => ⟨S8192x16x192, .f32⟩
  | .hbm, ⟨18, _⟩ => ⟨S_, .f32⟩
  | .hbm, ⟨19, _⟩ => ⟨S8192x16, .f32⟩
  | .hbm, ⟨20, _⟩ => ⟨S8192x16x1, .f32⟩
  | .hbm, ⟨21, _⟩ => ⟨S_, .f32⟩
  | .hbm, ⟨22, _⟩ => ⟨S8192x16x1, .f32⟩
  | .hbm, ⟨23, _⟩ => ⟨S8192x16x1, .f32⟩
  | .hbm, ⟨24, _⟩ => ⟨S_, .f32⟩
  | .hbm, ⟨25, _⟩ => ⟨S8192x16x1, .f32⟩
  | .hbm, ⟨26, _⟩ => ⟨S8192x16x1, .f32⟩
  | .hbm, ⟨27, _⟩ => ⟨S8192x16x1, .f32⟩
  | .hbm, ⟨28, _⟩ => ⟨S8192x16x192, .f32⟩
  | .hbm, ⟨29, _⟩ => ⟨S8192x16x192, .f32⟩
  | .hbm, ⟨30, _⟩ => ⟨S1x1x192, .f32⟩
  | .hbm, ⟨31, _⟩ => ⟨S8192x16x192, .f32⟩
  | .hbm, ⟨32, _⟩ => ⟨S8192x16x192, .f32⟩
  | .hbm, ⟨33, _⟩ => ⟨S_, .f32⟩
  | .hbm, ⟨34, _⟩ => ⟨S8192x16x192, .f32⟩
  | .hbm, ⟨35, _⟩ => ⟨S8192x16x192, .f32⟩
  | .hbm, ⟨36, _⟩ => ⟨S8192x4x192, .f32⟩
  | .hbm, ⟨37, _⟩ => ⟨S1x192, .f32⟩
  | .hbm, ⟨38, _⟩ => ⟨S192, .f32⟩
  | .hbm, ⟨39, _⟩ => ⟨S8192x4x192, .f32⟩
  | .hbm, ⟨40, _⟩ => ⟨S_, .f32⟩
  | .hbm, ⟨41, _⟩ => ⟨S8192x4, .f32⟩
  | .hbm, ⟨42, _⟩ => ⟨S8192x4x1, .f32⟩
  | .hbm, ⟨43, _⟩ => ⟨S_, .f32⟩
  | .hbm, ⟨44, _⟩ => ⟨S8192x4x1, .f32⟩
  | .hbm, ⟨45, _⟩ => ⟨S8192x4x1, .f32⟩
  | .hbm, ⟨46, _⟩ => ⟨S_, .f32⟩
  | .hbm, ⟨47, _⟩ => ⟨S8192x4x1, .f32⟩
  | .hbm, ⟨48, _⟩ => ⟨S8192x4x1, .f32⟩
  | .hbm, ⟨49, _⟩ => ⟨S8192x4x1, .f32⟩
  | .hbm, ⟨50, _⟩ => ⟨S8192x4x192, .f32⟩
  | .hbm, ⟨51, _⟩ => ⟨S8192x4x192, .f32⟩
  | .hbm, ⟨52, _⟩ => ⟨S1x1x192, .f32⟩
  | .hbm, ⟨53, _⟩ => ⟨S8192x4x192, .f32⟩
  | .hbm, ⟨54, _⟩ => ⟨S8192x4x192, .f32⟩
  | .hbm, ⟨55, _⟩ => ⟨S8192x4x192, .f32⟩
  | .hbm, ⟨56, _⟩ => ⟨S1x192, .f32⟩
  | .hbm, ⟨57, _⟩ => ⟨S192, .f32⟩
  | .hbm, ⟨58, _⟩ => ⟨S8192x4x192, .f32⟩
  | .hbm, ⟨59, _⟩ => ⟨S_, .f32⟩
  | .hbm, ⟨60, _⟩ => ⟨S8192x4, .f32⟩
  | .hbm, ⟨61, _⟩ => ⟨S8192x4x1, .f32⟩
  | .hbm, ⟨62, _⟩ => ⟨S_, .f32⟩
  | .hbm, ⟨63, _⟩ => ⟨S8192x4x1, .f32⟩
  | .hbm, ⟨64, _⟩ => ⟨S8192x4x1, .f32⟩
  | .hbm, ⟨65, _⟩ => ⟨S_, .f32⟩
  | .hbm, ⟨66, _⟩ => ⟨S8192x4x1, .f32⟩
  | .hbm, ⟨67, _⟩ => ⟨S8192x4x1, .f32⟩
  | .hbm, ⟨68, _⟩ => ⟨S8192x4x1, .f32⟩
  | .hbm, ⟨69, _⟩ => ⟨S8192x4x192, .f32⟩
  | .hbm, ⟨70, _⟩ => ⟨S8192x4x192, .f32⟩
  | .hbm, ⟨71, _⟩ => ⟨S1x1x192, .f32⟩
  | .hbm, ⟨72, _⟩ => ⟨S8192x4x192, .f32⟩
  | .hbm, ⟨73, _⟩ => ⟨S8192x4x192, .f32⟩
  | .hbm, ⟨74, _⟩ => ⟨S8192x4x192, .f32⟩
  | .hbm, ⟨75, _⟩ => ⟨S_, .i32⟩
  | .hbm, ⟨76, _⟩ => ⟨S_, .f32⟩
  | .hbm, ⟨77, _⟩ => ⟨S8192x16x256, .f32⟩
  | .hbm, ⟨78, _⟩ => ⟨S8192x4096, .f32⟩
  | .hbm, ⟨79, _⟩ => ⟨S_, .i32⟩
  | .hbm, ⟨80, _⟩ => ⟨S_, .f32⟩
  | .hbm, ⟨81, _⟩ => ⟨S8192x4x256, .f32⟩
  | .hbm, ⟨82, _⟩ => ⟨S8192x1024, .f32⟩
  | .hbm, ⟨83, _⟩ => ⟨S_, .i32⟩
  | .hbm, ⟨84, _⟩ => ⟨S_, .f32⟩
  | .hbm, ⟨85, _⟩ => ⟨S8192x4x256, .f32⟩
  | .hbm, ⟨86, _⟩ => ⟨S8192x1024, .f32⟩
  | .hbm, ⟨87, _⟩ => ⟨S_, .i32⟩
  | .hbm, ⟨88, _⟩ => ⟨S_, .f32⟩
  | .hbm, ⟨89, _⟩ => ⟨S8192x4x256, .f32⟩
  | .hbm, ⟨90, _⟩ => ⟨S8192x1024, .f32⟩
  | .hbm, ⟨91, _⟩ => ⟨S8192x512, .f32⟩
  | .hbm, ⟨92, _⟩ => ⟨S8192x64, .f32⟩
  | .hbm, ⟨93, _⟩ => ⟨S8192x32, .f32⟩
  | .hbm, ⟨94, _⟩ => ⟨S8192x32, .f32⟩
  | .hbm, ⟨95, _⟩ => ⟨S_, .f32⟩
  | .hbm, ⟨96, _⟩ => ⟨S8192x336, .f32⟩
  | .hbm, ⟨97, _⟩ => ⟨S8192x10752, .f32⟩
  | .hbm, ⟨98, _⟩ => ⟨S8192x10752, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_c : Ref sig .tc := ⟨.hbm, 75, rfl⟩
abbrev main_call0_v0 : Ref sig .tc := ⟨.hbm, 76, rfl⟩
abbrev main_v61 : Ref sig .tc := ⟨.hbm, 77, rfl⟩
abbrev main_v62 : Ref sig .tc := ⟨.hbm, 78, rfl⟩
abbrev main_c_9 : Ref sig .tc := ⟨.hbm, 79, rfl⟩
abbrev main_call1_v0 : Ref sig .tc := ⟨.hbm, 80, rfl⟩
abbrev main_v63 : Ref sig .tc := ⟨.hbm, 81, rfl⟩
abbrev main_v64 : Ref sig .tc := ⟨.hbm, 82, rfl⟩
abbrev main_c_10 : Ref sig .tc := ⟨.hbm, 83, rfl⟩
abbrev main_call2_v0 : Ref sig .tc := ⟨.hbm, 84, rfl⟩
abbrev main_v65 : Ref sig .tc := ⟨.hbm, 85, rfl⟩
abbrev main_v66 : Ref sig .tc := ⟨.hbm, 86, rfl⟩
abbrev main_c_11 : Ref sig .tc := ⟨.hbm, 87, rfl⟩
abbrev main_call3_v0 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Kernel6.lean ====
abbrev S4x2048x10752 : Shape := ⟨3, ![4, 2048, 10752]⟩
abbrev S1024x3072 : Shape := ⟨2, ![1024, 3072]⟩
abbrev S1024 : Shape := ⟨1, ![1024]⟩
abbrev S8192x10752 : Shape := ⟨2, ![8192, 10752]⟩
abbrev S1024x16x192 : Shape := ⟨3, ![1024, 16, 192]⟩
abbrev S1024x16x64 : Shape := ⟨3, ![1024, 16, 64]⟩
abbrev S1024x16x32 : Shape := ⟨3, ![1024, 16, 32]⟩
abbrev S1024x16x256 : Shape := ⟨3, ![1024, 16, 256]⟩
abbrev S1024x4096 : Shape := ⟨2, ![1024, 4096]⟩
abbrev S1x1024 : Shape := ⟨2, ![1, 1024]⟩
abbrev S8192x4096 : Shape := ⟨2, ![8192, 4096]⟩
abbrev S1024x1024 : Shape := ⟨2, ![1024, 1024]⟩
abbrev S1024x1 : Shape := ⟨2, ![1024, 1]⟩

abbrev nBuf : Space → Nat
  | .hbm => 14
  | .vmem => 7
  | .smem => 0
  | _ => 0

abbrev bufTy : (tb : Table) → Fin (tcTables nBuf tb) → BufTy
  | .hbm, ⟨0, _⟩ => ⟨S4x2048x10752, .f32⟩
  | .hbm, ⟨1, _⟩ => ⟨S1024x3072, .f32⟩
  | .hbm, ⟨2, _⟩ => ⟨S1024, .f32⟩
  | .hbm, ⟨3, _⟩ => ⟨S8192x10752, .f32⟩
  | .hbm, ⟨4, _⟩ => ⟨S8192x10752, .bf16⟩
  | .hbm, ⟨5, _⟩ => ⟨S1024x16x192, .f32⟩
  | .hbm, ⟨6, _⟩ => ⟨S1024x16x64, .f32⟩
  | .hbm, ⟨7, _⟩ => ⟨S1024x16x32, .f32⟩
  | .hbm, ⟨8, _⟩ => ⟨S1024x16x32, .f32⟩
  | .hbm, ⟨9, _⟩ => ⟨S1024x16x256, .f32⟩
  | .hbm, ⟨10, _⟩ => ⟨S1024x4096, .f32⟩
  | .hbm, ⟨11, _⟩ => ⟨S1024x4096, .bf16⟩
  | .hbm, ⟨12, _⟩ => ⟨S1x1024, .f32⟩
  | .hbm, ⟨13, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S4x2048x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg2
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4x2048x10752 : Shape := ⟨3, ![4, 2048, 10752]⟩
abbrev S1024x3072 : Shape := ⟨2, ![1024, 3072]⟩
abbrev S1024 : Shape := ⟨1, ![1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x3072 : Shape := ⟨3, ![4, 2048, 3072]⟩
abbrev S4x2048x16x192 : Shape := ⟨4, ![4, 2048, 16, 192]⟩
abbrev S4x2048x16x32 : Shape := ⟨4, ![4, 2048, 16, 32]⟩
abbrev S4x2048x16x256 : Shape := ⟨4, ![4, 2048, 16, 256]⟩
abbrev S8192x4096 : Shape := ⟨2, ![8192, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x10752, .f32⟩
  | .hbm, ⟨1, _⟩ => ⟨S1024x3072, .f32⟩
  | .hbm, ⟨2, _⟩ => ⟨S1024, .f32⟩
  | .hbm, ⟨3, _⟩ => ⟨S4x2048x1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x3072, .f32⟩
  | .hbm, ⟨21, _⟩ => ⟨S4x2048x16x192, .f32⟩
  | .hbm, ⟨22, _⟩ => ⟨S4x2048x16x32, .f32⟩
  | .hbm, ⟨23, _⟩ => ⟨S4x2048x16x32, .f32⟩
  | .hbm, ⟨24, _⟩ => ⟨S4x2048x16x256, .f32⟩
  | .hbm, ⟨25, _⟩ => ⟨S8192x4096, .f32⟩
  | .hbm, ⟨26, _⟩ => ⟨S8192x4096, .bf16⟩
  | _, _ => ⟨S4x2048x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel7.lean ====
abbrev S4x2048x10752 : Shape := ⟨3, ![4, 2048, 10752]⟩
abbrev S512x4096 : Shape := ⟨2, ![512, 4096]⟩
abbrev S512 : Shape := ⟨1, ![512]⟩
abbrev S8192x10752 : Shape := ⟨2, ![8192, 10752]⟩
abbrev S1x512 : Shape := ⟨2, ![1, 512]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x10752, .f32⟩
  | .hbm, ⟨1, _⟩ => ⟨S512x4096, .f32⟩
  | .hbm, ⟨2, _⟩ => ⟨S512, .f32⟩
  | .hbm, ⟨3, _⟩ => ⟨S8192x10752, .f32⟩
  | .hbm, ⟨4, _⟩ => ⟨S8192x10752, .bf16⟩
  | .hbm, ⟨5, _⟩ => ⟨S512x4096, .bf16⟩
  | .hbm, ⟨6, _⟩ => ⟨S1x512, .f32⟩
  | .hbm, ⟨7, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1x512, .f32⟩
  | .local _ .vmem, ⟨5, _⟩ => ⟨S1024x1024, .bf16⟩
  | .local _ .vmem, ⟨6, _⟩ => ⟨S1024x1024, .bf16⟩
  | _, _ => ⟨S4x2048x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4x2048x10752 : Shape := ⟨3, ![4, 2048, 10752]⟩
abbrev S512x4096 : Shape := ⟨2, ![512, 4096]⟩
abbrev S512 : Shape := ⟨1, ![512]⟩
abbrev S4x2048x512 : Shape := ⟨3, ![4, 2048, 512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x2048x4096 : Shape := ⟨3, ![4, 2048, 4096]⟩
abbrev S8192x4096 : Shape := ⟨2, ![8192, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x10752, .f32⟩
  | .hbm, ⟨1, _⟩ => ⟨S512x4096, .f32⟩
  | .hbm, ⟨2, _⟩ => ⟨S512, .f32⟩
  | .hbm, ⟨3, _⟩ => ⟨S4x2048x512, .f32⟩
  | .hbm, ⟨4, _⟩ => ⟨S4x2048x512, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x512, .f32⟩
  | .hbm, ⟨16, _⟩ => ⟨S4x2048x512, .f32⟩
  | .hbm, ⟨17, _⟩ => ⟨S1x1x512, .f32⟩
  | .hbm, ⟨18, _⟩ => ⟨S4x2048x512, .f32⟩
  | .hbm, ⟨19, _⟩ => ⟨S4x2048x512, .f32⟩
  | .hbm, ⟨20, _⟩ => ⟨S4x2048x4096, .f32⟩
  | .hbm, ⟨21, _⟩ => ⟨S8192x4096, .f32⟩
  | .hbm, ⟨22, _⟩ => ⟨S8192x4096, .bf16⟩
  | _, _ => ⟨S4x2048x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel8.lean ====
abbrev S4x2048x4096 : Shape := ⟨3, ![4, 2048, 4096]⟩
abbrev S4096 : Shape := ⟨1, ![4096]⟩
abbrev S4x1x4096 : Shape := ⟨3, ![4, 1, 4096]⟩
abbrev S8192x4096 : Shape := ⟨2, ![8192, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S8192x4096, .f32⟩
  | .hbm, ⟨5, _⟩ => ⟨S1x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S4x2048x4096 : Shape := ⟨3, ![4, 2048, 4096]⟩
abbrev S4096 : Shape := ⟨1, ![4096]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S_, .f32⟩
  | .hbm, ⟨21, _⟩ => ⟨S4x1x4096, .f32⟩
  | .hbm, ⟨22, _⟩ => ⟨S4x1x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S8192x4096, .f32⟩
  | .hbm, ⟨28, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel9.lean ====
abbrev S4x2048x10752 : Shape := ⟨3, ![4, 2048, 10752]⟩
abbrev S4x2048x2048 : Shape := ⟨3, ![4, 2048, 2048]⟩
abbrev S8192x10752 : Shape := ⟨2, ![8192, 10752]⟩
abbrev S8192x2048 : Shape := ⟨2, ![8192, 2048]⟩
abbrev S256x128 : Shape := ⟨2, ![256, 128]⟩
abbrev S256x2048 : Shape := ⟨2, ![256, 2048]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x2048x10752, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S8192x10752, .f32⟩
  | .hbm, ⟨5, _⟩ => ⟨S8192x10752, .bf16⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .bf16⟩
  | .hbm, ⟨12, _⟩ => ⟨S8192x2048, .bf16⟩
  | .local _ .vmem, ⟨0, _⟩ => ⟨S256x128, .bf16⟩
  | .local _ .vmem, ⟨1, _⟩ => ⟨S256x128, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4x2048x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c81_i32 : BitVec 32 := 81#32
  let c0_i32 : BitVec 32 := 0#32
  ![arg0.toNat, c81_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4x2048x10752 : Shape := ⟨3, ![4, 2048, 10752]⟩
abbrev S4x2048x2048 : Shape := ⟨3, ![4, 2048, 2048]⟩
abbrev S4x2048x48 : Shape := ⟨3, ![4, 2048, 48]⟩
abbrev S_ : Shape := ⟨0, ![]⟩
abbrev S4x2048x4x4x3 : Shape := ⟨5, ![4, 2048, 4, 4, 3]⟩
abbrev S4x2048x4x4x1 : Shape := ⟨5, ![4, 2048, 4, 4, 1]⟩
abbrev S4x2048x4x4x128 : Shape := ⟨5, ![4, 2048, 4, 4, 128]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x10752, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S4x2048x48, .f32⟩
  | .hbm, ⟨5, _⟩ => ⟨S4x2048x48, .f32⟩
  | .hbm, ⟨6, _⟩ => ⟨S4x2048x48, .f32⟩
  | .hbm, ⟨7, _⟩ => ⟨S_, .f32⟩
  | .hbm, ⟨8, _⟩ => ⟨S4x2048x48, .f32⟩
  | .hbm, ⟨9, _⟩ => ⟨S4x2048x48, .f32⟩
  | .hbm, ⟨10, _⟩ => ⟨S_, .f32⟩
  | .hbm, ⟨11, _⟩ => ⟨S4x2048x48, .f32⟩
  | .hbm, ⟨12, _⟩ => ⟨S4x2048x48, .f32⟩
  | .hbm, ⟨13, _⟩ => ⟨S4x2048x4x4x3, .f32⟩
  | .hbm, ⟨14, _⟩ => ⟨S4x2048x4x4x1, .f32⟩
  | .hbm, ⟨15, _⟩ => ⟨S4x2048x4x4x128, .f32⟩
  | .hbm, ⟨16, _⟩ => ⟨S4x2048x4x4x128, .f32⟩
  | .hbm, ⟨17, _⟩ => ⟨S4x2048x4x4x128, .f32⟩
  | .hbm, ⟨18, _⟩ => ⟨S4x2048x4x4x1, .f32⟩
  | .hbm, ⟨19, _⟩ => ⟨S4x2048x4x4x128, .f32⟩
  | .hbm, ⟨20, _⟩ => ⟨S4x2048x4x4x128, .f32⟩
  | .hbm, ⟨21, _⟩ => ⟨S4x2048x4x4x128, .f32⟩
  | .hbm, ⟨22, _⟩ => ⟨S4x2048x4x4x128, .f32⟩
  | .hbm, ⟨23, _⟩ => ⟨S4x2048x4x4x1, .f32⟩
  | .hbm, ⟨24, _⟩ => ⟨S4x2048x4x4x128, .f32⟩
  | .hbm, ⟨25, _⟩ => ⟨S4x2048x4x4x128, .f32⟩
  | .hbm, ⟨26, _⟩ => ⟨S4x2048x4x4x128, .f32⟩
  | .hbm, ⟨27, _⟩ => ⟨S4x2048x4x4x128, .f32⟩
  | .hbm, ⟨28, _⟩ => ⟨S8192x2048, .f32⟩
  | .hbm, ⟨29, _⟩ => ⟨S8192x2048, .bf16⟩
  | _, _ => ⟨S4x2048x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel10.lean ====
abbrev S4x4096 : Shape := ⟨2, ![4, 4096]⟩
abbrev S4096x24576 : Shape := ⟨2, ![4096, 24576]⟩
abbrev S_ : Shape := ⟨0, ![]⟩
abbrev S8x4096 : Shape := ⟨2, ![8, 4096]⟩
abbrev S8x24576 : Shape := ⟨2, ![8, 24576]⟩
abbrev S8x2048 : Shape := ⟨2, ![8, 2048]⟩
abbrev S2048x1024 : Shape := ⟨2, ![2048, 1024]⟩
abbrev S8x1024 : Shape := ⟨2, ![8, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S4096x24576, .f32⟩
  | .hbm, ⟨2, _⟩ => ⟨S_, .i32⟩
  | .hbm, ⟨3, _⟩ => ⟨S_, .f32⟩
  | .hbm, ⟨4, _⟩ => ⟨S8x4096, .f32⟩
  | .hbm, ⟨5, _⟩ => ⟨S8x24576, .f32⟩
  | .local _ .vmem, ⟨0, _⟩ => ⟨S8x2048, .f32⟩
  | .local _ .vmem, ⟨1, _⟩ => ⟨S8x2048, .f32⟩
  | .local _ .vmem, ⟨2, _⟩ => ⟨S2048x1024, .f32⟩
  | .local _ .vmem, ⟨3, _⟩ => ⟨S2048x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 24, 2], ![false, false, false]⟩

def k0_cond3 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4x4096 : Shape := ⟨2, ![4, 4096]⟩
abbrev S4096x24576 : Shape := ⟨2, ![4096, 24576]⟩
abbrev S_ : Shape := ⟨0, ![]⟩
abbrev S4x24576 : Shape := ⟨2, ![4, 24576]⟩
abbrev S8x24576 : Shape := ⟨2, ![8, 24576]⟩

abbrev nBuf : Space → Nat
  | .hbm => 15
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096x24576, .f32⟩
  | .hbm, ⟨2, _⟩ => ⟨S4x4096, .f32⟩
  | .hbm, ⟨3, _⟩ => ⟨S4x4096, .f32⟩
  | .hbm, ⟨4, _⟩ => ⟨S_, .f32⟩
  | .hbm, ⟨5, _⟩ => ⟨S4x4096, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S4x24576, .f32⟩
  | .hbm, ⟨12, _⟩ => ⟨S_, .i32⟩
  | .hbm, ⟨13, _⟩ => ⟨S_, .f32⟩
  | .hbm, ⟨14, _⟩ => ⟨S8x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call1_v0 : Ref sig .tc := ⟨.hbm, 13, rfl⟩
abbrev main_v2 : Ref sig .tc := ⟨.hbm, 14, rfl⟩

abbrev nD : Nat := 1
abbrev τ : Topo := Topo.v7x

variable {F : FTy → Type} [FloatOps F]
-- ==== Kernel11.lean ====
abbrev S4x2048x16x192 : Shape := ⟨4, ![4, 2048, 16, 192]⟩
abbrev S192 : Shape := ⟨1, ![192]⟩
abbrev S4x2048x16x64 : Shape := ⟨4, ![4, 2048, 16, 64]⟩
abbrev S4x2048x16x32 : Shape := ⟨4, ![4, 2048, 16, 32]⟩
abbrev S4x2048x16x256 : Shape := ⟨4, ![4, 2048, 16, 256]⟩
abbrev S8192x4096 : Shape := ⟨2, ![8192, 4096]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S128 : Shape := ⟨1, ![128]⟩
abbrev S64 : Shape := ⟨1, ![64]⟩
abbrev S1x128 : Shape := ⟨2, ![1, 128]⟩
abbrev S1x64 : Shape := ⟨2, ![1, 64]⟩
abbrev S2048x128 : Shape := ⟨2, ![2048, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 55
  | .vmem => 9
  | .smem => 0
  | _ => 0

abbrev bufTy : (tb : Table) → Fin (tcTables nBuf tb) → BufTy
  | .hbm, ⟨0, _⟩ => ⟨S4x2048x16x192, .f32⟩
  | .hbm, ⟨1, _⟩ => ⟨S192, .f32⟩
  | .hbm, ⟨2, _⟩ => ⟨S4x2048x16x64, .f32⟩
  | .hbm, ⟨3, _⟩ => ⟨S4x2048x16x32, .f32⟩
  | .hbm, ⟨4, _⟩ => ⟨S4x2048x16x32, .f32⟩
  | .hbm, ⟨5, _⟩ => ⟨S4x2048x16x256, .f32⟩
  | .hbm, ⟨6, _⟩ => ⟨S8192x4096, .f32⟩
  | .hbm, ⟨7, _⟩ => ⟨S8192x4096, .bf16⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x64, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x64, .f32⟩
  | .hbm, ⟨29, _⟩ => ⟨S128, .f32⟩
  | .hbm, ⟨30, _⟩ => ⟨S64, .f32⟩
  | .hbm, ⟨31, _⟩ => ⟨S32, .f32⟩
  | .hbm, ⟨32, _⟩ => ⟨S32, .f32⟩
  | .hbm, ⟨33, _⟩ => ⟨S64, .f32⟩
  | .hbm, ⟨34, _⟩ => ⟨S_, .f32⟩
  | .hbm, ⟨35, _⟩ => ⟨S2048x64, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S1x64, .f32⟩
  | .hbm, ⟨41, _⟩ => ⟨S2048x64, .f32⟩
  | .hbm, ⟨42, _⟩ => ⟨S2048x64, .f32⟩
  | .hbm, ⟨43, _⟩ => ⟨S_, .f32⟩
  | .hbm, ⟨44, _⟩ => ⟨S2048x64, .f32⟩
  | .hbm, ⟨45, _⟩ => ⟨S2048x64, .f32⟩
  | .hbm, ⟨46, _⟩ => ⟨S2048x128, .f32⟩
  | .hbm, ⟨47, _⟩ => ⟨S1x64, .f32⟩
  | .hbm, ⟨48, _⟩ => ⟨S2048x64, .f32⟩
  | .hbm, ⟨49, _⟩ => ⟨S2048x64, .f32⟩
  | .hbm, ⟨50, _⟩ => ⟨S_, .f32⟩
  | .hbm, ⟨51, _⟩ => ⟨S2048x64, .f32⟩
  | .hbm, ⟨52, _⟩ => ⟨S2048x64, .f32⟩
  | .hbm, ⟨53, _⟩ => ⟨S2048x128, .f32⟩
  | .hbm, ⟨54, _⟩ => ⟨S8192x4096, .bf16⟩
  | .local _ .vmem, ⟨0, _⟩ => ⟨S256x4096, .bf16⟩
  | .local _ .vmem, ⟨1, _⟩ => ⟨S256x4096, .bf16⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x4096, .bf16⟩
  | .local _ .vmem, ⟨8, _⟩ => ⟨S256x4096, .bf16⟩
  | _, _ => ⟨S4x2048x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_4 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel11Ideal.lean ====
variable {F : FTy → Type} [FloatOps F] [Named F]
def κ : String → Option EReal := fun
  | "inv_192" => some ((1 / 192 : ℝ) : EReal)
  | _ => none
-- ==== Reference11Ideal.lean ====
abbrev S4x2048x16x192 : Shape := ⟨4, ![4, 2048, 16, 192]⟩
abbrev S192 : Shape := ⟨1, ![192]⟩
abbrev S2048 : Shape := ⟨1, ![2048]⟩
abbrev S_ : Shape := ⟨0, ![]⟩
abbrev S4x2048x16 : Shape := ⟨3, ![4, 2048, 16]⟩
abbrev S4x2048x16x1 : Shape := ⟨4, ![4, 2048, 16, 1]⟩
abbrev S1x1x1x192 : Shape := ⟨4, ![1, 1, 1, 192]⟩
abbrev S4x2048x16x128 : Shape := ⟨4, ![4, 2048, 16, 128]⟩
abbrev S4x2048x16x64 : Shape := ⟨4, ![4, 2048, 16, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x16x32 : Shape := ⟨4, ![4, 2048, 16, 32]⟩
abbrev S4x2048x16x256 : Shape := ⟨4, ![4, 2048, 16, 256]⟩
abbrev S8192x4096 : Shape := ⟨2, ![8192, 4096]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x16x192, .f32⟩
  | .hbm, ⟨1, _⟩ => ⟨S192, .f32⟩
  | .hbm, ⟨2, _⟩ => ⟨S2048, .i32⟩
  | .hbm, ⟨3, _⟩ => ⟨S4x2048x16x192, .f32⟩
  | .hbm, ⟨4, _⟩ => ⟨S_, .f32⟩
  | .hbm, ⟨5, _⟩ => ⟨S4x2048x16, .f32⟩
  | .hbm, ⟨6, _⟩ => ⟨S4x2048x16x1, .f32⟩
  | .hbm, ⟨7, _⟩ => ⟨S_, .f32⟩
  | .hbm, ⟨8, _⟩ => ⟨S4x2048x16x1, .f32⟩
  | .hbm, ⟨9, _⟩ => ⟨S4x2048x16x1, .f32⟩
  | .hbm, ⟨10, _⟩ => ⟨S_, .f32⟩
  | .hbm, ⟨11, _⟩ => ⟨S4x2048x16x1, .f32⟩
  | .hbm, ⟨12, _⟩ => ⟨S4x2048x16x1, .f32⟩
  | .hbm, ⟨13, _⟩ => ⟨S4x2048x16x1, .f32⟩
  | .hbm, ⟨14, _⟩ => ⟨S4x2048x16x192, .f32⟩
  | .hbm, ⟨15, _⟩ => ⟨S4x2048x16x192, .f32⟩
  | .hbm, ⟨16, _⟩ => ⟨S1x1x1x192, .f32⟩
  | .hbm, ⟨17, _⟩ => ⟨S4x2048x16x192, .f32⟩
  | .hbm, ⟨18, _⟩ => ⟨S4x2048x16x192, .f32⟩
  | .hbm, ⟨19, _⟩ => ⟨S4x2048x16x128, .f32⟩
  | .hbm, ⟨20, _⟩ => ⟨S4x2048x16x64, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S1x2048x1x32, .f32⟩
  | .hbm, ⟨37, _⟩ => ⟨S2048x32, .f32⟩
  | .hbm, ⟨38, _⟩ => ⟨S1x2048x1x32, .f32⟩
  | .hbm, ⟨39, _⟩ => ⟨S4x2048x16x32, .f32⟩
  | .hbm, ⟨40, _⟩ => ⟨S4x2048x16x32, .f32⟩
  | .hbm, ⟨41, _⟩ => ⟨S4x2048x16x32, .f32⟩
  | .hbm, ⟨42, _⟩ => ⟨S4x2048x16x32, .f32⟩
  | .hbm, ⟨43, _⟩ => ⟨S4x2048x16x32, .f32⟩
  | .hbm, ⟨44, _⟩ => ⟨S4x2048x16x32, .f32⟩
  | .hbm, ⟨45, _⟩ => ⟨S4x2048x16x32, .f32⟩
  | .hbm, ⟨46, _⟩ => ⟨S4x2048x16x32, .f32⟩
  | .hbm, ⟨47, _⟩ => ⟨S4x2048x16x32, .f32⟩
  | .hbm, ⟨48, _⟩ => ⟨S4x2048x16x32, .f32⟩
  | .hbm, ⟨49, _⟩ => ⟨S4x2048x16x32, .f32⟩
  | .hbm, ⟨50, _⟩ => ⟨S4x2048x16x32, .f32⟩
  | .hbm, ⟨51, _⟩ => ⟨S4x2048x16x64, .f32⟩
  | .hbm, ⟨52, _⟩ => ⟨S4x2048x16x192, .f32⟩
  | .hbm, ⟨53, _⟩ => ⟨S_, .f32⟩
  | .hbm, ⟨54, _⟩ => ⟨S4x2048x16x192, .f32⟩
  | .hbm, ⟨55, _⟩ => ⟨S4x2048x16x192, .f32⟩
  | .hbm, ⟨56, _⟩ => ⟨S_, .i32⟩
  | .hbm, ⟨57, _⟩ => ⟨S_, .f32⟩
  | .hbm, ⟨58, _⟩ => ⟨S4x2048x16x256, .f32⟩
  | .hbm, ⟨59, _⟩ => ⟨S8192x4096, .f32⟩
  | .hbm, ⟨60, _⟩ => ⟨S8192x4096, .bf16⟩
  | _, _ => ⟨S4x2048x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_4 : Ref sig .tc := ⟨.hbm, 53, rfl⟩
abbrev main_v46 : Ref sig .tc := ⟨.hbm, 54, rfl⟩
abbrev main_v47 : Ref sig .tc := ⟨.hbm, 55, rfl⟩
abbrev main_c : Ref sig .tc := ⟨.hbm, 56, rfl⟩
abbrev main_call0_v0 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩

abbrev nD : Nat := 1
abbrev τ : Topo := Topo.v7x

variable {F : FTy → Type} [FloatOps F]
-- ==== Kernel12.lean ====
abbrev S4x2048x16x256 : Shape := ⟨4, ![4, 2048, 16, 256]⟩
abbrev S4x2048x64 : Shape := ⟨3, ![4, 2048, 64]⟩
abbrev S192 : Shape := ⟨1, ![192]⟩
abbrev S4x2048x32 : Shape := ⟨3, ![4, 2048, 32]⟩
abbrev S4x2048x128 : Shape := ⟨3, ![4, 2048, 128]⟩
abbrev S8192x128 : Shape := ⟨2, ![8192, 128]⟩
abbrev S_ : Shape := ⟨0, ![]⟩
abbrev S8192x10752 : Shape := ⟨2, ![8192, 10752]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S128 : Shape := ⟨1, ![128]⟩
abbrev S64 : Shape := ⟨1, ![64]⟩
abbrev S1x128 : Shape := ⟨2, ![1, 128]⟩
abbrev S1x64 : Shape := ⟨2, ![1, 64]⟩
abbrev S2048x128 : Shape := ⟨2, ![2048, 128]⟩
abbrev S8192x4096 : Shape := ⟨2, ![8192, 4096]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 60
  | .vmem => 11
  | .smem => 0
  | _ => 0

abbrev bufTy : (tb : Table) → Fin (tcTables nBuf tb) → BufTy
  | .hbm, ⟨0, _⟩ => ⟨S4x2048x16x256, .f32⟩
  | .hbm, ⟨1, _⟩ => ⟨S4x2048x64, .f32⟩
  | .hbm, ⟨2, _⟩ => ⟨S192, .f32⟩
  | .hbm, ⟨3, _⟩ => ⟨S4x2048x32, .f32⟩
  | .hbm, ⟨4, _⟩ => ⟨S4x2048x32, .f32⟩
  | .hbm, ⟨5, _⟩ => ⟨S4x2048x128, .f32⟩
  | .hbm, ⟨6, _⟩ => ⟨S8192x128, .f32⟩
  | .hbm, ⟨7, _⟩ => ⟨S_, .i32⟩
  | .hbm, ⟨8, _⟩ => ⟨S_, .f32⟩
  | .hbm, ⟨9, _⟩ => ⟨S8192x10752, .f32⟩
  | .hbm, ⟨10, _⟩ => ⟨S8192x10752, .bf16⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x64, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x64, .f32⟩
  | .hbm, ⟨32, _⟩ => ⟨S128, .f32⟩
  | .hbm, ⟨33, _⟩ => ⟨S64, .f32⟩
  | .hbm, ⟨34, _⟩ => ⟨S32, .f32⟩
  | .hbm, ⟨35, _⟩ => ⟨S32, .f32⟩
  | .hbm, ⟨36, _⟩ => ⟨S64, .f32⟩
  | .hbm, ⟨37, _⟩ => ⟨S_, .f32⟩
  | .hbm, ⟨38, _⟩ => ⟨S2048x64, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S1x64, .f32⟩
  | .hbm, ⟨44, _⟩ => ⟨S2048x64, .f32⟩
  | .hbm, ⟨45, _⟩ => ⟨S2048x64, .f32⟩
  | .hbm, ⟨46, _⟩ => ⟨S_, .f32⟩
  | .hbm, ⟨47, _⟩ => ⟨S2048x64, .f32⟩
  | .hbm, ⟨48, _⟩ => ⟨S2048x64, .f32⟩
  | .hbm, ⟨49, _⟩ => ⟨S2048x128, .f32⟩
  | .hbm, ⟨50, _⟩ => ⟨S1x64, .f32⟩
  | .hbm, ⟨51, _⟩ => ⟨S2048x64, .f32⟩
  | .hbm, ⟨52, _⟩ => ⟨S2048x64, .f32⟩
  | .hbm, ⟨53, _⟩ => ⟨S_, .f32⟩
  | .hbm, ⟨54, _⟩ => ⟨S2048x64, .f32⟩
  | .hbm, ⟨55, _⟩ => ⟨S2048x64, .f32⟩
  | .hbm, ⟨56, _⟩ => ⟨S2048x128, .f32⟩
  | .hbm, ⟨57, _⟩ => ⟨S8192x4096, .f32⟩
  | .hbm, ⟨58, _⟩ => ⟨S8192x4096, .bf16⟩
  | .hbm, ⟨59, _⟩ => ⟨S8192x4096, .bf16⟩
  | .local _ .vmem, ⟨0, _⟩ => ⟨S256x4096, .bf16⟩
  | .local _ .vmem, ⟨1, _⟩ => ⟨S256x4096, .bf16⟩
  | .local _ .vmem, ⟨2, _⟩ => ⟨S256x128, .bf16⟩
  | .local _ .vmem, ⟨3, _⟩ => ⟨S256x128, .bf16⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x4096, .bf16⟩
  | .local _ .vmem, ⟨10, _⟩ => ⟨S256x4096, .bf16⟩
  | _, _ => ⟨S4x2048x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c68_i32 : BitVec 32 := 68#32
  let c0_i32 : BitVec 32 := 0#32
  ![arg0.toNat, c68_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel12Ideal.lean ====
variable {F : FTy → Type} [FloatOps F] [Named F]
def κ : String → Option EReal := fun
  | "inv_192" => some ((1 / 192 : ℝ) : EReal)
  | _ => none
-- ==== Reference12Ideal.lean ====
abbrev S4x2048x16x256 : Shape := ⟨4, ![4, 2048, 16, 256]⟩
abbrev S4x2048x64 : Shape := ⟨3, ![4, 2048, 64]⟩
abbrev S192 : Shape := ⟨1, ![192]⟩
abbrev S2048 : Shape := ⟨1, ![2048]⟩
abbrev S4x2048x16x128 : Shape := ⟨4, ![4, 2048, 16, 128]⟩
abbrev S4x2048x1x64 : Shape := ⟨4, ![4, 2048, 1, 64]⟩
abbrev S4x2048x16x64 : Shape := ⟨4, ![4, 2048, 16, 64]⟩
abbrev S4x2048x16x192 : Shape := ⟨4, ![4, 2048, 16, 192]⟩
abbrev S_ : Shape := ⟨0, ![]⟩
abbrev S4x2048x16 : Shape := ⟨3, ![4, 2048, 16]⟩
abbrev S4x2048x16x1 : Shape := ⟨4, ![4, 2048, 16, 1]⟩
abbrev S1x1x1x192 : Shape := ⟨4, ![1, 1, 1, 192]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x16x32 : Shape := ⟨4, ![4, 2048, 16, 32]⟩
abbrev S8192x4096 : Shape := ⟨2, ![8192, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x16x256, .f32⟩
  | .hbm, ⟨1, _⟩ => ⟨S4x2048x64, .f32⟩
  | .hbm, ⟨2, _⟩ => ⟨S192, .f32⟩
  | .hbm, ⟨3, _⟩ => ⟨S2048, .i32⟩
  | .hbm, ⟨4, _⟩ => ⟨S4x2048x16x128, .f32⟩
  | .hbm, ⟨5, _⟩ => ⟨S4x2048x1x64, .f32⟩
  | .hbm, ⟨6, _⟩ => ⟨S4x2048x16x64, .f32⟩
  | .hbm, ⟨7, _⟩ => ⟨S4x2048x16x192, .f32⟩
  | .hbm, ⟨8, _⟩ => ⟨S4x2048x16x192, .f32⟩
  | .hbm, ⟨9, _⟩ => ⟨S_, .f32⟩
  | .hbm, ⟨10, _⟩ => ⟨S4x2048x16, .f32⟩
  | .hbm, ⟨11, _⟩ => ⟨S4x2048x16x1, .f32⟩
  | .hbm, ⟨12, _⟩ => ⟨S_, .f32⟩
  | .hbm, ⟨13, _⟩ => ⟨S4x2048x16x1, .f32⟩
  | .hbm, ⟨14, _⟩ => ⟨S4x2048x16x1, .f32⟩
  | .hbm, ⟨15, _⟩ => ⟨S_, .f32⟩
  | .hbm, ⟨16, _⟩ => ⟨S4x2048x16x1, .f32⟩
  | .hbm, ⟨17, _⟩ => ⟨S4x2048x16x1, .f32⟩
  | .hbm, ⟨18, _⟩ => ⟨S4x2048x16x1, .f32⟩
  | .hbm, ⟨19, _⟩ => ⟨S4x2048x16x192, .f32⟩
  | .hbm, ⟨20, _⟩ => ⟨S4x2048x16x192, .f32⟩
  | .hbm, ⟨21, _⟩ => ⟨S1x1x1x192, .f32⟩
  | .hbm, ⟨22, _⟩ => ⟨S4x2048x16x192, .f32⟩
  | .hbm, ⟨23, _⟩ => ⟨S4x2048x16x192, .f32⟩
  | .hbm, ⟨24, _⟩ => ⟨S4x2048x16x128, .f32⟩
  | .hbm, ⟨25, _⟩ => ⟨S4x2048x16x64, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S2048, .f32⟩
  | .hbm, ⟨35, _⟩ => ⟨S2048x1, .f32⟩
  | .hbm, ⟨36, _⟩ => ⟨S1x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S1x2048x1x32, .f32⟩
  | .hbm, ⟨42, _⟩ => ⟨S2048x32, .f32⟩
  | .hbm, ⟨43, _⟩ => ⟨S1x2048x1x32, .f32⟩
  | .hbm, ⟨44, _⟩ => ⟨S4x2048x16x32, .f32⟩
  | .hbm, ⟨45, _⟩ => ⟨S4x2048x16x32, .f32⟩
  | .hbm, ⟨46, _⟩ => ⟨S4x2048x16x32, .f32⟩
  | .hbm, ⟨47, _⟩ => ⟨S4x2048x16x32, .f32⟩
  | .hbm, ⟨48, _⟩ => ⟨S4x2048x16x32, .f32⟩
  | .hbm, ⟨49, _⟩ => ⟨S4x2048x16x32, .f32⟩
  | .hbm, ⟨50, _⟩ => ⟨S4x2048x16x32, .f32⟩
  | .hbm, ⟨51, _⟩ => ⟨S4x2048x16x32, .f32⟩
  | .hbm, ⟨52, _⟩ => ⟨S4x2048x16x32, .f32⟩
  | .hbm, ⟨53, _⟩ => ⟨S4x2048x16x32, .f32⟩
  | .hbm, ⟨54, _⟩ => ⟨S4x2048x16x32, .f32⟩
  | .hbm, ⟨55, _⟩ => ⟨S4x2048x16x32, .f32⟩
  | .hbm, ⟨56, _⟩ => ⟨S4x2048x16x64, .f32⟩
  | .hbm, ⟨57, _⟩ => ⟨S4x2048x16x192, .f32⟩
  | .hbm, ⟨58, _⟩ => ⟨S_, .i32⟩
  | .hbm, ⟨59, _⟩ => ⟨S_, .f32⟩
  | .hbm, ⟨60, _⟩ => ⟨S4x2048x16x256, .f32⟩
  | .hbm, ⟨61, _⟩ => ⟨S8192x4096, .f32⟩
  | .hbm, ⟨62, _⟩ => ⟨S8192x4096, .bf16⟩
  | _, _ => ⟨S4x2048x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_c : Ref sig .tc := ⟨.hbm, 58, rfl⟩
abbrev main_call0_v0 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Proof.OutOdd.lean ====
module

public import proofs.«01_k».proof.Defs
public import proofs.«01_k».proof.Proof.Gen.Kernel2Ideal.Value
public import proofs.«01_k».proof.Proof.Gen.Reference2Ideal.Run
public import proofs.«01_k».proof.Proof.Gen.Kernel2Ideal
public import proofs.«01_k».proof.Proof.Gen.Reference2Ideal
public import Idealize.ShloMosaic.Lib.Pipeline.ValueKit
public import Idealize.ShloMosaic.Lib.Pointwise
public import Idealize.ShloMosaic.Lib.Claim

@[expose] public section

set_option maxRecDepth 16384

noncomputable section
open Idealize.ShloMosaic Idealize.ShloMosaic.TcCoe Idealize.SL.Sem
open Idealize.ShloMosaic.Pipeline (Dat)

/-! The output projection of the odd layer, with its gated residual. -/

namespace Cert.Kernel2Ideal.Proj

open Cert.Kernel2Ideal Cert.Kernel2Ideal.Gen

/-- The reference's result as a term of the arguments: the mixer's output, the weights, the bias, the residual, the gate. -/
def ref (O : FVec Ideal S4x2048x4096 .f32) (W : FVec Ideal S4096x4096 .f32) (b : FVec Ideal S4096 .f32)
    (X : FVec Ideal S4x2048x4096 .f32) (G : FVec Ideal S4x1x4096 .f32) : FVec Ideal S8192x4096 .f32 :=
  shapeCast _ (addf X (mulf (broadcastInDim Cert.Reference2Ideal.S4x2048x4096 ![0, 1, 2] Cert.Reference2Ideal.Gen.bcast_S4x1x4096_S4x2048x4096_0_1_2 G)
    (addf (Host.dotGeneral Cert.Reference2Ideal.dot_S4x2048x4096_S4096x4096_S4x2048x4096_2_0_01_1_n_n none O W)
      (broadcastInDim Cert.Reference2Ideal.S4x2048x4096 ![0, 1, 2] Cert.Reference2Ideal.Gen.bcast_S1x1x4096_S4x2048x4096_0_1_2
        (broadcastInDim Cert.Reference2Ideal.S1x1x4096 ![2] Cert.Reference2Ideal.Gen.bcast_S4096_S1x1x4096_2 b)))))
    Cert.Reference2Ideal.Gen.shapeCasts_S4x2048x4096_S8192x4096

variable (m : (ℓ : Loc nD τ sig) → Buf (Elt Ideal) ℓ)

/-- Where each grid point's blocks lie. -/
theorem idx : ∀ t : Fin cfg0.N,
    win0_0.index t = ![(grid0.coords t 0).val, 0]
    ∧ win0_1.index t = ![0, (grid0.coords t 1).val]
    ∧ win0_2.index t = ![0, (grid0.coords t 1).val]
    ∧ win0_3.index t = ![(grid0.coords t 0).val, (grid0.coords t 1).val]
    ∧ win0_4.index t = ![(grid0.coords t 0).val / 2, 0, (grid0.coords t 1).val]
    ∧ win0_5.index t = ![(grid0.coords t 0).val, (grid0.coords t 1).val]
    ∧ (grid0.coords t 0).val < 8 ∧ (grid0.coords t 1).val < 8 :=
  (by decide +kernel : ∀ t : Fin grid0.N, _)

/-- The reference's result, entry by entry. -/
theorem ref_at (O : FVec Ideal S4x2048x4096 .f32) (W : FVec Ideal S4096x4096 .f32) (b : FVec Ideal S4096 .f32)
    (X : FVec Ideal S4x2048x4096 .f32) (G : FVec Ideal S4x1x4096 .f32) (r : Fin 8192) (j : Fin 4096) :
    ref O W b X G (ix2 r j) = (X (ix3 ⟨r.val / 2048, by omega⟩ ⟨r.val % 2048, by omega⟩ j) + G (ix3 ⟨r.val / 2048, by omega⟩ 0 j)
      * ((∑ k, O (ix3 ⟨r.val / 2048, by omega⟩ ⟨r.val % 2048, by omega⟩ k) * W (ix2 k j)) + b (ix1 j)) : EReal) := by
  pointwise [ref]

/-- What the body stores, entry by entry. -/
theorem pay_at (x0 : Vec Ideal S1024x4096 .bf16) (x1 : Vec Ideal S4096x512 .bf16) (x2 : Vec Ideal S1x512 .f32)
    (x3 : Vec Ideal S1024x512 .f32) (x4 : Vec Ideal S1x1x512 .f32) (r : Fin 1024) (j : Fin 512) :
    k0_pay1 x0 x1 x2 x3 x4 (ix2 r j) = (x3 (ix2 r j) + x4 (ix3 0 0 j) * ((∑ k, x0 (ix2 r k) * x1 (ix2 k j)) + x2 (ix2 0 j)) : EReal) := by
  pointwise [k0_pay1]

/-- The block of the mixer's output at a grid point. -/
theorem iblk0_at (c : Dev nD) (t : Fin cfg0.N) (r : Fin 1024) (k : Fin 4096) :
    (iblk m c 0 t : Vec Ideal S1024x4096 .bf16) (ix2 r k) = (V m c main_v1 : FVec Ideal S8192x4096 .bf16) (ix2 ⟨1024 * (grid0.coords t 0).val + r.val, by have := (idx t).2.2.2.2.2.2; omega⟩ k) := by
  blk_simp [iblk]
  generalize V m c main_v1 = A
  blk_ext [idx t]
  all_goals omega

/-- The block of the weights. -/
theorem iblk1_at (c : Dev nD) (t : Fin cfg0.N) (k : Fin 4096) (j : Fin 512) :
    (iblk m c 1 t : Vec Ideal S4096x512 .bf16) (ix2 k j) = (V m c main_v3 : FVec Ideal S4096x4096 .bf16) (ix2 k ⟨512 * (grid0.coords t 1).val + j.val, by have := (idx t).2.2.2.2.2.2; omega⟩) := by
  blk_simp [iblk]
  generalize V m c main_v3 = A
  blk_ext [idx t]
  all_goals omega

/-- The block of the bias. -/
theorem iblk2_at (c : Dev nD) (t : Fin cfg0.N) (j : Fin 512) :
    (iblk m c 2 t : Vec Ideal S1x512 .f32) (ix2 0 j) = (V m c main_v4 : FVec Ideal S1x4096 .f32) (ix2 0 ⟨512 * (grid0.coords t 1).val + j.val, by have := (idx t).2.2.2.2.2.2; omega⟩) := by
  blk_simp [iblk]
  generalize V m c main_v4 = A
  blk_ext [idx t]
  all_goals omega

/-- The block of the residual. -/
theorem iblk3_at (c : Dev nD) (t : Fin cfg0.N) (r : Fin 1024) (j : Fin 512) :
    (iblk m c 3 t : Vec Ideal S1024x512 .f32) (ix2 r j) = (V m c main_v2 : FVec Ideal S8192x4096 .f32) (ix2 ⟨1024 * (grid0.coords t 0).val + r.val, by have := (idx t).2.2.2.2.2.2; omega⟩ ⟨512 * (grid0.coords t 1).val + j.val, by have := (idx t).2.2.2.2.2.2; omega⟩) := by
  blk_simp [iblk]
  generalize V m c main_v2 = A
  blk_ext [idx t]
  all_goals omega

/-- The block of the gate: two row blocks share a batch entry. -/
theorem iblk4_at (c : Dev nD) (t : Fin cfg0.N) (j : Fin 512) :
    (iblk m c 4 t : Vec Ideal S1x1x512 .f32) (ix3 0 0 j) = (V m c main_arg4 : FVec Ideal S4x1x4096 .f32) (ix3 ⟨(grid0.coords t 0).val / 2, by have := (idx t).2.2.2.2.2.2; omega⟩ 0 ⟨512 * (grid0.coords t 1).val + j.val, by have := (idx t).2.2.2.2.2.2; omega⟩) := by
  blk_simp [iblk]
  generalize V m c main_arg4 = A
  blk_ext [idx t]
  all_goals omega

/-- The mixer's output as the kernel gets it. -/
theorem entry_o (c : Dev nD) (r : Fin 8192) (k : Fin 4096) :
    (V m c main_v1 : FVec Ideal S8192x4096 .bf16) (ix2 r k) = m ((c : Thread nD τ).loc main_arg0) (ix3 ⟨r.val / 2048, by omega⟩ ⟨r.val % 2048, by omega⟩ k) := by
  simp only [V]
  entry_read
  pointwise

/-- The weights as the kernel gets them. -/
theorem entry_w (c : Dev nD) (k j : Fin 4096) :
    (V m c main_v3 : FVec Ideal S4096x4096 .bf16) (ix2 k j) = m ((c : Thread nD τ).loc main_arg1) (ix2 k j) := by
  simp only [V]
  entry_read
  pointwise

/-- The bias as the kernel gets it. -/
theorem entry_b (c : Dev nD) (j : Fin 4096) :
    (V m c main_v4 : FVec Ideal S1x4096 .f32) (ix2 0 j) = m ((c : Thread nD τ).loc main_arg2) (ix1 j) := by
  simp only [V]
  entry_read
  pointwise

/-- The residual as the kernel gets it. -/
theorem entry_x (c : Dev nD) (r : Fin 8192) (j : Fin 4096) :
    (V m c main_v2 : FVec Ideal S8192x4096 .f32) (ix2 r j) = m ((c : Thread nD τ).loc main_arg3) (ix3 ⟨r.val / 2048, by omega⟩ ⟨r.val % 2048, by omega⟩ j) := by
  simp only [V]
  entry_read
  pointwise

/-- The final array is the reference's, block by block. -/
theorem final (c : Dev nD) : (dats m 0 c).arrAt 5 cfg0.N
    = ref (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  obtain ⟨h0, h1⟩ := (idx t).2.2.2.2.2.2
  idx_vars y
  have e : (win0_5.blk t).view.emb (ix2 y0 y1) = ix2 ⟨1024 * (grid0.coords t 0).val + y0.val, by omega⟩ ⟨512 * (grid0.coords t 1).val + y1.val, by omega⟩ := by
    blk_ext [idx t]
    all_goals omega
  rw [e]
  frame_out
  rw [ref_at, pay_at, iblk2_at, iblk3_at, iblk4_at, entry_b, entry_x]
  have g : (⟨(grid0.coords t 0).val / 2, by omega⟩ : Fin 4) = ⟨(1024 * (grid0.coords t 0).val + y0.val) / 2048, by omega⟩ :=
    Fin.ext (by simp only []; omega)
  refine congrArg₂ (fun a b : EReal => a + b) rfl (congrArg₂ (fun a b : EReal => a * b) ?_
    (congrArg₂ (fun a b : EReal => a + b) (Finset.sum_congr rfl fun k _ => ?_) rfl))
  · rw [V_main_arg4, g]
  · exact congrArg₂ (fun a b : EReal => a * b) ((iblk0_at m c t y0 k).trans (entry_o m c _ k)) ((iblk1_at m c t k y1).trans (entry_w m c k _))

end Cert.Kernel2Ideal.Proj

namespace Cert.Proof

/-- Both programs end with the gated residual of the projection. -/
theorem algebraic2 : Cert.algebraic_Kernel2Ideal_Reference2Ideal := by
  intro m g m' g' _ hag
  refine ⟨fun c => Cert.Kernel2Ideal.Proj.ref (m ((c.tc : Thread _ _).loc Cert.Kernel2Ideal.main_arg0)) (m ((c.tc : Thread _ _).loc Cert.Kernel2Ideal.main_arg1))
      (m ((c.tc : Thread _ _).loc Cert.Kernel2Ideal.main_arg2)) (m ((c.tc : Thread _ _).loc Cert.Kernel2Ideal.main_arg3))
      (m ((c.tc : Thread _ _).loc Cert.Kernel2Ideal.main_arg4)), ?_, ?_⟩
  · exact (θ_run Cert.Kernel2Ideal.defs _ _).mono (fun r h c => ⟨(h c).1.trans (Cert.Kernel2Ideal.Proj.final m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    obtain ⟨a0, a1, a2, a3, a4⟩ := hag c
    rw [a0, a1, a2, a3, a4]
    rfl

end Cert.Proof
end
end
-- ==== Proof.OutEven.lean ====
module

public import proofs.«01_k».proof.Defs
public import proofs.«01_k».proof.Proof.Gen.Kernel3Ideal.Value
public import proofs.«01_k».proof.Proof.Gen.Reference3Ideal.Run
public import proofs.«01_k».proof.Proof.Gen.Kernel3Ideal
public import proofs.«01_k».proof.Proof.Gen.Reference3Ideal
public import Idealize.ShloMosaic.Lib.Pipeline.ValueKit
public import Idealize.ShloMosaic.Lib.Pointwise
public import Idealize.ShloMosaic.Lib.Claim

@[expose] public section

set_option maxRecDepth 16384

noncomputable section
open Idealize.ShloMosaic Idealize.ShloMosaic.TcCoe Idealize.SL.Sem
open Idealize.ShloMosaic.Pipeline (Dat)

/-! The output projection of the even layer, of its two mixers' outputs side by side, with its gated residual. -/

namespace Cert.Kernel3Ideal.Proj

open Cert.Kernel3Ideal Cert.Kernel3Ideal.Gen

/-- The reference's result as a term of the arguments: the two mixers' outputs, the weights, the residual, the gate. -/
def ref (A B : FVec Ideal S4x2048x2048 .f32) (W : FVec Ideal S4096x4096 .f32)
    (X : FVec Ideal S4x2048x4096 .f32) (G : FVec Ideal S4x1x4096 .f32) : FVec Ideal S8192x4096 .f32 :=
  shapeCast _ (addf X (mulf (broadcastInDim Cert.Reference3Ideal.S4x2048x4096 ![0, 1, 2] Cert.Reference3Ideal.Gen.bcast_S4x1x4096_S4x2048x4096_0_1_2 G)
    (Host.dotGeneral Cert.Reference3Ideal.dot_S4x2048x4096_S4096x4096_S4x2048x4096_2_0_01_1_n_n none
      (concatenate Cert.Reference3Ideal.S4x2048x4096 2 [⟨Cert.Reference3Ideal.S4x2048x2048, A⟩, ⟨Cert.Reference3Ideal.S4x2048x2048, B⟩]
        Cert.Reference3Ideal.Gen.concatenates_S4x2048x2048_S4x2048x2048_S4x2048x4096_d2) W)))
    Cert.Reference3Ideal.Gen.shapeCasts_S4x2048x4096_S8192x4096

variable (m : (ℓ : Loc nD τ sig) → Buf (Elt Ideal) ℓ)

/-- Where each grid point's blocks lie. -/
theorem idx : ∀ t : Fin cfg0.N,
    win0_0.index t = ![(grid0.coords t 0).val, 0]
    ∧ win0_1.index t = ![(grid0.coords t 0).val, 0]
    ∧ win0_2.index t = ![0, (grid0.coords t 1).val]
    ∧ win0_3.index t = ![(grid0.coords t 0).val, (grid0.coords t 1).val]
    ∧ win0_4.index t = ![(grid0.coords t 0).val / 2, 0, (grid0.coords t 1).val]
    ∧ win0_5.index t = ![(grid0.coords t 0).val, (grid0.coords t 1).val]
    ∧ (grid0.coords t 0).val < 8 ∧ (grid0.coords t 1).val < 8 :=
  (by decide +kernel : ∀ t : Fin grid0.N, _)

/-- The reference's result, entry by entry, the product split at the two mixers' border. -/
theorem ref_at (A B : FVec Ideal S4x2048x2048 .f32) (W : FVec Ideal S4096x4096 .f32)
    (X : FVec Ideal S4x2048x4096 .f32) (G : FVec Ideal S4x1x4096 .f32) (r : Fin 8192) (j : Fin 4096) :
    ref A B W X G (ix2 r j) = (X (ix3 ⟨r.val / 2048, by omega⟩ ⟨r.val % 2048, by omega⟩ j) + G (ix3 ⟨r.val / 2048, by omega⟩ 0 j)
      * ((∑ k : Fin 2048, A (ix3 ⟨r.val / 2048, by omega⟩ ⟨r.val % 2048, by omega⟩ k) * W (ix2 ⟨k.val, by omega⟩ j))
        + ∑ k : Fin 2048, B (ix3 ⟨r.val / 2048, by omega⟩ ⟨r.val % 2048, by omega⟩ k) * W (ix2 ⟨2048 + k.val, by omega⟩ j)) : EReal) := by
  pointwise [ref]

/-- What the body stores, entry by entry. -/
theorem pay_at (x0 x1 : Vec Ideal S1024x2048 .bf16) (w0 w1 : Vec Ideal S2048x512 .bf16)
    (x3 : Vec Ideal S1024x512 .f32) (x4 : Vec Ideal S1x1x512 .f32) (r : Fin 1024) (j : Fin 512) :
    k0_pay1 x0 w0 x1 w1 x3 x4 (ix2 r j)
      = (x3 (ix2 r j) + x4 (ix3 0 0 j) * ((∑ k, x0 (ix2 r k) * w0 (ix2 k j)) + ∑ k, x1 (ix2 r k) * w1 (ix2 k j)) : EReal) := by
  pointwise [k0_pay1]

/-- The block of the first mixer's output at a grid point. -/
theorem iblk0_at (c : Dev nD) (t : Fin cfg0.N) (r : Fin 1024) (k : Fin 2048) :
    (iblk m c 0 t : Vec Ideal S1024x2048 .bf16) (ix2 r k) = (V m c main_v1 : FVec Ideal S8192x2048 .bf16) (ix2 ⟨1024 * (grid0.coords t 0).val + r.val, by have := (idx t).2.2.2.2.2.2; omega⟩ k) := by
  blk_simp [iblk]
  generalize V m c main_v1 = A
  blk_ext [idx t]
  all_goals omega

/-- The block of the second mixer's output. -/
theorem iblk1_at (c : Dev nD) (t : Fin cfg0.N) (r : Fin 1024) (k : Fin 2048) :
    (iblk m c 1 t : Vec Ideal S1024x2048 .bf16) (ix2 r k) = (V m c main_v3 : FVec Ideal S8192x2048 .bf16) (ix2 ⟨1024 * (grid0.coords t 0).val + r.val, by have := (idx t).2.2.2.2.2.2; omega⟩ k) := by
  blk_simp [iblk]
  generalize V m c main_v3 = A
  blk_ext [idx t]
  all_goals omega

/-- The block of the weights. -/
theorem iblk2_at (c : Dev nD) (t : Fin cfg0.N) (k : Fin 4096) (j : Fin 512) :
    (iblk m c 2 t : Vec Ideal S4096x512 .bf16) (ix2 k j) = (V m c main_v5 : FVec Ideal S4096x4096 .bf16) (ix2 k ⟨512 * (grid0.coords t 1).val + j.val, by have := (idx t).2.2.2.2.2.2; omega⟩) := by
  blk_simp [iblk]
  generalize V m c main_v5 = A
  blk_ext [idx t]
  all_goals omega

/-- The block of the residual. -/
theorem iblk3_at (c : Dev nD) (t : Fin cfg0.N) (r : Fin 1024) (j : Fin 512) :
    (iblk m c 3 t : Vec Ideal S1024x512 .f32) (ix2 r j) = (V m c main_v4 : FVec Ideal S8192x4096 .f32) (ix2 ⟨1024 * (grid0.coords t 0).val + r.val, by have := (idx t).2.2.2.2.2.2; omega⟩ ⟨512 * (grid0.coords t 1).val + j.val, by have := (idx t).2.2.2.2.2.2; omega⟩) := by
  blk_simp [iblk]
  generalize V m c main_v4 = A
  blk_ext [idx t]
  all_goals omega

/-- The block of the gate: two row blocks share a batch entry. -/
theorem iblk4_at (c : Dev nD) (t : Fin cfg0.N) (j : Fin 512) :
    (iblk m c 4 t : Vec Ideal S1x1x512 .f32) (ix3 0 0 j) = (V m c main_arg4 : FVec Ideal S4x1x4096 .f32) (ix3 ⟨(grid0.coords t 0).val / 2, by have := (idx t).2.2.2.2.2.2; omega⟩ 0 ⟨512 * (grid0.coords t 1).val + j.val, by have := (idx t).2.2.2.2.2.2; omega⟩) := by
  blk_simp [iblk]
  generalize V m c main_arg4 = A
  blk_ext [idx t]
  all_goals omega

/-- The first mixer's output as the kernel gets it. -/
theorem entry_a (c : Dev nD) (r : Fin 8192) (k : Fin 2048) :
    (V m c main_v1 : FVec Ideal S8192x2048 .bf16) (ix2 r k) = m ((c : Thread nD τ).loc main_arg0) (ix3 ⟨r.val / 2048, by omega⟩ ⟨r.val % 2048, by omega⟩ k) := by
  simp only [V]
  entry_read
  pointwise

/-- The second mixer's output as the kernel gets it. -/
theorem entry_b (c : Dev nD) (r : Fin 8192) (k : Fin 2048) :
    (V m c main_v3 : FVec Ideal S8192x2048 .bf16) (ix2 r k) = m ((c : Thread nD τ).loc main_arg1) (ix3 ⟨r.val / 2048, by omega⟩ ⟨r.val % 2048, by omega⟩ k) := by
  simp only [V]
  entry_read
  pointwise

/-- The weights as the kernel gets them. -/
theorem entry_w (c : Dev nD) (k j : Fin 4096) :
    (V m c main_v5 : FVec Ideal S4096x4096 .bf16) (ix2 k j) = m ((c : Thread nD τ).loc main_arg2) (ix2 k j) := by
  simp only [V]
  entry_read
  pointwise

/-- The residual as the kernel gets it. -/
theorem entry_x (c : Dev nD) (r : Fin 8192) (j : Fin 4096) :
    (V m c main_v4 : FVec Ideal S8192x4096 .f32) (ix2 r j) = m ((c : Thread nD τ).loc main_arg3) (ix3 ⟨r.val / 2048, by omega⟩ ⟨r.val % 2048, by omega⟩ j) := by
  simp only [V]
  entry_read
  pointwise

/-- The final array is the reference's, block by block. -/
theorem final (c : Dev nD) : (dats m 0 c).arrAt 5 cfg0.N
    = ref (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  obtain ⟨h0, h1⟩ := (idx t).2.2.2.2.2.2
  idx_vars y
  have e : (win0_5.blk t).view.emb (ix2 y0 y1) = ix2 ⟨1024 * (grid0.coords t 0).val + y0.val, by omega⟩ ⟨512 * (grid0.coords t 1).val + y1.val, by omega⟩ := by
    blk_ext [idx t]
    all_goals omega
  rw [e]
  frame_out
  rw [ref_at, pay_at, iblk3_at, iblk4_at, entry_x]
  have g : (⟨(grid0.coords t 0).val / 2, by omega⟩ : Fin 4) = ⟨(1024 * (grid0.coords t 0).val + y0.val) / 2048, by omega⟩ :=
    Fin.ext (by simp only []; omega)
  refine congrArg₂ (fun a b : EReal => a + b) rfl (congrArg₂ (fun a b : EReal => a * b) ?_
    (congrArg₂ (fun a b : EReal => a + b) (Finset.sum_congr rfl fun k _ => ?_) (Finset.sum_congr rfl fun k _ => ?_)))
  · rw [V_main_arg4, g]
  · refine congrArg₂ (fun a b : EReal => a * b) ((iblk0_at m c t y0 k).trans (entry_a m c _ k)) ?_
    refine Eq.trans ?_ ((iblk2_at m c t ⟨k.val, by omega⟩ y1).trans (entry_w m c _ _))
    generalize (iblk m c 2 t : Vec Ideal S4096x512 .bf16) = x
    refine congrArg x ?_
    blk_ext
    all_goals simp [r0_1, ix2]
  · refine congrArg₂ (fun a b : EReal => a * b) ((iblk1_at m c t y0 k).trans (entry_b m c _ k)) ?_
    refine Eq.trans ?_ ((iblk2_at m c t ⟨2048 + k.val, by omega⟩ y1).trans (entry_w m c _ _))
    generalize (iblk m c 2 t : Vec Ideal S4096x512 .bf16) = x
    refine congrArg x ?_
    blk_ext
    all_goals simp [r0_2, ix2]

end Cert.Kernel3Ideal.Proj

namespace Cert.Proof

/-- Both programs end with the gated residual of the projection. -/
theorem algebraic3 : Cert.algebraic_Kernel3Ideal_Reference3Ideal := by
  intro m g m' g' _ hag
  refine ⟨fun c => Cert.Kernel3Ideal.Proj.ref (m ((c.tc : Thread _ _).loc Cert.Kernel3Ideal.main_arg0)) (m ((c.tc : Thread _ _).loc Cert.Kernel3Ideal.main_arg1))
      (m ((c.tc : Thread _ _).loc Cert.Kernel3Ideal.main_arg2)) (m ((c.tc : Thread _ _).loc Cert.Kernel3Ideal.main_arg3))
      (m ((c.tc : Thread _ _).loc Cert.Kernel3Ideal.main_arg4)), ?_, ?_⟩
  · exact (θ_run Cert.Kernel3Ideal.defs _ _).mono (fun r h c => ⟨(h c).1.trans (Cert.Kernel3Ideal.Proj.final m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨a0, a1, a2, a3, a4⟩ := hag c
    rw [a0, a1, a2, a3, a4]
    rfl

end Cert.Proof
end
end
-- ==== Proof.InOdd.lean ====
module

public import proofs.«01_k».proof.Defs
public import proofs.«01_k».proof.Proof.Gen.Kernel4Ideal.Value
public import proofs.«01_k».proof.Proof.Gen.Reference4Ideal.Run
public import proofs.«01_k».proof.Proof.Gen.Kernel4Ideal
public import proofs.«01_k».proof.Proof.Gen.Reference4Ideal
public import Idealize.ShloMosaic.Lib.Pipeline.ValueKit
public import Idealize.ShloMosaic.Lib.Pointwise
public import Idealize.ShloMosaic.Lib.Claim

@[expose] public section

set_option maxRecDepth 16384

noncomputable section
open Idealize.ShloMosaic Idealize.ShloMosaic.TcCoe Idealize.SL.Sem
open Idealize.ShloMosaic.Pipeline (Dat)

/-! The input projection of the odd layer, with its head norms. -/

namespace Cert.Kernel4Ideal.Proj

open Cert.Kernel4Ideal Cert.Kernel4Ideal.Gen

/-- The factor of a head norm, from the sum of the squares. -/
def rs (s : EReal) : EReal := Ideal.rsqrt (s * Ideal.ofBits .f32 0x3C800000#32 + Ideal.ofBits .f32 0x358637BD#32)

/-- The factors of the two heads in a group of 128 lanes, as the body computes them from the squares. -/
def half (c : FVec Ideal S1024x128 .f32) : FVec Ideal S1024x128 .f32 :=
  k0_pay8 k0_pay4 c (select k0_pay4 c (broadcast S1024x128 (Scalar.ofBits .f32 0x00000000#32)))

/-- The factors, entry by entry. -/
theorem half_at (c : FVec Ideal S1024x128 .f32) (r : Fin 1024) (l : Fin 128) :
    half c (ix2 r l) = rs (∑ k : Fin 64, c (ix2 r ⟨64 * (l.val / 64) + k.val, by omega⟩)) := by
  have hlt : ∀ (x : Fin 128) (a b : EReal), Scalar.select (IntOp.cmpi .slt (BitVec.ofNat 32 x.val) 64#32) a b = if x.val < 64 then a else b := by
    intro x a b
    have e : (IntOp.cmpi .slt (BitVec.ofNat 32 x.val) 64#32 = 1) ↔ x.val < 64 :=
      (by decide +kernel : ∀ x : Fin 128, (IntOp.cmpi .slt (BitVec.ofNat 32 x.val) 64#32 = 1) ↔ x.val < 64) x
    exact if_congr e rfl rfl
  pointwise [half, k0_pay8, k0_pay4]
  simp only [hlt, rs]
  rw [Fin.sum_univ_add (a := 64) (b := 64), Fin.sum_univ_add (a := 64) (b := 64)]
  have h0 : ∀ k : Fin 64, ((Fin.castAdd 64 k : Fin 128).val < 64) = True := fun k => eq_true k.isLt
  have h1 : ∀ k : Fin 64, ((Fin.natAdd 64 k : Fin 128).val < 64) = False := fun k => eq_false (by simp)
  simp only [h0, h1, if_true, if_false, Finset.sum_const_zero, add_zero, zero_add]
  split_ifs with h
  · refine congrArg (fun s => Ideal.rsqrt (s * _ + _)) (Finset.sum_congr rfl fun k _ => congrArg (fun x => c (ix2 r x)) (Fin.ext ?_))
    simp; omega
  · refine congrArg (fun s => Ideal.rsqrt (s * _ + _)) (Finset.sum_congr rfl fun k _ => congrArg (fun x => c (ix2 r x)) (Fin.ext ?_))
    simp; omega

/-- The eight groups side by side. -/
theorem cat_at (p : Fin 8 → FVec Ideal S1024x128 .f32) (r : Fin 1024) (j : Fin 1024) :
    concatenate S1024x1024 1 [⟨S1024x128, p 0⟩, ⟨S1024x128, p 1⟩, ⟨S1024x128, p 2⟩, ⟨S1024x128, p 3⟩, ⟨S1024x128, p 4⟩,
      ⟨S1024x128, p 5⟩, ⟨S1024x128, p 6⟩, ⟨S1024x128, p 7⟩]
      concatenates_S1024x128_S1024x128_S1024x128_S1024x128_S1024x128_S1024x128_S1024x128_S1024x128_S1024x1024_d1 (ix2 r j)
      = p ⟨j.val / 128, by omega⟩ (ix2 r ⟨j.val % 128, by omega⟩) := by
  pointwise
  split_ifs
  all_goals exact congrArg₂ (fun a b => p a (ix2 r b)) (Fin.ext (by simp; omega)) (Fin.ext (by simp; omega))

/-- The end of the body: the head norm's factors where the flag is set, then the gains. -/
def tail (v : FVec Ideal S1024x1024 .f32) (p : FVec Ideal S1024x1024 .f32) (gain flag : FVec Ideal S1x1024 .f32) : FVec Ideal S1024x1024 .bf16 :=
  truncf .bf16 (mulf (mulf v (select (broadcastTo S1024x1024 (shapeCast S1x1024 (cmpf .ogt (shapeCast S1x1024 flag shapeCasts_S1x1024_S1x1024)
    (broadcast S1x1024 (Scalar.ofBits .f32 0x00000000#32))) shapeCasts_S1x1024_S1x1024) broadcasts_S1x1024_S1024x1024) p
    (broadcast S1024x1024 (Scalar.ofBits .f32 0x3F800000#32)))) (broadcastTo S1024x1024 (shapeCast S1x1024 gain shapeCasts_S1x1024_S1x1024) broadcasts_S1x1024_S1024x1024)) bitsLt_bf16_f32

/-- The end of the body, entry by entry. -/
theorem tail_at (v p : FVec Ideal S1024x1024 .f32) (gain flag : FVec Ideal S1x1024 .f32) (r j : Fin 1024) :
    tail v p gain flag (ix2 r j) = (v (ix2 r j) * (if 0 < flag (ix2 0 j) then p (ix2 r j) else 1) * gain (ix2 0 j) : EReal) := by
  pointwise [tail]

/-- The projection before the norm. -/
theorem lin_at (x0 : Vec Ideal S1024x4096 .bf16) (x1 : Vec Ideal S4096x1024 .bf16) (x2 : Vec Ideal S1x1024 .f32)
    (r : Fin 1024) (j : Fin 1024) : k0_pay2 x0 x1 x2 (ix2 r j) = ((∑ k, x0 (ix2 r k) * x1 (ix2 k j)) + x2 (ix2 0 j) : EReal) := by
  pointwise [k0_pay2]

/-- What the body stores, entry by entry. -/
theorem pay_at (x0 : Vec Ideal S1024x4096 .bf16) (x1 : Vec Ideal S4096x1024 .bf16) (x2 x3 x4 : Vec Ideal S1x1024 .f32)
    (r : Fin 1024) (j : Fin 1024) : out0_5 x0 x1 x2 x3 x4 (ix2 r j)
      = (k0_pay2 x0 x1 x2 (ix2 r j) * (if 0 < x4 (ix2 0 j) then
          rs (∑ k : Fin 64, k0_pay2 x0 x1 x2 (ix2 r ⟨64 * (j.val / 64) + k.val, by omega⟩) * k0_pay2 x0 x1 x2 (ix2 r ⟨64 * (j.val / 64) + k.val, by omega⟩))
          else 1) * x3 (ix2 0 j) : EReal) := by
  unfold_out out0_5
  frame_out
  let sl : Fin 8 → FVec Ideal S1024x128 .f32 := ![
    extractStridedSlice S1024x128 ![0, 0] (k0_pay3 x0 x1 x2) slices_S1024x1024_o0_0_S1024x128,
    extractStridedSlice S1024x128 ![0, 128] (k0_pay3 x0 x1 x2) slices_S1024x1024_o0_128_S1024x128,
    extractStridedSlice S1024x128 ![0, 256] (k0_pay3 x0 x1 x2) slices_S1024x1024_o0_256_S1024x128,
    extractStridedSlice S1024x128 ![0, 384] (k0_pay3 x0 x1 x2) slices_S1024x1024_o0_384_S1024x128,
    extractStridedSlice S1024x128 ![0, 512] (k0_pay3 x0 x1 x2) slices_S1024x1024_o0_512_S1024x128,
    extractStridedSlice S1024x128 ![0, 640] (k0_pay3 x0 x1 x2) slices_S1024x1024_o0_640_S1024x128,
    extractStridedSlice S1024x128 ![0, 768] (k0_pay3 x0 x1 x2) slices_S1024x1024_o0_768_S1024x128,
    extractStridedSlice S1024x128 ![0, 896] (k0_pay3 x0 x1 x2) slices_S1024x1024_o0_896_S1024x128]
  have hs : ∀ (s : Fin 8) (l : Fin 128), sl s (ix2 r l) = k0_pay3 x0 x1 x2 (ix2 r ⟨128 * s.val + l.val, by omega⟩) := by
    intro s l
    fin_cases s <;> (simp only [sl]; generalize k0_pay3 x0 x1 x2 = v; pointwise)
  refine Eq.trans (b := tail (k0_pay2 x0 x1 x2) (concatenate S1024x1024 1 [⟨S1024x128, half (sl 0)⟩, ⟨S1024x128, half (sl 1)⟩,
    ⟨S1024x128, half (sl 2)⟩, ⟨S1024x128, half (sl 3)⟩, ⟨S1024x128, half (sl 4)⟩, ⟨S1024x128, half (sl 5)⟩, ⟨S1024x128, half (sl 6)⟩, ⟨S1024x128, half (sl 7)⟩]
      concatenates_S1024x128_S1024x128_S1024x128_S1024x128_S1024x128_S1024x128_S1024x128_S1024x128_S1024x1024_d1) x3 x4 (ix2 r j)) rfl ?_
  rw [tail_at, cat_at (fun s => half (sl s)), half_at]
  simp only [hs]
  have hk : ∀ i, k0_pay3 x0 x1 x2 i = (k0_pay2 x0 x1 x2 i * k0_pay2 x0 x1 x2 i : EReal) := fun i => rfl
  simp only [hk]
  have e : ∀ k : Fin 64, (⟨128 * (j.val / 128) + (64 * (j.val % 128 / 64) + k.val), by omega⟩ : Fin 1024) = ⟨64 * (j.val / 64) + k.val, by omega⟩ :=
    fun k => Fin.ext (by simp only []; omega)
  simp only [e]

/-- The reference's projection before the norm, at a row and a column. -/
def lin (X : FVec Ideal S4x2048x4096 .f32) (W : FVec Ideal S4096x5120 .f32) (B : FVec Ideal S5120 .f32) (r : Fin 8192) (j : Fin 5120) : EReal :=
  (∑ k, X (ix3 ⟨r.val / 2048, by omega⟩ ⟨r.val % 2048, by omega⟩ k) * W (ix2 k j)) + B (ix1 j)

/-- The gain of a column: the queries' with the scores' scale, the keys', and one for the values. -/
def gain (Q K : FVec Ideal S64 .f32) (j : Fin 5120) : EReal :=
  if j.val < 4096 then Q (ix1 ⟨j.val % 64, by omega⟩) * Ideal.ofBits .f32 0x3E000000#32
  else if j.val < 4608 then K (ix1 ⟨j.val % 64, by omega⟩) else 1

/-- The result at a row and a column: the projection, for queries and keys with its head's norm, times the gain. -/
def val (X : FVec Ideal S4x2048x4096 .f32) (W : FVec Ideal S4096x5120 .f32) (B : FVec Ideal S5120 .f32) (Q K : FVec Ideal S64 .f32)
    (r : Fin 8192) (j : Fin 5120) : EReal :=
  lin X W B r j * (if j.val < 4608 then rs (∑ k : Fin 64, lin X W B r ⟨64 * (j.val / 64) + k.val, by omega⟩ * lin X W B r ⟨64 * (j.val / 64) + k.val, by omega⟩) else 1)
    * gain Q K j

/-- A mean over a head's 64 lanes is the sum times 1/64. -/
theorem div_64 (s : EReal) : Ideal.rsqrt (Ideal.div s (Ideal.ofBits .f32 0x42800000#32) + Ideal.ofBits .f32 0x358637BD#32) = rs s := by
  have h : Ideal.ofBits .f32 0x42800000#32 = ((64 : ℝ) : EReal) := by
    simp [Ideal.ofBits, Ideal.ieee, -EReal.coe_mul]; norm_num
  have h' : Ideal.ofBits .f32 0x3C800000#32 = ((1 / 64 : ℝ) : EReal) := by
    simp [Ideal.ofBits, Ideal.ieee, -EReal.coe_mul]; norm_num
  rw [rs, h, h', Ideal.div_coe (by norm_num)]

/-- The reference's result, entry by entry. -/
theorem ref_at (m : (ℓ : Loc Cert.Reference4Ideal.nD Cert.Reference4Ideal.τ Cert.Reference4Ideal.sig) → Buf (Elt Ideal) ℓ) (c : Dev Cert.Reference4Ideal.nD) (r : Fin 8192) (j : Fin 5120) :
    (Cert.Reference4Ideal.Value.res_out0 m c : FVec Ideal S8192x5120 .bf16) (ix2 r j)
      = val (m ((c.tc : Thread _ _).loc Cert.Reference4Ideal.main_arg0)) (m ((c.tc : Thread _ _).loc Cert.Reference4Ideal.main_arg1)) (m ((c.tc : Thread _ _).loc Cert.Reference4Ideal.main_arg2))
          (m ((c.tc : Thread _ _).loc Cert.Reference4Ideal.main_arg3)) (m ((c.tc : Thread _ _).loc Cert.Reference4Ideal.main_arg4)) r j := by
  unfold Cert.Reference4Ideal.Value.res_out0 Cert.Reference4Ideal.Value.res_main_v41
  generalize hH : addf (F := Ideal) (Host.dotGeneral Cert.Reference4Ideal.dot_S4x2048x4096_S4096x5120_S4x2048x5120_2_0_01_1_n_n none _ _) _ = H
  have eH : ∀ (r : Fin 8192) (j : Fin 5120), H (ix3 ⟨r.val / 2048, by omega⟩ ⟨r.val % 2048, by omega⟩ j)
      = lin (m ((c.tc : Thread _ _).loc Cert.Reference4Ideal.main_arg0)) (m ((c.tc : Thread _ _).loc Cert.Reference4Ideal.main_arg1)) (m ((c.tc : Thread _ _).loc Cert.Reference4Ideal.main_arg2)) r j := by
    intro r j
    rw [← hH]
    pointwise [lin]
  clear hH
  unfold val
  generalize lin (m ((c.tc : Thread _ _).loc Cert.Reference4Ideal.main_arg0)) (m ((c.tc : Thread _ _).loc Cert.Reference4Ideal.main_arg1)) (m ((c.tc : Thread _ _).loc Cert.Reference4Ideal.main_arg2)) = L at eH ⊢
  generalize m ((c.tc : Thread _ _).loc Cert.Reference4Ideal.main_arg3) = Q
  generalize m ((c.tc : Thread _ _).loc Cert.Reference4Ideal.main_arg4) = K
  generalize hY : (mulf (mulf (mulf _ _) _) _ : FVec Ideal Cert.Reference4Ideal.S4x2048x64x64 .f32) = Y
  generalize hZ : (mulf (mulf _ _) _ : FVec Ideal Cert.Reference4Ideal.S4x2048x8x64 .f32) = Z
  have eY : ∀ b t h d, Y (ix4 b t h d) = (H (ix3 b t ⟨64 * h.val + d.val, by omega⟩)
      * rs (∑ k : Fin 64, H (ix3 b t ⟨64 * h.val + k.val, by omega⟩) * H (ix3 b t ⟨64 * h.val + k.val, by omega⟩)) * Q (ix1 d) * Ideal.ofBits .f32 0x3E000000#32 : EReal) := by
    intro b t h d
    rw [← hY]
    simp only [← div_64, Nat.mul_comm 64]
    pointwise
  have eZ : ∀ b t h d, Z (ix4 b t h d) = (H (ix3 b t ⟨4096 + (64 * h.val + d.val), by omega⟩)
      * rs (∑ k : Fin 64, H (ix3 b t ⟨4096 + (64 * h.val + k.val), by omega⟩) * H (ix3 b t ⟨4096 + (64 * h.val + k.val), by omega⟩)) * K (ix1 d) : EReal) := by
    intro b t h d
    rw [← hZ]
    simp only [← div_64, Nat.mul_comm 64]
    pointwise
  clear hY hZ
  pointwise
  simp only [eY, eZ, eH]
  unfold gain
  by_cases h1 : j.val < 4096
  · have h2 : j.val < 4608 := by omega
    have e : (⟨64 * (j.val / 64) + j.val % 64, by omega⟩ : Fin 5120) = j := Fin.ext (by simp only []; omega)
    simp only [h1, h2, dif_pos, if_pos, e, mul_assoc]
  · by_cases h2 : j.val < 4608
    · have h3 : j.val - 4096 < 512 := by omega
      have e : (⟨4096 + (64 * ((j.val - 4096) / 64) + (j.val - 4096) % 64), by omega⟩ : Fin 5120) = j := Fin.ext (by simp only []; omega)
      have e' : ∀ k : Fin 64, (⟨4096 + (64 * ((j.val - 4096) / 64) + k.val), by omega⟩ : Fin 5120) = ⟨64 * (j.val / 64) + k.val, by omega⟩ :=
        fun k => Fin.ext (by simp only []; omega)
      have e'' : (⟨(j.val - 4096) % 64, by omega⟩ : Fin 64) = ⟨j.val % 64, by omega⟩ := Fin.ext (by simp only []; omega)
      simp only [h1, h2, h3, dif_pos, dif_neg, if_pos, if_neg, not_false_eq_true, e, e', e'']
    · have h3 : ¬ j.val - 4096 < 512 := by omega
      have e : (⟨4608 + (j.val - 4096 - 512), by omega⟩ : Fin 5120) = j := Fin.ext (by simp only []; omega)
      simp only [h1, h2, h3, dif_neg, if_neg, not_false_eq_true, e, mul_one]

variable (m : (ℓ : Loc nD τ sig) → Buf (Elt Ideal) ℓ)

/-- Where each grid point's blocks lie. -/
theorem idx : ∀ t : Fin cfg0.N,
    win0_0.index t = ![(grid0.coords t 0).val, 0]
    ∧ win0_1.index t = ![0, (grid0.coords t 1).val]
    ∧ win0_2.index t = ![0, (grid0.coords t 1).val]
    ∧ win0_3.index t = ![0, (grid0.coords t 1).val]
    ∧ win0_4.index t = ![0, (grid0.coords t 1).val]
    ∧ win0_5.index t = ![(grid0.coords t 0).val, (grid0.coords t 1).val]
    ∧ (grid0.coords t 0).val < 8 ∧ (grid0.coords t 1).val < 5 :=
  (by decide +kernel : ∀ t : Fin grid0.N, _)

/-- The block of the layer's input at a grid point. -/
theorem iblk0_at (c : Dev nD) (t : Fin cfg0.N) (r : Fin 1024) (k : Fin 4096) :
    (iblk m c 0 t : Vec Ideal S1024x4096 .bf16) (ix2 r k) = (V m c main_v1 : FVec Ideal S8192x4096 .bf16) (ix2 ⟨1024 * (grid0.coords t 0).val + r.val, by have := (idx t).2.2.2.2.2.2; omega⟩ k) := by
  blk_simp [iblk]
  generalize V m c main_v1 = A
  blk_ext [idx t]
  all_goals omega

/-- The block of the weights. -/
theorem iblk1_at (c : Dev nD) (t : Fin cfg0.N) (k : Fin 4096) (j : Fin 1024) :
    (iblk m c 1 t : Vec Ideal S4096x1024 .bf16) (ix2 k j) = (V m c main_v15 : FVec Ideal S4096x5120 .bf16) (ix2 k ⟨1024 * (grid0.coords t 1).val + j.val, by have := (idx t).2.2.2.2.2.2; omega⟩) := by
  blk_simp [iblk]
  generalize V m c main_v15 = A
  blk_ext [idx t]
  all_goals omega

/-- The block of the bias. -/
theorem iblk2_at (c : Dev nD) (t : Fin cfg0.N) (j : Fin 1024) :
    (iblk m c 2 t : Vec Ideal S1x1024 .f32) (ix2 0 j) = (V m c main_v16 : FVec Ideal S1x5120 .f32) (ix2 0 ⟨1024 * (grid0.coords t 1).val + j.val, by have := (idx t).2.2.2.2.2.2; omega⟩) := by
  blk_simp [iblk]
  generalize V m c main_v16 = A
  blk_ext [idx t]
  all_goals omega

/-- The block of the gains. -/
theorem iblk3_at (c : Dev nD) (t : Fin cfg0.N) (j : Fin 1024) :
    (iblk m c 3 t : Vec Ideal S1x1024 .f32) (ix2 0 j) = (V m c main_v17 : FVec Ideal S1x5120 .f32) (ix2 0 ⟨1024 * (grid0.coords t 1).val + j.val, by have := (idx t).2.2.2.2.2.2; omega⟩) := by
  blk_simp [iblk]
  generalize V m c main_v17 = A
  blk_ext [idx t]
  all_goals omega

/-- The block of the flags. -/
theorem iblk4_at (c : Dev nD) (t : Fin cfg0.N) (j : Fin 1024) :
    (iblk m c 4 t : Vec Ideal S1x1024 .f32) (ix2 0 j) = (V m c main_v18 : FVec Ideal S1x5120 .f32) (ix2 0 ⟨1024 * (grid0.coords t 1).val + j.val, by have := (idx t).2.2.2.2.2.2; omega⟩) := by
  blk_simp [iblk]
  generalize V m c main_v18 = A
  blk_ext [idx t]
  all_goals omega

/-- The layer's input as the kernel gets it. -/
theorem entry_x (c : Dev nD) (r : Fin 8192) (k : Fin 4096) :
    (V m c main_v1 : FVec Ideal S8192x4096 .bf16) (ix2 r k) = m ((c : Thread nD τ).loc main_arg0) (ix3 ⟨r.val / 2048, by omega⟩ ⟨r.val % 2048, by omega⟩ k) := by
  simp only [V]
  entry_read
  pointwise

/-- The weights as the kernel gets them. -/
theorem entry_w (c : Dev nD) (k : Fin 4096) (j : Fin 5120) :
    (V m c main_v15 : FVec Ideal S4096x5120 .bf16) (ix2 k j) = m ((c : Thread nD τ).loc main_arg1) (ix2 k j) := by
  simp only [V]
  entry_read
  pointwise

/-- The bias as the kernel gets it. -/
theorem entry_b (c : Dev nD) (j : Fin 5120) :
    (V m c main_v16 : FVec Ideal S1x5120 .f32) (ix2 0 j) = m ((c : Thread nD τ).loc main_arg2) (ix1 j) := by
  simp only [V]
  entry_read
  pointwise

set_option maxHeartbeats 1000000 in
set_option maxRecDepth 65536 in
/-- The gains as the kernel gets them. -/
theorem entry_g (c : Dev nD) (j : Fin 5120) :
    (V m c main_v17 : FVec Ideal S1x5120 .f32) (ix2 0 j)
      = gain (m ((c : Thread nD τ).loc main_arg3)) (m ((c : Thread nD τ).loc main_arg4)) j := by
  have e : (V m c main_v17 : FVec Ideal S1x5120 .f32) = (shapeCast S1x5120 (concatenate S5120 0 [
      ⟨S4096, shapeCast S4096 (broadcastInDim S64x64 ![0, 1] bcast_S1x64_S64x64_0_1 (shapeCast S1x64 (mulf (F := Ideal) (m ((c : Thread nD τ).loc main_arg3) : FVec Ideal S64 .f32)
        (broadcastInDim S64 ![] bcast_S_S64 (constant (F := Ideal) S_ .f32 0x3E000000#32))) shapeCasts_S64_S1x64)) shapeCasts_S64x64_S4096⟩,
      ⟨S512, shapeCast S512 (broadcastInDim S8x64 ![0, 1] bcast_S1x64_S8x64_0_1 (shapeCast S1x64 (m ((c : Thread nD τ).loc main_arg4) : FVec Ideal S64 .f32) shapeCasts_S64_S1x64)) shapeCasts_S8x64_S512⟩,
      ⟨S512, broadcastInDim S512 ![] bcast_S_S512 (constant (F := Ideal) S_ .f32 0x3F800000#32)⟩] concatenates_S4096_S512_S512_S5120_d0) shapeCasts_S5120_S1x5120 : FVec Ideal S1x5120 .f32) := by
    simp only [V]
    after_results_simp <;> (try dsimp only [Matrix.cons_val]) <;> (try after_results_simp) <;> rfl
  rw [e]
  generalize m ((c : Thread nD τ).loc main_arg3) = Q
  generalize m ((c : Thread nD τ).loc main_arg4) = K
  pointwise
  unfold gain
  by_cases h1 : j.val < 4096
  · simp only [h1, dif_pos, if_pos]
  · by_cases h2 : j.val < 4608
    · have h3 : j.val - 4096 < 512 := by omega
      have e : (⟨(j.val - 4096) % 64, by omega⟩ : Fin 64) = ⟨j.val % 64, by omega⟩ := Fin.ext (by simp only []; omega)
      simp only [h1, h2, h3, dif_pos, dif_neg, if_pos, if_neg, not_false_eq_true, e]
    · have h3 : ¬ j.val - 4096 < 512 := by omega
      simp only [h1, h2, h3, dif_neg, if_neg, not_false_eq_true]

set_option maxHeartbeats 1000000 in
set_option maxRecDepth 65536 in
/-- The flags as the kernel gets them: set for the queries' and the keys' columns. -/
theorem entry_f (c : Dev nD) (j : Fin 5120) :
    (V m c main_v18 : FVec Ideal S1x5120 .f32) (ix2 0 j) = (if j.val < 4608 then 1 else 0 : EReal) := by
  simp only [V]
  entry_read
  pointwise
  split_ifs <;> rfl

/-- The projection at a grid point is the reference's at the block's place. -/
theorem lin_blk (c : Dev nD) (t : Fin cfg0.N) (r : Fin 1024) (j : Fin 1024) :
    k0_pay2 (iblk m c 0 t) (iblk m c 1 t) (iblk m c 2 t) (ix2 r j)
      = lin (m ((c : Thread nD τ).loc main_arg0)) (m ((c : Thread nD τ).loc main_arg1)) (m ((c : Thread nD τ).loc main_arg2))
          ⟨1024 * (grid0.coords t 0).val + r.val, by have := (idx t).2.2.2.2.2.2; omega⟩ ⟨1024 * (grid0.coords t 1).val + j.val, by have := (idx t).2.2.2.2.2.2; omega⟩ := by
  rw [lin_at, lin, iblk2_at, entry_b]
  refine congrArg₂ (fun a b : EReal => a + b) (Finset.sum_congr rfl fun k _ => ?_) rfl
  exact congrArg₂ (fun a b : EReal => a * b) ((iblk0_at m c t r k).trans (entry_x m c _ k)) ((iblk1_at m c t k j).trans (entry_w m c k _))

/-- The final array is the reference's result. -/
theorem final (c : Dev nD) : (dats m 0 c).arrAt 5 cfg0.N
    = (fun i => val (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) : FVec Ideal S8192x5120 .bf16) := by
  refine (dats m 0 c).arrAt_eq_of_covers 5 _ (by decide +kernel) fun t _ y => ?_
  blk_simp
  rw [after0_5]
  obtain ⟨h0, h1⟩ := (idx t).2.2.2.2.2.2
  idx_vars y
  have e : (win0_5.blk t).view.emb (ix2 y0 y1) = ix2 ⟨1024 * (grid0.coords t 0).val + y0.val, by omega⟩ ⟨1024 * (grid0.coords t 1).val + y1.val, by omega⟩ := by
    blk_ext [idx t]
    all_goals omega
  rw [e, pay_at, iblk3_at, iblk4_at, entry_g, entry_f, lin_blk]
  simp only [lin_blk]
  have hf : (0 < (if 1024 * (grid0.coords t 1).val + y1.val < 4608 then 1 else 0 : EReal)) = (1024 * (grid0.coords t 1).val + y1.val < 4608) := by
    split_ifs with h <;> simp [h]
  have hk : ∀ k : Fin 64, (⟨1024 * (grid0.coords t 1).val + (64 * (y1.val / 64) + k.val), by omega⟩ : Fin 5120)
      = ⟨64 * ((1024 * (grid0.coords t 1).val + y1.val) / 64) + k.val, by omega⟩ := fun k => Fin.ext (by simp only []; omega)
  simp only [hf, hk]
  rfl

end Cert.Kernel4Ideal.Proj

namespace Cert.Proof

/-- Both programs end with the projection, the queries' and the keys' heads normed. -/
theorem algebraic4 : Cert.algebraic_Kernel4Ideal_Reference4Ideal := by
  intro m g m' g' _ hag
  refine ⟨fun c => (Cert.Reference4Ideal.Value.res_out0 m' c : FVec Ideal Cert.Kernel4Ideal.S8192x5120 .bf16), ?_, ?_⟩
  · refine (θ_run Cert.Kernel4Ideal.defs _ _).mono (fun r h c => ⟨(h c).1.trans ((Cert.Kernel4Ideal.Proj.final m c).trans ?_), (h c).2⟩)
      (Cert.Kernel4Ideal.Value.run_blocks (F := Ideal) m g)
    obtain ⟨a0, a1, a2, a3, a4⟩ := hag c
    funext i
    idx_vars i
    refine Eq.trans ?_ (Cert.Kernel4Ideal.Proj.ref_at m' c i0 i1).symm
    rw [a0, a1, a2, a3, a4]
  · exact (θ_run Cert.Reference4Ideal.defs _ _).mono (fun r h c => ⟨(h c).1, (h c).2⟩) (Cert.Reference4Ideal.Value.run (F := Ideal) m' g')

end Cert.Proof
end
end
-- ==== Proof.InEven.lean ====
module

public import proofs.«01_k».proof.Defs
public import proofs.«01_k».proof.Proof.Gen.Kernel5Ideal.Value
public import proofs.«01_k».proof.Proof.Gen.Reference5Ideal.Run
public import proofs.«01_k».proof.Proof.Gen.Kernel5Ideal
public import proofs.«01_k».proof.Proof.Gen.Reference5Ideal
public import Idealize.ShloMosaic.Lib.Pipeline.ValueKit
public import Idealize.ShloMosaic.Lib.Pointwise
public import Idealize.ShloMosaic.Lib.Claim
public import Idealize.ShloMosaic.Lib.Routing.OpsSet

@[expose] public section

set_option maxRecDepth 16384

noncomputable section
open Idealize.ShloMosaic Idealize.ShloMosaic.TcCoe Idealize.SL.Sem
open Idealize.ShloMosaic.Pipeline (Dat)

/-! The input projection of the even layer, with its head norms. -/

namespace Cert.Kernel5Ideal.Proj
open Cert.Kernel5Ideal Cert.Kernel5Ideal.Gen

/-- The factor of a head norm, from the sum of the squares. -/
def rs (s : EReal) : EReal := Ideal.rsqrt (s * ((1 / 192 : ℝ) : EReal) + Ideal.ofBits .f32 0x358637BD#32)

/-- The named constant is 1/192. -/
theorem inv_192 : (Named.named (F := Ideal) (φ := .f32) κ "inv_192" 0x3BAAAAAB#32 : EReal) = ((1 / 192 : ℝ) : EReal) :=
  IdealRules.named_const.ideal_named_scalar _ _ _ _ rfl

/-- The factors of the three heads of a tile, entry by entry. -/
theorem norm_at (x0 : Vec Ideal S1024x4096 .bf16) (x1 : Vec Ideal S4096x768 .bf16) (r : Fin 1024) (j : Fin 768) :
    k0_pay3 x0 x1 (ix2 r j) = rs (∑ k : Fin 256, k0_pay2 x0 x1 (ix2 r ⟨256 * (j.val / 256) + k.val, by omega⟩) * k0_pay2 x0 x1 (ix2 r ⟨256 * (j.val / 256) + k.val, by omega⟩)) := by
  have hs : ∀ k : Fin 256, (k0_pay2 x0 x1 (ix2 r ⟨256 * (j.val / 256) + k.val, by omega⟩) * k0_pay2 x0 x1 (ix2 r ⟨256 * (j.val / 256) + k.val, by omega⟩) : EReal)
      = (mulf (k0_pay2 x0 x1) (k0_pay2 x0 x1) : FVec Ideal S1024x768 .f32) (ix2 r ⟨256 * (j.val / 256) + k.val, by omega⟩) := fun _ => rfl
  simp only [hs]
  unfold k0_pay3
  generalize (mulf (k0_pay2 x0 x1) (k0_pay2 x0 x1) : FVec Ideal S1024x768 .f32) = v
  pointwise
  simp only [inv_192, rs]
  have hsum : ∀ f : Fin 256 → EReal, ∑ k, f k = ∑ l : Fin 128, (f ⟨l.val, by omega⟩ + f ⟨128 + l.val, by omega⟩) := by
    intro f
    rw [Finset.sum_add_distrib, Fin.sum_univ_add (a := 128) (b := 128)]
    rfl
  rw [hsum]
  split_ifs with h1 h2
  all_goals refine congrArg (fun s => Ideal.rsqrt (s * _ + _)) (Finset.sum_congr rfl fun k _ => congrArg₂ (fun x y => v (ix2 r x) + v (ix2 r y)) (Fin.ext ?_) (Fin.ext ?_))
  all_goals simp
  all_goals omega

/-- The end of the body, entry by entry. -/
theorem tail_at (v p : FVec Ideal S1024x768 .f32) (flag gain : Vec Ideal S1x768 .f32) (r : Fin 1024) (j : Fin 768) :
    k0_pay1 v p flag gain (ix2 r j) = (v (ix2 r j) * (if 0 < flag (ix2 0 j) then p (ix2 r j) else 1) * gain (ix2 0 j) : EReal) := by
  pointwise [k0_pay1]

/-- The projection before the norm. -/
theorem lin_at (x0 : Vec Ideal S1024x4096 .bf16) (x1 : Vec Ideal S4096x768 .bf16)
    (r : Fin 1024) (j : Fin 768) : k0_pay2 x0 x1 (ix2 r j) = (∑ k, x0 (ix2 r k) * x1 (ix2 k j) : EReal) := by
  pointwise [k0_pay2]

/-- What the body stores, entry by entry. -/
theorem pay_at (x0 : Vec Ideal S1024x4096 .bf16) (x1 : Vec Ideal S4096x768 .bf16) (x2 x3 : Vec Ideal S1x768 .f32)
    (r : Fin 1024) (j : Fin 768) : out0_4 x0 x1 x2 x3 (ix2 r j)
      = (k0_pay2 x0 x1 (ix2 r j) * (if 0 < x3 (ix2 0 j) then
          rs (∑ k : Fin 256, k0_pay2 x0 x1 (ix2 r ⟨256 * (j.val / 256) + k.val, by omega⟩) * k0_pay2 x0 x1 (ix2 r ⟨256 * (j.val / 256) + k.val, by omega⟩))
          else 1) * x2 (ix2 0 j) : EReal) := by
  unfold out0_4
  frame_out
  rw [tail_at, norm_at]

/-- The columns as the kernel lays them out, of a function of the weights' columns: every head of queries and keys padded to 256 lanes, then the queries' and
    keys' latents, the rotary keys and the same with their halves swapped, the values, the gates and a padding. -/
def lay (f : Fin 8560 → EReal) (c : Fin 10752) : EReal :=
  if h : c.val < 4096 then (if h' : c.val % 256 < 192 then f ⟨192 * (c.val / 256) + c.val % 256, by omega⟩ else 0)
  else if h : c.val < 5120 then (if h' : c.val % 256 < 192 then f ⟨3072 + 192 * ((c.val - 4096) / 256) + c.val % 256, by omega⟩ else 0)
  else if h : c.val < 6144 then (if h' : c.val % 256 < 192 then f ⟨4352 + 192 * ((c.val - 5120) / 256) + c.val % 256, by omega⟩ else 0)
  else if h : c.val < 7168 then (if h' : c.val % 256 < 192 then f ⟨5632 + 192 * ((c.val - 6144) / 256) + c.val % 256, by omega⟩ else 0)
  else if h : c.val < 8192 then f ⟨c.val - 208, by omega⟩
  else if h : c.val < 8704 then f ⟨c.val - 208, by omega⟩
  else if h : c.val < 8768 then f ⟨c.val - 208, by omega⟩
  else if h : c.val < 8800 then f ⟨c.val - 240, by omega⟩
  else if h : c.val < 8832 then f ⟨c.val - 304, by omega⟩
  else if h : c.val < 9344 then f ⟨c.val - 4992, by omega⟩
  else if h : c.val < 9856 then f ⟨c.val - 4224, by omega⟩
  else if h : c.val < 10368 then f ⟨c.val - 3456, by omega⟩
  else if h : c.val < 10416 then f ⟨c.val - 3456, by omega⟩
  else 0

/-- A sum of products with a choice is the choice of the sums. -/
theorem sum_dite {P : Prop} [Decidable P] (x : Fin 4096 → EReal) (a : P → Fin 4096 → EReal) (b : ¬ P → Fin 4096 → EReal) (A : P → EReal) (B : ¬ P → EReal)
    (ha : ∀ h, ∑ k, x k * a h k = A h) (hb : ∀ h, ∑ k, x k * b h k = B h) :
    ∑ k, x k * (if h : P then a h k else b h k) = if h : P then A h else B h := by
  by_cases h : P
  · simp only [dif_pos h, ha]
  · simp only [dif_neg h, hb]

/-- Laying out the weights lays out the products with them. -/
theorem lay_dot (x : Fin 4096 → EReal) (W : Fin 4096 → Fin 8560 → EReal) (c : Fin 10752) :
    ∑ k, x k * lay (W k) c = lay (fun j => ∑ k, x k * W k j) c := by
  have h0 : ∑ k, x k * 0 = (0 : EReal) := by simp only [mul_zero, Finset.sum_const_zero]
  unfold lay
  iterate 13
    refine sum_dite x _ _ _ _ (fun _ => ?_) (fun _ => ?_)
    first | rfl | exact sum_dite x _ _ _ _ (fun _ => rfl) (fun _ => h0)
  exact h0

variable (m : (ℓ : Loc nD τ sig) → Buf (Elt Ideal) ℓ)

/-- Where each grid point's blocks lie. -/
theorem idx : ∀ t : Fin cfg0.N,
    win0_0.index t = ![(grid0.coords t 0).val, 0]
    ∧ win0_1.index t = ![0, (grid0.coords t 1).val]
    ∧ win0_2.index t = ![0, (grid0.coords t 1).val]
    ∧ win0_3.index t = ![0, (grid0.coords t 1).val]
    ∧ win0_4.index t = ![(grid0.coords t 0).val, (grid0.coords t 1).val]
    ∧ (grid0.coords t 0).val < 8 ∧ (grid0.coords t 1).val < 14 :=
  (by decide +kernel : ∀ t : Fin grid0.N, _)

/-- The block of the layer's input at a grid point. -/
theorem iblk0_at (c : Dev nD) (t : Fin cfg0.N) (r : Fin 1024) (k : Fin 4096) :
    (iblk m c 0 t : Vec Ideal S1024x4096 .bf16) (ix2 r k) = (V m c main_v1 : FVec Ideal S8192x4096 .bf16) (ix2 ⟨1024 * (grid0.coords t 0).val + r.val, by have := (idx t).2.2.2.2.2; omega⟩ k) := by
  blk_simp [iblk]
  generalize V m c main_v1 = A
  blk_ext [idx t]
  all_goals omega

/-- The block of the weights. -/
theorem iblk1_at (c : Dev nD) (t : Fin cfg0.N) (k : Fin 4096) (j : Fin 768) :
    (iblk m c 1 t : Vec Ideal S4096x768 .bf16) (ix2 k j) = (V m c main_v31 : FVec Ideal S4096x10752 .bf16) (ix2 k ⟨768 * (grid0.coords t 1).val + j.val, by have := (idx t).2.2.2.2.2; omega⟩) := by
  blk_simp [iblk]
  generalize V m c main_v31 = A
  blk_ext [idx t]
  all_goals omega

/-- Two choices agree if their conditions do and their branches do. -/
theorem pick {α : Type} {P Q : Prop} [Decidable P] [Decidable Q] {a : P → α} {b : ¬ P → α} {a' : Q → α} {b' : ¬ Q → α} (h : P ↔ Q)
    (ha : ∀ p q, a p = a' q) (hb : ∀ p q, b p = b' q) : (if h : P then a h else b h) = if h : Q then a' h else b' h := by
  by_cases p : P
  · rw [dif_pos p, dif_pos (h.1 p), ha p (h.1 p)]
  · rw [dif_neg p, dif_neg (fun q => p (h.2 q)), hb p (fun q => p (h.2 q))]

/-- The padding's zero. -/
theorem pad_zero (φ : FTy) : (FloatOps.sitofp (F := Ideal) φ 0#32 : EReal) = 0 := by
  show (((0#32 : BitVec 32).toInt : ℝ) : EReal) = 0
  simp

set_option maxHeartbeats 1000000 in
set_option maxRecDepth 65536 in
/-- The weights as the kernel gets them. -/
theorem entry_w (c : Dev nD) (k : Fin 4096) (j : Fin 10752) :
    (V m c main_v31 : FVec Ideal S4096x10752 .bf16) (ix2 k j) = lay (fun j => m ((c : Thread nD τ).loc main_arg1) (ix2 k j)) j := by
  have e : (V m c main_v31 : FVec Ideal S4096x10752 .bf16) =
      (concatenate S4096x10752 1 [
      ⟨S4096x4096, shapeCast S4096x4096 (pad S4096x16x256 ![0, 0, 0] ![0, 0, 64] ![0, 0, 0] (shapeCast S4096x16x192 (extractStridedSlice S4096x3072 ![0, 0] (truncf (F := Ideal) .bf16 (m ((c : Thread nD τ).loc main_arg1) : FVec Ideal S4096x8560 .f32) bitsLt_bf16_f32) slices_S4096x8560_S4096x3072_0_0) shapeCasts_S4096x3072_S4096x16x192) (sitofp (F := Ideal) .bf16 (constantI S_ 32 0#32)) pads_S4096x16x192_S4096x16x256_000_000_0640 h_S_) shapeCasts_S4096x16x256_S4096x4096⟩,
      ⟨S4096x1024, shapeCast S4096x1024 (pad S4096x4x256 ![0, 0, 0] ![0, 0, 64] ![0, 0, 0] (shapeCast S4096x4x192 (extractStridedSlice S4096x768 ![0, 3072] (truncf (F := Ideal) .bf16 (m ((c : Thread nD τ).loc main_arg1) : FVec Ideal S4096x8560 .f32) bitsLt_bf16_f32) slices_S4096x8560_S4096x768_0_3072) shapeCasts_S4096x768_S4096x4x192) (sitofp (F := Ideal) .bf16 (constantI S_ 32 0#32)) pads_S4096x4x192_S4096x4x256_000_000_0640 h_S_) shapeCasts_S4096x4x256_S4096x1024⟩,
      ⟨S4096x1024, shapeCast S4096x1024 (pad S4096x4x256 ![0, 0, 0] ![0, 0, 64] ![0, 0, 0] (shapeCast S4096x4x192 (extractStridedSlice S4096x768 ![0, 4352] (truncf (F := Ideal) .bf16 (m ((c : Thread nD τ).loc main_arg1) : FVec Ideal S4096x8560 .f32) bitsLt_bf16_f32) slices_S4096x8560_S4096x768_0_4352) shapeCasts_S4096x768_S4096x4x192) (sitofp (F := Ideal) .bf16 (constantI S_ 32 0#32)) pads_S4096x4x192_S4096x4x256_000_000_0640 h_S_) shapeCasts_S4096x4x256_S4096x1024⟩,
      ⟨S4096x1024, shapeCast S4096x1024 (pad S4096x4x256 ![0, 0, 0] ![0, 0, 64] ![0, 0, 0] (shapeCast S4096x4x192 (extractStridedSlice S4096x768 ![0, 5632] (truncf (F := Ideal) .bf16 (m ((c : Thread nD τ).loc main_arg1) : FVec Ideal S4096x8560 .f32) bitsLt_bf16_f32) slices_S4096x8560_S4096x768_0_5632) shapeCasts_S4096x768_S4096x4x192) (sitofp (F := Ideal) .bf16 (constantI S_ 32 0#32)) pads_S4096x4x192_S4096x4x256_000_000_0640 h_S_) shapeCasts_S4096x4x256_S4096x1024⟩,
      ⟨S4096x1024, extractStridedSlice S4096x1024 ![0, 6960] (truncf (F := Ideal) .bf16 (m ((c : Thread nD τ).loc main_arg1) : FVec Ideal S4096x8560 .f32) bitsLt_bf16_f32) slices_S4096x8560_S4096x1024_0_6960⟩,
      ⟨S4096x512, extractStridedSlice S4096x512 ![0, 0] (extractStridedSlice S4096x576 ![0, 7984] (truncf (F := Ideal) .bf16 (m ((c : Thread nD τ).loc main_arg1) : FVec Ideal S4096x8560 .f32) bitsLt_bf16_f32) slices_S4096x8560_S4096x576_0_7984) slices_S4096x576_S4096x512_0_0⟩,
      ⟨S4096x64, extractStridedSlice S4096x64 ![0, 512] (extractStridedSlice S4096x576 ![0, 7984] (truncf (F := Ideal) .bf16 (m ((c : Thread nD τ).loc main_arg1) : FVec Ideal S4096x8560 .f32) bitsLt_bf16_f32) slices_S4096x8560_S4096x576_0_7984) slices_S4096x576_S4096x64_0_512⟩,
      ⟨S4096x64, concatenate S4096x64 1 [⟨S4096x32, extractStridedSlice S4096x32 ![0, 32] (extractStridedSlice S4096x64 ![0, 512] (extractStridedSlice S4096x576 ![0, 7984] (truncf (F := Ideal) .bf16 (m ((c : Thread nD τ).loc main_arg1) : FVec Ideal S4096x8560 .f32) bitsLt_bf16_f32) slices_S4096x8560_S4096x576_0_7984) slices_S4096x576_S4096x64_0_512) slices_S4096x64_S4096x32_0_32⟩,
        ⟨S4096x32, extractStridedSlice S4096x32 ![0, 0] (extractStridedSlice S4096x64 ![0, 512] (extractStridedSlice S4096x576 ![0, 7984] (truncf (F := Ideal) .bf16 (m ((c : Thread nD τ).loc main_arg1) : FVec Ideal S4096x8560 .f32) bitsLt_bf16_f32) slices_S4096x8560_S4096x576_0_7984) slices_S4096x576_S4096x64_0_512) slices_S4096x64_S4096x32_0_0⟩] concatenates_S4096x32_S4096x32_S4096x64_d1⟩,
      ⟨S4096x512, extractStridedSlice S4096x512 ![0, 3840] (truncf (F := Ideal) .bf16 (m ((c : Thread nD τ).loc main_arg1) : FVec Ideal S4096x8560 .f32) bitsLt_bf16_f32) slices_S4096x8560_S4096x512_0_3840⟩,
      ⟨S4096x512, extractStridedSlice S4096x512 ![0, 5120] (truncf (F := Ideal) .bf16 (m ((c : Thread nD τ).loc main_arg1) : FVec Ideal S4096x8560 .f32) bitsLt_bf16_f32) slices_S4096x8560_S4096x512_0_5120⟩,
      ⟨S4096x512, extractStridedSlice S4096x512 ![0, 6400] (truncf (F := Ideal) .bf16 (m ((c : Thread nD τ).loc main_arg1) : FVec Ideal S4096x8560 .f32) bitsLt_bf16_f32) slices_S4096x8560_S4096x512_0_6400⟩,
      ⟨S4096x48, extractStridedSlice S4096x48 ![0, 6912] (truncf (F := Ideal) .bf16 (m ((c : Thread nD τ).loc main_arg1) : FVec Ideal S4096x8560 .f32) bitsLt_bf16_f32) slices_S4096x8560_S4096x48_0_6912⟩,
      ⟨S4096x336, broadcastInDim S4096x336 ![] bcast_S_S4096x336 (constant (F := Ideal) S_ .bf16 0x0000#16)⟩]
      concatenates_S4096x4096_S4096x1024_S4096x1024_S4096x1024_S4096x1024_S4096x512_S4096x64_S4096x64_S4096x512_S4096x512_S4096x512_S4096x48_S4096x336_S4096x10752_d1 : FVec Ideal S4096x10752 .bf16) := by
    simp only [V, hostOps0, hostOps0_1, hostOps0_2, hostOps0_3, hostOps0_4, hostOps0_5, hostOps0_6, hostOps0_7, hostOps0_8, hostOps0_9, hostOps0_10, hostOps0_11,
      hostOps0_12, hostOps0_13, hostOps0_14, List.flatten_cons, List.flatten_nil, List.append_nil, List.cons_append, List.nil_append,
      StableHlo.TRef.binary, StableHlo.TRef.unary, StableHlo.TRef.toBuf, StableHlo.TRef.ofBuf, cast_eq]
    after_results_simp <;> (try dsimp only [Matrix.cons_val]) <;> (try after_results_simp) <;> rfl
  rw [e]
  generalize m ((c : Thread nD τ).loc main_arg1) = W
  clear e
  pointwise
  generalize_proofs
  simp only [pad_zero]
  have hw : ∀ a b : Fin 8560, a.val = b.val → W (ix2 k a) = W (ix2 k b) := fun a b h => congrArg (fun x => W (ix2 k x)) (Fin.ext h)
  unfold lay
  iterate 4
    refine pick (by omega) (fun p q => pick (by omega) (fun p' q' => hw _ _ (by simp only []; omega)) (fun _ _ => rfl)) (fun p q => ?_)
  iterate 3
    refine pick (by omega) (fun p q => hw _ _ (by simp only []; omega)) (fun p q => ?_)
  by_cases h : j.val < 8832
  · rw [dif_pos (by omega)]
    refine pick (by omega) (fun p q => hw _ _ (by simp only []; omega)) (fun p q => ?_)
    rw [dif_pos h]
    exact hw _ _ (by simp only []; omega)
  rw [dif_neg (by omega), dif_neg (show ¬ j.val < 8800 by omega), dif_neg h]
  iterate 4
    refine pick (by omega) (fun p q => hw _ _ (by simp only []; omega)) (fun p q => ?_)
  rfl

/-- The layer's input as the kernel gets it. -/
theorem entry_x (c : Dev nD) (r : Fin 8192) (k : Fin 4096) :
    (V m c main_v1 : FVec Ideal S8192x4096 .bf16) (ix2 r k) = m ((c : Thread nD τ).loc main_arg0) (ix3 ⟨r.val / 2048, by omega⟩ ⟨r.val % 2048, by omega⟩ k) := by
  simp only [V, hostOps0, hostOps0_1, hostOps0_2, hostOps0_3, hostOps0_4, hostOps0_5, hostOps0_6, hostOps0_7, hostOps0_8, hostOps0_9, hostOps0_10, hostOps0_11,
    hostOps0_12, hostOps0_13, hostOps0_14, List.flatten_cons, List.flatten_nil, List.append_nil, List.cons_append, List.nil_append,
    StableHlo.TRef.binary, StableHlo.TRef.unary, StableHlo.TRef.toBuf, StableHlo.TRef.ofBuf, cast_eq]
  entry_read
  pointwise

set_option maxHeartbeats 1000000 in
set_option maxRecDepth 65536 in
/-- The flags as the kernel gets them: set for the columns of the queries and of the selected and the window keys. -/
theorem entry_f (c : Dev nD) (j : Fin 10752) :
    (V m c main_v68 : FVec Ideal S1x10752 .f32) (ix2 0 j) = (if j.val < 4096 ∨ (5120 ≤ j.val ∧ j.val < 7168) then 1 else 0 : EReal) := by
  simp only [V, hostOps0, hostOps0_1, hostOps0_2, hostOps0_3, hostOps0_4, hostOps0_5, hostOps0_6, hostOps0_7, hostOps0_8, hostOps0_9, hostOps0_10, hostOps0_11,
    hostOps0_12, hostOps0_13, hostOps0_14, List.flatten_cons, List.flatten_nil, List.append_nil, List.cons_append, List.nil_append,
    StableHlo.TRef.binary, StableHlo.TRef.unary, StableHlo.TRef.toBuf, StableHlo.TRef.ofBuf, cast_eq]
  entry_read
  pointwise
  have e : IntOp.ori (IntOp.cmpi .slt (BitVec.ofNat 32 j.val) 4096#32)
      (IntOp.andi (IntOp.cmpi .sge (BitVec.ofNat 32 j.val) 5120#32) (IntOp.cmpi .slt (BitVec.ofNat 32 j.val) 7168#32))
      = if j.val < 4096 ∨ (5120 ≤ j.val ∧ j.val < 7168) then 1#1 else 0#1 :=
    (by decide +kernel : ∀ j : Fin 10752, IntOp.ori (IntOp.cmpi .slt (BitVec.ofNat 32 j.val) 4096#32)
      (IntOp.andi (IntOp.cmpi .sge (BitVec.ofNat 32 j.val) 5120#32) (IntOp.cmpi .slt (BitVec.ofNat 32 j.val) 7168#32))
      = if j.val < 4096 ∨ (5120 ≤ j.val ∧ j.val < 7168) then 1#1 else 0#1) j
  rw [e]
  split_ifs
  · show (((1#1 : BitVec 1).toNat : ℝ) : EReal) = 1
    simp
  · show (((0#1 : BitVec 1).toNat : ℝ) : EReal) = 0
    simp

/-- A scatter whose updates all go in one window lands each at the window's start plus its place. -/
theorem lands {M : Nat} (d : ScatterDims S10752 S1 (Routing.shape1 M)) (hu : d.updateWindowDims = [0]) (hn : d.insertedWindowDims = [])
    (hs : d.scatterDimsToOperandDims = [0]) (i : IVec S1 32) (o : Nat) (hi : ∀ z, (i z).toInt = o) (k : Fin M) (j : Fin 10752) :
    d.resultIdx? (ix1 k) i = some (ix1 j) ↔ o + k.val = j.val := by
  obtain ⟨u, n, sd, iv, wf⟩ := d
  subst hu hn hs
  have h1 : ∀ a, ScatterDims.start ⟨[0], [], [0], iv, wf⟩ (ix1 k) i a = o := by
    intro a
    unfold ScatterDims.start
    rw [dif_pos (by fin_cases a; exact List.mem_singleton.2 rfl), hi]
  have h2 : ∀ a, ScatterDims.window ⟨[0], [], [0], iv, wf⟩ (ix1 k : (Routing.shape1 M).Idx) a = k.val := by
    intro a
    fin_cases a
    rfl
  unfold ScatterDims.resultIdx?
  simp only [h1, h2]
  split_ifs with h
  · rw [Option.some.injEq]
    refine ⟨fun e => ?_, fun e => ?_⟩
    · have := congrArg Fin.val (congrFun e 0)
      simp [ix1] at this
      omega
    · funext a
      fin_cases a
      exact Fin.ext (by simp [ix1]; omega)
  · refine ⟨fun e => (nomatch e), fun e => absurd (fun a => ?_) h⟩
    fin_cases a
    have := j.isLt
    refine ⟨by positivity, ?_⟩
    show ((o : Int) + k.val) < (10752 : Nat)
    omega

/-- Such a scatter, its body returning the update: the updates in the window, the operand outside. -/
theorem band {M : Nat} (d : ScatterDims S10752 S1 (Routing.shape1 M)) (hu : d.updateWindowDims = [0]) (hn : d.insertedWindowDims = [])
    (hs : d.scatterDimsToOperandDims = [0]) (x : FVec Ideal S10752 .f32) (i : IVec S1 32) (u : FVec Ideal (Routing.shape1 M) .f32) (o : Nat) (hi : ∀ z, (i z).toInt = o) (j : Fin 10752) :
    Host.scatter d (fun _ b => b) x i u (ix1 j) = if h : o ≤ j.val ∧ j.val - o < M then u (ix1 ⟨j.val - o, h.2⟩) else x (ix1 j) := by
  split_ifs with h
  · refine Routing.scatter_set_hit d x i u (ix1 j) _ (fun k hk => ?_) (ix1 ⟨j.val - o, h.2⟩) ((lands d hu hn hs i o hi _ _).2 (by simp only []; omega))
    obtain ⟨k0, rfl⟩ : ∃ k0 : Fin M, k = ix1 k0 := ⟨k 0, by funext a; fin_cases a; rfl⟩
    have := (lands d hu hn hs i o hi _ _).1 hk
    exact congrArg (fun z => u (ix1 z)) (Fin.ext (by simp only []; omega))
  · refine Routing.scatter_set_miss d x i u (ix1 j) (fun k hk => ?_)
    obtain ⟨k0, rfl⟩ : ∃ k0 : Fin M, k = ix1 k0 := ⟨k 0, by funext a; fin_cases a; rfl⟩
    have := (lands d hu hn hs i o hi _ _).1 hk
    have := k0.isLt
    exact h (by omega)

/-- The gain of a column: the queries' with the scores' scale, the selected and the window keys', zero on the lanes that pad a head, and one elsewhere. -/
def gain (Q : FVec Ideal S192 .f32) (K : FVec Ideal S3x192 .f32) (c : Fin 10752) : EReal :=
  if c.val < 4096 then (if h : c.val % 256 < 192 then Q (ix1 ⟨c.val % 256, h⟩) * Ideal.ofBits .f32 0x3D93CD3A#32 else 0)
  else if c.val < 5120 then 1
  else if c.val < 6144 then (if h : c.val % 256 < 192 then K (ix2 1 ⟨c.val % 256, h⟩) else 0)
  else if c.val < 7168 then (if h : c.val % 256 < 192 then K (ix2 2 ⟨c.val % 256, h⟩) else 0)
  else 1

set_option maxHeartbeats 1000000 in
set_option maxRecDepth 65536 in
/-- The gains as the kernel gets them. -/
theorem entry_g (c : Dev nD) (j : Fin 10752) :
    (V m c main_v67 : FVec Ideal S1x10752 .f32) (ix2 0 j) = gain (m ((c : Thread nD τ).loc main_arg2)) (m ((c : Thread nD τ).loc main_arg3)) j := by
  have e : (V m c main_v67 : FVec Ideal S1x10752 .f32) =
      (shapeCast S1x10752 (Host.scatter scatter_S10752_S1_S1024_0_n_0_0 (fun _ b => b)
        (Host.scatter scatter_S10752_S1_S1024_0_n_0_0 (fun _ b => b)
          (Host.scatter scatter_S10752_S1_S4096_0_n_0_0 (fun _ b => b) (broadcastInDim S10752 ![] bcast_S_S10752 (constant (F := Ideal) S_ .f32 0x3F800000#32))
            (broadcastInDim S1 ![] bcast_S_S1 (constantI S_ 32 0#32))
            (shapeCast S4096 (broadcastInDim S16x256 ![0, 1] bcast_S1x256_S16x256_0_1 (shapeCast S1x256 (pad S256 ![0] ![64] ![0]
              (mulf (F := Ideal) (s := S192) (m ((c : Thread nD τ).loc main_arg2) : FVec Ideal S192 .f32) (broadcastInDim S192 ![] bcast_S_S192 (constant (F := Ideal) S_ .f32 0x3D93CD3A#32)) : FVec Ideal S192 .f32)
              (sitofp (F := Ideal) .f32 (constantI S_ 32 0#32)) pads_S192_S256_0640 h_S_) shapeCasts_S256_S1x256)) shapeCasts_S16x256_S4096))
          (broadcastInDim S1 ![] bcast_S_S1 (constantI S_ 32 5120#32))
          (shapeCast S1024 (broadcastInDim S4x256 ![0, 1] bcast_S1x256_S4x256_0_1 (shapeCast S1x256 (pad S256 ![0] ![64] ![0]
            (shapeCast S192 (extractStridedSlice S1x192 ![1, 0] (m ((c : Thread nD τ).loc main_arg3) : FVec Ideal S3x192 .f32) slices_S3x192_S1x192_1_0) shapeCasts_S1x192_S192)
            (sitofp (F := Ideal) .f32 (constantI S_ 32 0#32)) pads_S192_S256_0640 h_S_) shapeCasts_S256_S1x256)) shapeCasts_S4x256_S1024))
        (broadcastInDim S1 ![] bcast_S_S1 (constantI S_ 32 6144#32))
        (shapeCast S1024 (broadcastInDim S4x256 ![0, 1] bcast_S1x256_S4x256_0_1 (shapeCast S1x256 (pad S256 ![0] ![64] ![0]
          (shapeCast S192 (extractStridedSlice S1x192 ![2, 0] (m ((c : Thread nD τ).loc main_arg3) : FVec Ideal S3x192 .f32) slices_S3x192_S1x192_2_0) shapeCasts_S1x192_S192)
          (sitofp (F := Ideal) .f32 (constantI S_ 32 0#32)) pads_S192_S256_0640 h_S_) shapeCasts_S256_S1x256)) shapeCasts_S4x256_S1024)) shapeCasts_S10752_S1x10752 : FVec Ideal S1x10752 .f32) := by
    simp only [V, hostOps0, hostOps0_1, hostOps0_2, hostOps0_3, hostOps0_4, hostOps0_5, hostOps0_6, hostOps0_7, hostOps0_8, hostOps0_9, hostOps0_10, hostOps0_11,
      hostOps0_12, hostOps0_13, hostOps0_14, List.flatten_cons, List.flatten_nil, List.append_nil, List.cons_append, List.nil_append,
      StableHlo.TRef.binary, StableHlo.TRef.unary, StableHlo.TRef.toBuf, StableHlo.TRef.ofBuf, cast_eq]
    after_results_simp <;> (try dsimp only [Matrix.cons_val]) <;> (try after_results_simp) <;> rfl
  rw [e]
  clear e
  obtain ⟨Q, hQ⟩ : ∃ Q : FVec Ideal S192 .f32, Q = m ((c : Thread nD τ).loc main_arg2) := ⟨_, rfl⟩
  obtain ⟨K, hK⟩ : ∃ K : FVec Ideal S3x192 .f32, K = m ((c : Thread nD τ).loc main_arg3) := ⟨_, rfl⟩
  rw [← hQ, ← hK]
  generalize hq : (shapeCast S4096 _ _ : FVec Ideal S4096 .f32) = q
  generalize hk1 : (shapeCast S1024 (broadcastInDim S4x256 ![0, 1] bcast_S1x256_S4x256_0_1 (shapeCast S1x256 (pad S256 ![0] ![64] ![0]
            (shapeCast S192 (extractStridedSlice S1x192 ![1, 0] K slices_S3x192_S1x192_1_0) _) _ _ _) _)) _ : FVec Ideal S1024 .f32) = k1
  generalize hk2 : (shapeCast S1024 _ _ : FVec Ideal S1024 .f32) = k2
  have eq : ∀ j : Fin 4096, q (ix1 j) = (if h : j.val % 256 < 192 then Q (ix1 ⟨j.val % 256, h⟩) * Ideal.ofBits .f32 0x3D93CD3A#32 else 0 : EReal) := by
    intro j
    rw [← hq]
    pointwise
    simp only [pad_zero]
  have ek1 : ∀ j : Fin 1024, k1 (ix1 j) = (if h : j.val % 256 < 192 then K (ix2 1 ⟨j.val % 256, h⟩) else 0 : EReal) := by
    intro j
    rw [← hk1]
    pointwise
    simp only [pad_zero]
  have ek2 : ∀ j : Fin 1024, k2 (ix1 j) = (if h : j.val % 256 < 192 then K (ix2 2 ⟨j.val % 256, h⟩) else 0 : EReal) := by
    intro j
    rw [← hk2]
    pointwise
    simp only [pad_zero]
  clear hq hk1 hk2
  generalize hz : (Host.scatter scatter_S10752_S1_S1024_0_n_0_0 (fun _ b => b) (Host.scatter scatter_S10752_S1_S1024_0_n_0_0 (fun _ b => b) _ _ k1) _ k2 : FVec Ideal S10752 .f32) = z
  pointwise
  rw [← hz]
  have h3 := band scatter_S10752_S1_S1024_0_n_0_0 rfl rfl rfl
  have h4 := band scatter_S10752_S1_S4096_0_n_0_0 rfl rfl rfl
  rw [h3 _ _ _ 6144 (fun _ => rfl), h3 _ _ _ 5120 (fun _ => rfl), h4 _ _ _ 0 (fun _ => rfl)]
  simp only [eq, ek1, ek2]
  have e1 : (broadcastInDim S10752 ![] bcast_S_S10752 (constant (F := Ideal) S_ .f32 0x3F800000#32) : FVec Ideal S10752 .f32) (ix1 j) = (1 : EReal) := by pointwise
  rw [e1]
  unfold gain
  by_cases c1 : j.val < 4096
  · rw [dif_neg (by omega), dif_neg (by omega), dif_pos (by omega), if_pos c1]
    rfl
  by_cases c2 : j.val < 5120
  · rw [dif_neg (by omega), dif_neg (by omega), dif_neg (by omega), if_neg c1, if_pos c2]
  by_cases c3 : j.val < 6144
  · rw [dif_neg (by omega), dif_pos (by omega), if_neg c1, if_neg c2, if_pos c3]
    refine pick (by omega) (fun p q => congrArg (fun x => K (ix2 1 x)) (Fin.ext (by simp only []; omega))) (fun _ _ => rfl)
  by_cases c4 : j.val < 7168
  · rw [dif_pos (by omega), if_neg c1, if_neg c2, if_neg c3, if_pos c4]
    refine pick (by omega) (fun p q => congrArg (fun x => K (ix2 2 x)) (Fin.ext (by simp only []; omega))) (fun _ _ => rfl)
  rw [dif_neg (by omega), dif_neg (by omega), dif_neg (by omega), if_neg c1, if_neg c2, if_neg c3, if_neg c4]

/-- The reference's projection before the norm, at a row and a weights' column. -/
def lin (X : FVec Ideal S4x2048x4096 .f32) (W : FVec Ideal S4096x8560 .f32) (r : Fin 8192) (j : Fin 8560) : EReal :=
  ∑ k, X (ix3 ⟨r.val / 2048, by omega⟩ ⟨r.val % 2048, by omega⟩ k) * W (ix2 k j)

/-- The result at a row and a column: the projection laid out, for the queries and the selected and the window keys with its head's norm, times the gain. -/
def val (L : Fin 8560 → EReal) (Q : FVec Ideal S192 .f32) (K : FVec Ideal S3x192 .f32) (c : Fin 10752) : EReal :=
  lay L c * (if c.val < 4096 ∨ (5120 ≤ c.val ∧ c.val < 7168) then
      rs (∑ k : Fin 256, lay L ⟨256 * (c.val / 256) + k.val, by omega⟩ * lay L ⟨256 * (c.val / 256) + k.val, by omega⟩) else 1)
    * gain Q K c

/-- A mean over a head's 192 lanes is the sum times 1/192. -/
theorem div_192 (s : EReal) : Ideal.rsqrt (Ideal.div s (Ideal.ofBits .f32 0x43400000#32) + Ideal.ofBits .f32 0x358637BD#32) = rs s := by
  have h : Ideal.ofBits .f32 0x43400000#32 = ((192 : ℝ) : EReal) := by
    simp [Ideal.ofBits, Ideal.ieee, -EReal.coe_mul]; norm_num
  rw [rs, h, Ideal.div_coe (by norm_num)]

/-- The sum of the squares over a padded head is the one over the head. -/
theorem sum_pad (p : Fin 192 → EReal) (g : Fin 256 → EReal) (hg : ∀ k, g k = if h : k.val < 192 then p ⟨k.val, h⟩ else 0) :
    ∑ k, g k * g k = ∑ k, p k * p k := by
  rw [Fin.sum_univ_add (a := 192) (b := 64)]
  have h0 : ∀ k : Fin 192, g (Fin.castAdd 64 k) = p k := fun k => (hg _).trans (dif_pos k.isLt)
  have h1 : ∀ k : Fin 64, g (Fin.natAdd 192 k) = 0 := fun k => (hg _).trans (dif_neg (by simp))
  simp only [h0, h1, mul_zero, Finset.sum_const_zero, add_zero]

/-- The result in a normed head, `p` the head before the norm. -/
theorem val_head (f : Fin 8560 → EReal) (Q : FVec Ideal S192 .f32) (K : FVec Ideal S3x192 .f32) (c : Fin 10752) (p : Fin 192 → EReal)
    (hc : c.val < 4096 ∨ (5120 ≤ c.val ∧ c.val < 7168))
    (hp : ∀ k : Fin 256, lay f ⟨256 * (c.val / 256) + k.val, by omega⟩ = if h : k.val < 192 then p ⟨k.val, h⟩ else 0) :
    val f Q K c = if h : c.val % 256 < 192 then p ⟨c.val % 256, h⟩ * rs (∑ k, p k * p k) * gain Q K c else 0 := by
  have h0 := hp ⟨c.val % 256, by omega⟩
  have e : (⟨256 * (c.val / 256) + c.val % 256, by omega⟩ : Fin 10752) = c := Fin.ext (by simp only []; omega)
  simp only [e] at h0
  unfold val
  rw [if_pos hc, h0, sum_pad p (fun k => lay f ⟨256 * (c.val / 256) + k.val, by omega⟩) hp]
  by_cases h : c.val % 256 < 192
  · rw [dif_pos h, dif_pos h]
  · rw [dif_neg h, dif_neg h, zero_mul, zero_mul]

/-- The result where no head is normed. -/
theorem val_plain (f : Fin 8560 → EReal) (Q : FVec Ideal S192 .f32) (K : FVec Ideal S3x192 .f32) (c : Fin 10752)
    (hc : ¬ (c.val < 4096 ∨ (5120 ≤ c.val ∧ c.val < 7168))) : val f Q K c = lay f c := by
  unfold val gain
  rw [if_neg hc, mul_one, if_neg (by omega)]
  by_cases h : c.val < 5120
  · rw [if_pos h, mul_one]
  · rw [if_neg h, if_neg (by omega), if_neg (by omega), mul_one]

set_option maxHeartbeats 1000000 in
set_option maxRecDepth 65536 in
/-- The reference's result, entry by entry. -/
theorem ref_at (m : (ℓ : Loc Cert.Reference5Ideal.nD Cert.Reference5Ideal.τ Cert.Reference5Ideal.sig) → Buf (Elt Ideal) ℓ) (c : Dev Cert.Reference5Ideal.nD) (r : Fin 8192) (j : Fin 10752) :
    (Cert.Reference5Ideal.Value.res_out0 m c : FVec Ideal S8192x10752 .bf16) (ix2 r j)
      = val (lin (m ((c.tc : Thread _ _).loc Cert.Reference5Ideal.main_arg0)) (m ((c.tc : Thread _ _).loc Cert.Reference5Ideal.main_arg1)) r)
          (m ((c.tc : Thread _ _).loc Cert.Reference5Ideal.main_arg2)) (m ((c.tc : Thread _ _).loc Cert.Reference5Ideal.main_arg3)) j := by
  unfold Cert.Reference5Ideal.Value.res_out0 Cert.Reference5Ideal.Value.res_main_v75
  generalize hH : (shapeCast Cert.Reference5Ideal.S8192x8560 (Host.dotGeneral Cert.Reference5Ideal.dot_S4x2048x4096_S4096x8560_S4x2048x8560_2_0_01_1_n_n none _ _) _ : FVec Ideal Cert.Reference5Ideal.S8192x8560 .f32) = H
  have eH : ∀ (r : Fin 8192) (j : Fin 8560), H (ix2 r j)
      = lin (m ((c.tc : Thread _ _).loc Cert.Reference5Ideal.main_arg0)) (m ((c.tc : Thread _ _).loc Cert.Reference5Ideal.main_arg1)) r j := by
    intro r j
    rw [← hH]
    pointwise [lin]
  clear hH
  generalize lin (m ((c.tc : Thread _ _).loc Cert.Reference5Ideal.main_arg0)) (m ((c.tc : Thread _ _).loc Cert.Reference5Ideal.main_arg1)) = L at eH ⊢
  obtain ⟨Q, hQ⟩ : ∃ Q : FVec Ideal S192 .f32, Q = m ((c.tc : Thread _ _).loc Cert.Reference5Ideal.main_arg2) := ⟨_, rfl⟩
  obtain ⟨K, hK⟩ : ∃ K : FVec Ideal S3x192 .f32, K = m ((c.tc : Thread _ _).loc Cert.Reference5Ideal.main_arg3) := ⟨_, rfl⟩
  rw [← hQ, ← hK]
  generalize hY : (mulf (mulf (mulf _ _) _) _ : FVec Ideal Cert.Reference5Ideal.S8192x16x192 .f32) = Y
  generalize hZ1 : (mulf (mulf (shapeCast _ (extractStridedSlice Cert.Reference5Ideal.S8192x768 ![0, 4352] H Cert.Reference5Ideal.Facts₀.slices_S8192x8560_S8192x768_0_4352) _) _) _ : FVec Ideal Cert.Reference5Ideal.S8192x4x192 .f32) = Z1
  generalize hZ2 : (mulf (mulf _ _) _ : FVec Ideal Cert.Reference5Ideal.S8192x4x192 .f32) = Z2
  have eY : ∀ b h d, Y (ix3 b h d) = (L b ⟨192 * h.val + d.val, by omega⟩
      * rs (∑ k : Fin 192, L b ⟨192 * h.val + k.val, by omega⟩ * L b ⟨192 * h.val + k.val, by omega⟩) * Q (ix1 d) * Ideal.ofBits .f32 0x3D93CD3A#32 : EReal) := by
    intro b h d
    rw [← hY]
    simp only [← div_192, Nat.mul_comm 192, ← eH]
    pointwise
  have eZ1 : ∀ b h d, Z1 (ix3 b h d) = (L b ⟨4352 + (192 * h.val + d.val), by omega⟩
      * rs (∑ k : Fin 192, L b ⟨4352 + (192 * h.val + k.val), by omega⟩ * L b ⟨4352 + (192 * h.val + k.val), by omega⟩) * K (ix2 1 d) : EReal) := by
    intro b h d
    rw [← hZ1]
    simp only [← div_192, Nat.mul_comm 192, ← eH]
    pointwise
  have eZ2 : ∀ b h d, Z2 (ix3 b h d) = (L b ⟨5632 + (192 * h.val + d.val), by omega⟩
      * rs (∑ k : Fin 192, L b ⟨5632 + (192 * h.val + k.val), by omega⟩ * L b ⟨5632 + (192 * h.val + k.val), by omega⟩) * K (ix2 2 d) : EReal) := by
    intro b h d
    rw [← hZ2]
    simp only [← div_192, Nat.mul_comm 192, ← eH]
    pointwise
  clear hY hZ1 hZ2 hQ hK
  generalize hA : (shapeCast Cert.Reference5Ideal.S8192x4096 (pad _ _ _ _ Y _ _ _) _ : FVec Ideal Cert.Reference5Ideal.S8192x4096 .f32) = A
  generalize hC : (shapeCast Cert.Reference5Ideal.S8192x1024 (pad _ _ _ _ Z1 _ _ _) _ : FVec Ideal Cert.Reference5Ideal.S8192x1024 .f32) = C
  generalize hD : (shapeCast Cert.Reference5Ideal.S8192x1024 (pad _ _ _ _ Z2 _ _ _) _ : FVec Ideal Cert.Reference5Ideal.S8192x1024 .f32) = D
  generalize hB : (shapeCast Cert.Reference5Ideal.S8192x1024 (pad _ _ _ _ _ _ _ _) _ : FVec Ideal Cert.Reference5Ideal.S8192x1024 .f32) = B
  have eA : ∀ b d, A (ix2 b d) = (if h : d.val / 256 < 16 ∧ d.val % 256 < 192 then Y (ix3 b ⟨d.val / 256, h.1⟩ ⟨d.val % 256, h.2⟩) else 0 : EReal) := by
    intro b d
    rw [← hA]
    pointwise
    simp only [pad_zero]
  have eB : ∀ b d, B (ix2 b d) = (if h : d.val / 256 < 4 ∧ d.val % 256 < 192 then H (ix2 b ⟨3072 + (d.val / 256 * 192 + d.val % 256), by omega⟩) else 0 : EReal) := by
    intro b d
    rw [← hB]
    pointwise
    simp only [pad_zero]
  have eC : ∀ b d, C (ix2 b d) = (if h : d.val / 256 < 4 ∧ d.val % 256 < 192 then Z1 (ix3 b ⟨d.val / 256, h.1⟩ ⟨d.val % 256, h.2⟩) else 0 : EReal) := by
    intro b d
    rw [← hC]
    pointwise
    simp only [pad_zero]
  have eD : ∀ b d, D (ix2 b d) = (if h : d.val / 256 < 4 ∧ d.val % 256 < 192 then Z2 (ix3 b ⟨d.val / 256, h.1⟩ ⟨d.val % 256, h.2⟩) else 0 : EReal) := by
    intro b d
    rw [← hD]
    pointwise
    simp only [pad_zero]
  clear hA hB hC hD
  pointwise
  generalize_proofs
  by_cases c1 : j.val < 4096
  · rw [dif_pos c1, eA, val_head (L r) Q K j (fun k => L r ⟨192 * (j.val / 256) + k.val, by omega⟩) (by omega) (fun k => by
      unfold lay
      rw [dif_pos (by simp only []; omega)]
      exact pick (by simp only []; omega) (fun p q => congrArg (L r) (Fin.ext (by simp only []; omega))) (fun _ _ => rfl))]
    refine pick (by simp only []; omega) (fun p q => ?_) (fun _ _ => rfl)
    rw [eY]
    unfold gain
    rw [if_pos c1, dif_pos q, ← mul_assoc]
  rw [dif_neg c1]
  by_cases c2 : j.val < 5120
  · rw [dif_pos (by omega), eB, val_plain _ _ _ _ (by omega)]
    unfold lay
    rw [dif_neg c1, dif_pos c2]
    exact pick (by simp only []; omega) (fun p q => (eH _ _).trans (congrArg (L r) (Fin.ext (by simp only []; omega)))) (fun _ _ => rfl)
  rw [dif_neg (by omega)]
  by_cases c3 : j.val < 6144
  · rw [dif_pos (by omega), eC, val_head (L r) Q K j (fun k => L r ⟨4352 + (192 * ((j.val - 4096 - 1024) / 256) + k.val), by omega⟩) (by omega) (fun k => by
      unfold lay
      rw [dif_neg (by simp only []; omega), dif_neg (by simp only []; omega), dif_pos (by simp only []; omega)]
      exact pick (by simp only []; omega) (fun p q => congrArg (L r) (Fin.ext (by simp only []; omega))) (fun _ _ => rfl))]
    have hm : (j.val - 4096 - 1024) % 256 = j.val % 256 := by omega
    simp only [hm]
    refine pick (by omega) (fun p q => ?_) (fun _ _ => rfl)
    rw [eZ1]
    unfold gain
    rw [if_neg c1, if_neg c2, if_pos c3, dif_pos q]
  rw [dif_neg (by omega)]
  by_cases c4 : j.val < 7168
  · rw [dif_pos (by omega), eD, val_head (L r) Q K j (fun k => L r ⟨5632 + (192 * ((j.val - 4096 - 1024 - 1024) / 256) + k.val), by omega⟩) (by omega) (fun k => by
      unfold lay
      rw [dif_neg (by simp only []; omega), dif_neg (by simp only []; omega), dif_neg (by simp only []; omega), dif_pos (by simp only []; omega)]
      exact pick (by simp only []; omega) (fun p q => congrArg (L r) (Fin.ext (by simp only []; omega))) (fun _ _ => rfl))]
    have hm : (j.val - 4096 - 1024 - 1024) % 256 = j.val % 256 := by omega
    simp only [hm]
    refine pick (by omega) (fun p q => ?_) (fun _ _ => rfl)
    rw [eZ2]
    unfold gain
    rw [if_neg c1, if_neg c2, if_neg c3, if_pos c4, dif_pos q]
  rw [dif_neg (by omega), val_plain _ _ _ _ (by omega)]
  unfold lay
  rw [dif_neg c1, dif_neg c2, dif_neg c3, dif_neg c4]
  have hw : ∀ a b : Fin 8560, a.val = b.val → H (ix2 r a) = L r b := fun a b h => (eH r a).trans (congrArg (L r) (Fin.ext h))
  iterate 9
    refine pick (by omega) (fun p q => hw _ _ (by simp only []; omega)) (fun p q => ?_)
  rfl

/-- The block of the gains. -/
theorem iblk2_at (c : Dev nD) (t : Fin cfg0.N) (j : Fin 768) :
    (iblk m c 2 t : Vec Ideal S1x768 .f32) (ix2 0 j) = (V m c main_v67 : FVec Ideal S1x10752 .f32) (ix2 0 ⟨768 * (grid0.coords t 1).val + j.val, by have := (idx t).2.2.2.2.2; omega⟩) := by
  blk_simp [iblk]
  generalize V m c main_v67 = A
  blk_ext [idx t]
  all_goals omega

/-- The block of the flags. -/
theorem iblk3_at (c : Dev nD) (t : Fin cfg0.N) (j : Fin 768) :
    (iblk m c 3 t : Vec Ideal S1x768 .f32) (ix2 0 j) = (V m c main_v68 : FVec Ideal S1x10752 .f32) (ix2 0 ⟨768 * (grid0.coords t 1).val + j.val, by have := (idx t).2.2.2.2.2; omega⟩) := by
  blk_simp [iblk]
  generalize V m c main_v68 = A
  blk_ext [idx t]
  all_goals omega

/-- The projection at a grid point is the reference's, laid out, at the block's place. -/
theorem lin_blk (c : Dev nD) (t : Fin cfg0.N) (r : Fin 1024) (j : Fin 768) :
    k0_pay2 (iblk m c 0 t) (iblk m c 1 t) (ix2 r j)
      = lay (lin (m ((c : Thread nD τ).loc main_arg0)) (m ((c : Thread nD τ).loc main_arg1)) ⟨1024 * (grid0.coords t 0).val + r.val, by have := (idx t).2.2.2.2.2; omega⟩)
          ⟨768 * (grid0.coords t 1).val + j.val, by have := (idx t).2.2.2.2.2; omega⟩ := by
  rw [lin_at]
  refine Eq.trans (Finset.sum_congr rfl fun k _ => ?_) (lay_dot _ _ _)
  exact congrArg₂ (fun a b : EReal => a * b) ((iblk0_at m c t r k).trans (entry_x m c _ k)) ((iblk1_at m c t k j).trans (entry_w m c k _))

/-- The final array is the reference's result. -/
theorem final (c : Dev nD) : (dats m 0 c).arrAt 4 cfg0.N
    = (fun i => val (lin (m ((c : Thread nD τ).loc main_arg0)) (m ((c : Thread nD τ).loc main_arg1)) (i 0))
        (m ((c : Thread nD τ).loc main_arg2)) (m ((c : Thread nD τ).loc main_arg3)) (i 1) : FVec Ideal S8192x10752 .bf16) := by
  refine (dats m 0 c).arrAt_eq_of_covers 4 _ (by decide +kernel) fun t _ y => ?_
  blk_simp
  rw [after0_4]
  obtain ⟨h0, h1⟩ := (idx t).2.2.2.2.2
  idx_vars y
  have e : (win0_4.blk t).view.emb (ix2 y0 y1) = ix2 ⟨1024 * (grid0.coords t 0).val + y0.val, by omega⟩ ⟨768 * (grid0.coords t 1).val + y1.val, by omega⟩ := by
    blk_ext [idx t]
    all_goals omega
  rw [e, pay_at, iblk2_at, iblk3_at, entry_g, entry_f, lin_blk]
  simp only [lin_blk]
  have hf : ∀ P : Prop, [Decidable P] → (0 < (if P then 1 else 0 : EReal)) = P := by
    intro P _
    split_ifs with h <;> simp [h]
  have hk : ∀ k : Fin 256, (⟨768 * (grid0.coords t 1).val + (256 * (y1.val / 256) + k.val), by omega⟩ : Fin 10752)
      = ⟨256 * ((768 * (grid0.coords t 1).val + y1.val) / 256) + k.val, by omega⟩ := fun k => Fin.ext (by simp only []; omega)
  simp only [hf, hk]
  rfl

end Cert.Kernel5Ideal.Proj

namespace Cert.Proof

/-- Both programs end with the projection laid out, the heads of queries and of selected and window keys normed. -/
theorem algebraic5 : Cert.algebraic_Kernel5Ideal_Reference5Ideal := by
  intro m g m' g' _ hag
  refine ⟨fun c => (Cert.Reference5Ideal.Value.res_out0 m' c : FVec Ideal Cert.Kernel5Ideal.S8192x10752 .bf16), ?_, ?_⟩
  · refine (θ_run Cert.Kernel5Ideal.defs _ _).mono (fun r h c => ⟨(h c).1.trans ((Cert.Kernel5Ideal.Proj.final m c).trans ?_), (h c).2⟩)
      (Cert.Kernel5Ideal.Value.run_blocks (F := Ideal) m g)
    obtain ⟨a0, a1, a2, a3⟩ := hag c
    funext i
    idx_vars i
    refine Eq.trans ?_ (Cert.Kernel5Ideal.Proj.ref_at m' c i0 i1).symm
    rw [a0, a1, a2, a3]
  · exact (θ_run Cert.Reference5Ideal.defs _ _).mono (fun r h c => ⟨(h c).1, (h c).2⟩) (Cert.Reference5Ideal.Value.run (F := Ideal) m' g')

end Cert.Proof
end
end
-- ==== Proof.UpQ.lean ====
module

public import proofs.«01_k».proof.Defs
public import proofs.«01_k».proof.Proof.Gen.Kernel6Ideal.Value
public import proofs.«01_k».proof.Proof.Gen.Reference6Ideal.Run
public import proofs.«01_k».proof.Proof.Gen.Kernel6Ideal
public import proofs.«01_k».proof.Proof.Gen.Reference6Ideal
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section
open Idealize.ShloMosaic Idealize.ShloMosaic.TcCoe Idealize.SL.Sem
open Idealize.ShloMosaic.Pipeline (Dat)

/-! The latent queries brought up: the latent's norm, then its product with the weights, whose heads are laid out in 256 columns. -/

namespace Cert.Kernel6Ideal.Proj

open Cert.Kernel6Ideal Cert.Kernel6Ideal.Gen

/-- The factor of the norm, from the sum of the squares. -/
def rs (s : EReal) : EReal := Ideal.rsqrt (Ideal.div s (Ideal.ofBits .f32 0x44800000#32) + Ideal.ofBits .f32 0x358637BD#32)

/-- A latent entry: column 7168 of the layer's projection is its first. -/
def lat (X : FVec Ideal S4x2048x10752 .f32) (r : Fin 8192) (k : Fin 1024) : EReal :=
  X (ix3 ⟨r.val / 2048, by omega⟩ ⟨r.val % 2048, by omega⟩ ⟨7168 + k.val, by omega⟩)

/-- The latent normed, times a weight for each of its entries, summed. -/
def up (X : FVec Ideal S4x2048x10752 .f32) (g : FVec Ideal S1024 .f32) (w : Fin 1024 → EReal) (r : Fin 8192) : EReal :=
  ∑ k, lat X r k * rs (∑ k', lat X r k' * lat X r k') * g (ix1 k) * w k

variable (m : (ℓ : Loc nD τ sig) → Buf (Elt Ideal) ℓ)

/-- Where each grid point's blocks lie. -/
theorem idx : ∀ t : Fin cfg0.N,
    win0_0.index t = ![(grid0.coords t 0).val, 7]
    ∧ win0_1.index t = ![0, (grid0.coords t 1).val]
    ∧ win0_2.index t = ![0, 0]
    ∧ win0_3.index t = ![(grid0.coords t 0).val, (grid0.coords t 1).val]
    ∧ (grid0.coords t 0).val < 8 ∧ (grid0.coords t 1).val < 4 :=
  (by decide +kernel : ∀ t : Fin grid0.N, _)

/-- What the body stores, entry by entry. -/
theorem pay_at (x0 : Vec Ideal S1024x1024 .bf16) (x2 : Vec Ideal S1x1024 .f32) (x1 : Vec Ideal S1024x1024 .bf16) (r j : Fin 1024) :
    k0_pay1 x0 x2 x1 (ix2 r j) = (∑ k, x0 (ix2 r k) * rs (∑ k', x0 (ix2 r k') * x0 (ix2 r k')) * x2 (ix2 0 k) * x1 (ix2 k j) : EReal) := by
  pointwise [k0_pay1, rs]

/-- The block of the weights. -/
theorem iblk1_at (c : Dev nD) (t : Fin cfg0.N) (k : Fin 1024) (j : Fin 1024) :
    (iblk m c 1 t : Vec Ideal S1024x1024 .bf16) (ix2 k j) = (V m c main_v8 : FVec Ideal S1024x4096 .bf16) (ix2 k ⟨1024 * (grid0.coords t 1).val + j.val, by have := (idx t).2.2.2.2; omega⟩) := by
  blk_simp [iblk]
  generalize V m c main_v8 = A
  blk_ext [idx t]
  all_goals omega

/-- The block of the gains. -/
theorem iblk2_at (c : Dev nD) (t : Fin cfg0.N) (k : Fin 1024) :
    (iblk m c 2 t : Vec Ideal S1x1024 .f32) (ix2 0 k) = (V m c main_v9 : FVec Ideal S1x1024 .f32) (ix2 0 k) := by
  blk_simp [iblk]
  generalize V m c main_v9 = A
  blk_ext [idx t]

/-- The layer's projection as the kernel gets it. -/
theorem entry_x (c : Dev nD) (r : Fin 8192) (k : Fin 10752) :
    (V m c main_v1 : FVec Ideal S8192x10752 .bf16) (ix2 r k) = m ((c : Thread nD τ).loc main_arg0) (ix3 ⟨r.val / 2048, by omega⟩ ⟨r.val % 2048, by omega⟩ k) := by
  simp only [V]
  entry_read
  pointwise

/-- The gains as the kernel gets them. -/
theorem entry_g (c : Dev nD) (k : Fin 1024) :
    (V m c main_v9 : FVec Ideal S1x1024 .f32) (ix2 0 k) = m ((c : Thread nD τ).loc main_arg2) (ix1 k) := by
  simp only [V]
  entry_read
  pointwise

/-- Where a column of the laid-out heads comes from: 192 lanes of its head, then the rotary ones again, their halves exchanged. -/
def src (j : Fin 4096) : Fin 3072 :=
  ⟨192 * (j.val / 256) + (if j.val % 256 < 192 then j.val % 256 else if j.val % 256 < 224 then j.val % 256 - 32 else j.val % 256 - 96), by
    split_ifs <;> omega⟩

/-- The weights as the kernel gets them. -/
theorem entry_w (c : Dev nD) (k : Fin 1024) (j : Fin 4096) :
    (V m c main_v8 : FVec Ideal S1024x4096 .bf16) (ix2 k j) = m ((c : Thread nD τ).loc main_arg1) (ix2 k (src j)) := by
  have e : (V m c main_v8 : FVec Ideal S1024x4096 .bf16) = truncf .bf16 (shapeCast S1024x4096 (concatenate S1024x16x256 2 [
      ⟨S1024x16x192, (shapeCast S1024x16x192 (m ((c : Thread nD τ).loc main_arg1) : FVec Ideal S1024x3072 .f32) shapeCasts_S1024x3072_S1024x16x192 : FVec Ideal S1024x16x192 .f32)⟩,
      ⟨S1024x16x32, extractStridedSlice S1024x16x32 ![0, 0, 32] (extractStridedSlice S1024x16x64 ![0, 0, 128] (shapeCast S1024x16x192 (m ((c : Thread nD τ).loc main_arg1) : FVec Ideal S1024x3072 .f32) shapeCasts_S1024x3072_S1024x16x192 : FVec Ideal S1024x16x192 .f32) slices_S1024x16x192_S1024x16x64_0_0_128) slices_S1024x16x64_S1024x16x32_0_0_32⟩,
      ⟨S1024x16x32, extractStridedSlice S1024x16x32 ![0, 0, 0] (extractStridedSlice S1024x16x64 ![0, 0, 128] (shapeCast S1024x16x192 (m ((c : Thread nD τ).loc main_arg1) : FVec Ideal S1024x3072 .f32) shapeCasts_S1024x3072_S1024x16x192 : FVec Ideal S1024x16x192 .f32) slices_S1024x16x192_S1024x16x64_0_0_128) slices_S1024x16x64_S1024x16x32_0_0_0⟩]
      concatenates_S1024x16x192_S1024x16x32_S1024x16x32_S1024x16x256_d2) shapeCasts_S1024x16x256_S1024x4096 : FVec Ideal S1024x4096 .f32) bitsLt_bf16_f32 := by
    simp only [V, hostOps0, List.flatten_cons, List.flatten_nil, List.append_nil, List.cons_append, List.nil_append]
    after_results_simp <;> (try dsimp only [Matrix.cons_val]) <;> (try after_results_simp) <;> rfl
  rw [e]
  obtain ⟨W, hW⟩ : ∃ W : FVec Ideal S1024x3072 .f32, W = m ((c : Thread nD τ).loc main_arg1) := ⟨_, rfl⟩
  rw [← hW]
  clear e
  pointwise [src]
  split_ifs <;> first | rfl | omega | (refine congrArg (fun x => W (ix2 k x)) (Fin.ext ?_); simp <;> (try split_ifs) <;> omega)

/-- The block of the layer's projection as the body finds it: no block reached is cut. -/
theorem held_at (c : Dev nD) (t : Fin cfg0.N) (r : Fin 1024) (k : Fin 1024) :
    (X0_0 m c t : Vec Ideal S1024x1024 .bf16) (ix2 r k) = (V m c main_v1 : FVec Ideal S8192x10752 .bf16) (ix2 ⟨1024 * (grid0.coords t 0).val + r.val, by have := (idx t).2.2.2.2; omega⟩ ⟨7168 + k.val, by omega⟩) := by
  unfold X0_0 Pipeline.Window.fill
  rw [dif_pos (moved0_0 t _)]
  blk_simp [iblk]
  generalize V m c main_v1 = A
  refine congrArg A ?_
  blk_ext [idx t]
  all_goals omega

/-- What the body leaves in its block. -/
theorem out_at (c : Dev nD) (i : grid0.Coords) (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (x0 x1 : Vec Ideal S1024x1024 .bf16) (x2 : Vec Ideal S1x1024 .f32) (r j : Fin 1024) :
    out0_A_3 c i arg3 harg3 arg4 harg4 arg5 harg5 arg6 harg6 x0 x1 x2 (ix2 r j) = k0_pay1 x0 x2 x1 (ix2 r j) := by
  unfold out0_A_3 kernelRun0_A
  dsimp only
  sl_unfold_words
  refine (View.read_writes_cons_unit_of_mem (Val := Elt Ideal) (s := S1024x1024) VO0_3 VO0_3.junk (off := ![0, 0])
    (off' := ![0, 0]) (size := S1024x1024.size) inb_S1024x1024_S1024x1024_0_0 _ []
    (ix2 r j) (ix2 r j) rfl (fun a => match a with
      | ⟨0, _⟩ => (Nat.zero_add _).symm
      | ⟨1, _⟩ => (Nat.zero_add _).symm)).trans ?_
  show k0_pay1 (View.ld (arg3.view.read (Elt Ideal) (harg3.unread x0)) (Rect.unit (s := S1024x1024) ![0, 0] S1024x1024.size inb_S1024x1024_S1024x1024_0_0))
    (View.ld (arg5.view.read (Elt Ideal) (harg5.unread x2)) (Rect.unit (s := S1x1024) ![0, 0] S1x1024.size inb_S1x1024_S1x1024_0_0))
    (View.ld (arg4.view.read (Elt Ideal) (harg4.unread x1)) (Rect.unit (s := S1024x1024) ![0, 0] S1024x1024.size inb_S1024x1024_S1024x1024_0_0)) (ix2 r j) = _
  rw [harg3.read_unread, harg4.read_unread, harg5.read_unread]
  frame_out

/-- The result at a row and a column. -/
def val (X : FVec Ideal S4x2048x10752 .f32) (W : FVec Ideal S1024x3072 .f32) (g : FVec Ideal S1024 .f32) (r : Fin 8192) (j : Fin 4096) : EReal :=
  up X g (fun k => W (ix2 k (src j))) r

/-- The final array, block by block. -/
theorem final (c : Dev nD) : (dats m 0 c).arrAt 3 cfg0.N
    = (fun i => val (m ((c : Thread nD τ).loc main_arg0)) (m ((c : Thread nD τ).loc main_arg1)) (m ((c : Thread nD τ).loc main_arg2)) (i 0) (i 1) : FVec Ideal S8192x4096 .bf16) := by
  refine (dats m 0 c).arrAt_eq_of_covers 3 _ (by decide +kernel) fun t _ y => ?_
  blk_simp
  rw [after0_3, outsAt0]
  obtain ⟨h0, h1⟩ := (idx t).2.2.2.2
  idx_vars y
  have e : (win0_3.blk t).view.emb (ix2 y0 y1) = ix2 ⟨1024 * (grid0.coords t 0).val + y0.val, by omega⟩ ⟨1024 * (grid0.coords t 1).val + y1.val, by omega⟩ := by
    blk_ext [idx t]
    all_goals omega
  rw [e]
  rw [out_at, pay_at]
  refine Finset.sum_congr rfl fun k _ => congrArg₂ (fun a b : EReal => a * b) (congrArg₂ (fun a b : EReal => a * b)
    (congrArg₂ (fun a b : EReal => a * b) ((held_at m c t y0 k).trans (entry_x m c _ _)) (congrArg rs (Finset.sum_congr rfl fun k' _ => ?_)))
    ((iblk2_at m c t k).trans (entry_g m c k))) ((iblk1_at m c t k y1).trans (entry_w m c k _))
  exact congrArg₂ (fun a b : EReal => a * b) ((held_at m c t y0 k').trans (entry_x m c _ _)) ((held_at m c t y0 k').trans (entry_x m c _ _))

end Cert.Kernel6Ideal.Proj

namespace Cert.Proof

/-- Both programs end with the queries, their heads laid out. -/
theorem algebraic6 : Cert.algebraic_Kernel6Ideal_Reference6Ideal := by
  intro m g m' g' _ hag
  refine ⟨fun c => (fun i => Cert.Kernel6Ideal.Proj.val (m ((c.tc : Thread _ _).loc Cert.Kernel6Ideal.main_arg0)) (m ((c.tc : Thread _ _).loc Cert.Kernel6Ideal.main_arg1))
      (m ((c.tc : Thread _ _).loc Cert.Kernel6Ideal.main_arg2)) (i 0) (i 1) : FVec Ideal Cert.Kernel6Ideal.S8192x4096 .bf16), ?_, ?_⟩
  · exact (θ_run Cert.Kernel6Ideal.defs _ _).mono (fun r h c => ⟨(h c).1.trans (Cert.Kernel6Ideal.Proj.final m c), (h c).2⟩)
      (Cert.Kernel6Ideal.Value.run_blocks (F := Ideal) m g)
  · refine (θ_run Cert.Reference6Ideal.defs _ _).mono (fun r h c => ⟨(h c).1.trans ?_, (h c).2⟩) (Cert.Reference6Ideal.Value.run (F := Ideal) m' g')
    obtain ⟨a0, a1, a2⟩ := hag c
    unfold Cert.Reference6Ideal.Value.res_main_v20
    dsimp only
    rw [← a0, ← a1, ← a2]
    funext i
    idx_vars i
    generalize m' ((c.tc : Thread _ _).loc Cert.Reference6Ideal.main_arg0) = X
    generalize m' ((c.tc : Thread _ _).loc Cert.Reference6Ideal.main_arg1) = W
    generalize m' ((c.tc : Thread _ _).loc Cert.Reference6Ideal.main_arg2) = G
    pointwise [Cert.Kernel6Ideal.Proj.val, Cert.Kernel6Ideal.Proj.up, Cert.Kernel6Ideal.Proj.lat, Cert.Kernel6Ideal.Proj.rs, Cert.Kernel6Ideal.Proj.src]
    split_ifs <;> first | rfl | omega | (refine Finset.sum_congr rfl fun k _ => congrArg (fun x => _ * W (ix2 k x)) (Fin.ext ?_); simp <;> (try split_ifs) <;> omega)

end Cert.Proof
end
end
-- ==== Proof.UpKv.lean ====
module

public import proofs.«01_k».proof.Defs
public import proofs.«01_k».proof.Proof.Gen.Kernel7Ideal.Value
public import proofs.«01_k».proof.Proof.Gen.Reference7Ideal.Run
public import proofs.«01_k».proof.Proof.Gen.Kernel7Ideal
public import proofs.«01_k».proof.Proof.Gen.Reference7Ideal
public import Idealize.ShloMosaic.Lib.Pipeline.ValueKit
public import Idealize.ShloMosaic.Lib.Pointwise
public import Idealize.ShloMosaic.Lib.Claim

@[expose] public section

set_option maxRecDepth 16384

noncomputable section
open Idealize.ShloMosaic Idealize.ShloMosaic.TcCoe Idealize.SL.Sem
open Idealize.ShloMosaic.Pipeline (Dat)

/-! The latent keys and values brought up: the latent's norm, then its product with the weights. -/

namespace Cert.Kernel7Ideal.Proj

open Cert.Kernel7Ideal Cert.Kernel7Ideal.Gen

/-- The factor of the norm, from the sum of the squares. -/
def rs (s : EReal) : EReal := Ideal.rsqrt (Ideal.div s (Ideal.ofBits .f32 0x44000000#32) + Ideal.ofBits .f32 0x358637BD#32)

/-- A latent entry: column 8192 of the layer's projection is its first. -/
def lat (X : FVec Ideal S4x2048x10752 .f32) (r : Fin 8192) (k : Fin 512) : EReal :=
  X (ix3 ⟨r.val / 2048, by omega⟩ ⟨r.val % 2048, by omega⟩ ⟨8192 + k.val, by omega⟩)

/-- The latent normed, times a weight for each of its entries, summed. -/
def up (X : FVec Ideal S4x2048x10752 .f32) (g : FVec Ideal S512 .f32) (w : Fin 512 → EReal) (r : Fin 8192) : EReal :=
  ∑ k, lat X r k * rs (∑ k', lat X r k' * lat X r k') * g (ix1 k) * w k

variable (m : (ℓ : Loc nD τ sig) → Buf (Elt Ideal) ℓ)

/-- Where each grid point's blocks lie. -/
theorem idx : ∀ t : Fin cfg0.N,
    win0_0.index t = ![(grid0.coords t 0).val, 16]
    ∧ win0_1.index t = ![0, (grid0.coords t 1).val]
    ∧ win0_2.index t = ![0, 0]
    ∧ win0_3.index t = ![(grid0.coords t 0).val, (grid0.coords t 1).val]
    ∧ (grid0.coords t 0).val < 8 ∧ (grid0.coords t 1).val < 4 :=
  (by decide +kernel : ∀ t : Fin grid0.N, _)

/-- What the body stores, entry by entry. -/
theorem pay_at (x0 : Vec Ideal S1024x512 .bf16) (x2 : Vec Ideal S1x512 .f32) (x1 : Vec Ideal S512x1024 .bf16) (r j : Fin 1024) :
    k0_pay1 x0 x2 x1 (ix2 r j) = (∑ k, x0 (ix2 r k) * rs (∑ k', x0 (ix2 r k') * x0 (ix2 r k')) * x2 (ix2 0 k) * x1 (ix2 k j) : EReal) := by
  pointwise [k0_pay1, rs]

/-- The block of the layer's projection at a grid point. -/
theorem iblk0_at (c : Dev nD) (t : Fin cfg0.N) (r : Fin 1024) (k : Fin 512) :
    (iblk m c 0 t : Vec Ideal S1024x512 .bf16) (ix2 r k) = (V m c main_v1 : FVec Ideal S8192x10752 .bf16) (ix2 ⟨1024 * (grid0.coords t 0).val + r.val, by have := (idx t).2.2.2.2; omega⟩ ⟨8192 + k.val, by omega⟩) := by
  blk_simp [iblk]
  generalize V m c main_v1 = A
  blk_ext [idx t]
  all_goals omega

/-- The block of the weights. -/
theorem iblk1_at (c : Dev nD) (t : Fin cfg0.N) (k : Fin 512) (j : Fin 1024) :
    (iblk m c 1 t : Vec Ideal S512x1024 .bf16) (ix2 k j) = (V m c main_v2 : FVec Ideal S512x4096 .bf16) (ix2 k ⟨1024 * (grid0.coords t 1).val + j.val, by have := (idx t).2.2.2.2; omega⟩) := by
  blk_simp [iblk]
  generalize V m c main_v2 = A
  blk_ext [idx t]
  all_goals omega

/-- The block of the gains. -/
theorem iblk2_at (c : Dev nD) (t : Fin cfg0.N) (k : Fin 512) :
    (iblk m c 2 t : Vec Ideal S1x512 .f32) (ix2 0 k) = (V m c main_v3 : FVec Ideal S1x512 .f32) (ix2 0 k) := by
  blk_simp [iblk]
  generalize V m c main_v3 = A
  blk_ext [idx t]

/-- The layer's projection as the kernel gets it. -/
theorem entry_x (c : Dev nD) (r : Fin 8192) (k : Fin 10752) :
    (V m c main_v1 : FVec Ideal S8192x10752 .bf16) (ix2 r k) = m ((c : Thread nD τ).loc main_arg0) (ix3 ⟨r.val / 2048, by omega⟩ ⟨r.val % 2048, by omega⟩ k) := by
  simp only [V]
  entry_read
  pointwise

/-- The gains as the kernel gets them. -/
theorem entry_g (c : Dev nD) (k : Fin 512) :
    (V m c main_v3 : FVec Ideal S1x512 .f32) (ix2 0 k) = m ((c : Thread nD τ).loc main_arg2) (ix1 k) := by
  simp only [V]
  entry_read
  pointwise

/-- The weights as the kernel gets them. -/
theorem entry_w (c : Dev nD) (k : Fin 512) (j : Fin 4096) :
    (V m c main_v2 : FVec Ideal S512x4096 .bf16) (ix2 k j) = m ((c : Thread nD τ).loc main_arg1) (ix2 k j) := by
  simp only [V]
  entry_read
  pointwise

/-- The result at a row and a column. -/
def val (X : FVec Ideal S4x2048x10752 .f32) (W : FVec Ideal S512x4096 .f32) (g : FVec Ideal S512 .f32) (r : Fin 8192) (j : Fin 4096) : EReal :=
  up X g (fun k => W (ix2 k j)) r

/-- The final array, block by block. -/
theorem final (c : Dev nD) : (dats m 0 c).arrAt 3 cfg0.N
    = (fun i => val (m ((c : Thread nD τ).loc main_arg0)) (m ((c : Thread nD τ).loc main_arg1)) (m ((c : Thread nD τ).loc main_arg2)) (i 0) (i 1) : FVec Ideal S8192x4096 .bf16) := by
  refine (dats m 0 c).arrAt_eq_of_covers 3 _ (by decide +kernel) fun t _ y => ?_
  blk_simp
  rw [after0_3]
  obtain ⟨h0, h1⟩ := (idx t).2.2.2.2
  idx_vars y
  have e : (win0_3.blk t).view.emb (ix2 y0 y1) = ix2 ⟨1024 * (grid0.coords t 0).val + y0.val, by omega⟩ ⟨1024 * (grid0.coords t 1).val + y1.val, by omega⟩ := by
    blk_ext [idx t]
    all_goals omega
  rw [e]
  frame_out
  rw [pay_at]
  refine Finset.sum_congr rfl fun k _ => congrArg₂ (fun a b : EReal => a * b) (congrArg₂ (fun a b : EReal => a * b)
    (congrArg₂ (fun a b : EReal => a * b) ((iblk0_at m c t y0 k).trans (entry_x m c _ _)) (congrArg rs (Finset.sum_congr rfl fun k' _ => ?_)))
    ((iblk2_at m c t k).trans (entry_g m c k))) ((iblk1_at m c t k y1).trans (entry_w m c k _))
  exact congrArg₂ (fun a b : EReal => a * b) ((iblk0_at m c t y0 k').trans (entry_x m c _ _)) ((iblk0_at m c t y0 k').trans (entry_x m c _ _))

end Cert.Kernel7Ideal.Proj

namespace Cert.Proof

/-- Both programs end with the keys and values. -/
theorem algebraic7 : Cert.algebraic_Kernel7Ideal_Reference7Ideal := by
  intro m g m' g' _ hag
  refine ⟨fun c => (fun i => Cert.Kernel7Ideal.Proj.val (m ((c.tc : Thread _ _).loc Cert.Kernel7Ideal.main_arg0)) (m ((c.tc : Thread _ _).loc Cert.Kernel7Ideal.main_arg1))
      (m ((c.tc : Thread _ _).loc Cert.Kernel7Ideal.main_arg2)) (i 0) (i 1) : FVec Ideal Cert.Kernel7Ideal.S8192x4096 .bf16), ?_, ?_⟩
  · exact (θ_run Cert.Kernel7Ideal.defs _ _).mono (fun r h c => ⟨(h c).1.trans (Cert.Kernel7Ideal.Proj.final m c), (h c).2⟩)
      (Cert.Kernel7Ideal.Value.run_blocks (F := Ideal) m g)
  · refine (θ_run Cert.Reference7Ideal.defs _ _).mono (fun r h c => ⟨(h c).1.trans ?_, (h c).2⟩) (Cert.Reference7Ideal.Value.run (F := Ideal) m' g')
    obtain ⟨a0, a1, a2⟩ := hag c
    rw [a0, a1, a2]
    funext i
    idx_vars i
    generalize m' ((c.tc : Thread _ _).loc Cert.Reference7Ideal.main_arg0) = X
    generalize m' ((c.tc : Thread _ _).loc Cert.Reference7Ideal.main_arg1) = W
    generalize m' ((c.tc : Thread _ _).loc Cert.Reference7Ideal.main_arg2) = G
    pointwise [Cert.Kernel7Ideal.Proj.val, Cert.Kernel7Ideal.Proj.up, Cert.Kernel7Ideal.Proj.lat, Cert.Kernel7Ideal.Proj.rs]

end Cert.Proof
end
end
-- ==== Proof.NormMod.lean ====
module

public import proofs.«01_k».proof.Defs
public import proofs.«01_k».proof.Proof.Gen.Kernel8Ideal.Value
public import proofs.«01_k».proof.Proof.Gen.Reference8Ideal.Run
public import proofs.«01_k».proof.Proof.Gen.Kernel8Ideal
public import proofs.«01_k».proof.Proof.Gen.Reference8Ideal
public import Idealize.ShloMosaic.Lib.Pipeline.ValueKit
public import Idealize.ShloMosaic.Lib.Pointwise
public import Idealize.ShloMosaic.Lib.Claim

@[expose] public section

set_option maxRecDepth 16384

noncomputable section
open Idealize.ShloMosaic Idealize.ShloMosaic.TcCoe Idealize.SL.Sem
open Idealize.ShloMosaic.Pipeline (Dat)

/-! The modulated norm before a mixer: each row normed, times the gain, times one plus the scale, plus the shift. -/

namespace Cert.Kernel8Ideal.Proj

open Cert.Kernel8Ideal Cert.Kernel8Ideal.Gen

/-- The factor of the norm, from the sum of the squares. -/
def rs (s : EReal) : EReal := Ideal.rsqrt (Ideal.div s (Ideal.ofBits .f32 0x45800000#32) + Ideal.ofBits .f32 0x358637BD#32)

/-- The result at a row and a column. -/
def val (X : FVec Ideal S4x2048x4096 .f32) (g : FVec Ideal S4096 .f32) (sc sh : FVec Ideal S4x1x4096 .f32) (r : Fin 8192) (j : Fin 4096) : EReal :=
  X (ix3 ⟨r.val / 2048, by omega⟩ ⟨r.val % 2048, by omega⟩ j)
    * rs (∑ k, X (ix3 ⟨r.val / 2048, by omega⟩ ⟨r.val % 2048, by omega⟩ k) * X (ix3 ⟨r.val / 2048, by omega⟩ ⟨r.val % 2048, by omega⟩ k))
    * g (ix1 j) * (Ideal.ofBits .f32 0x3F800000#32 + sc (ix3 ⟨r.val / 2048, by omega⟩ 0 j)) + sh (ix3 ⟨r.val / 2048, by omega⟩ 0 j)

/-- The sum of the squares of each row, as the reference has it. -/
def sq (X : FVec Ideal S4x2048x4096 .f32) : FVec Ideal Cert.Reference8Ideal.S4x2048 .f32 :=
  Host.reduceAdd (mulf X X) (constant Cert.Reference8Ideal.S_ .f32 0x00000000#32) Cert.Reference8Ideal.Gen.reducesTo_S4x2048x4096_S4x2048_d2 Cert.Reference8Ideal.Gen.h_S_

/-- The sum of the squares of a row of the activations. -/
theorem sq_at (X : FVec Ideal S4x2048x4096 .f32) (b : Fin 4) (t : Fin 2048) :
    sq X (ix2 b t) = (∑ k, X (ix3 b t k) * X (ix3 b t k) : EReal) := by
  pointwise [sq]

/-- The reference's rows from the sums, before the batch entries are put in one row. -/
def mod (S : FVec Ideal Cert.Reference8Ideal.S4x2048 .f32) (X : FVec Ideal S4x2048x4096 .f32) (g : FVec Ideal S4096 .f32) (sc sh : FVec Ideal S4x1x4096 .f32) : FVec Ideal S4x2048x4096 .f32 :=
  open Cert.Reference8Ideal Cert.Reference8Ideal.Gen in
  addf (mulf (mulf (mulf X (broadcastInDim S4x2048x4096 ![0, 1, 2] bcast_S4x2048x1_S4x2048x4096_0_1_2 (Host.rsqrt (addf (Host.divf (broadcastInDim S4x2048x1 ![0, 1] bcast_S4x2048_S4x2048x1_0_1 S) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 g))) (broadcastInDim S4x2048x4096 ![0, 1, 2] bcast_S4x1x4096_S4x2048x4096_0_1_2 (addf (broadcastInDim S4x1x4096 ![] bcast_S_S4x1x4096 (constant S_ .f32 0x3F800000#32)) sc))) (broadcastInDim S4x2048x4096 ![0, 1, 2] bcast_S4x1x4096_S4x2048x4096_0_1_2 sh)

/-- The reference's norm with shift and scale at an entry. -/
theorem mod_at (S : FVec Ideal Cert.Reference8Ideal.S4x2048 .f32) (X : FVec Ideal S4x2048x4096 .f32) (g : FVec Ideal S4096 .f32) (sc sh : FVec Ideal S4x1x4096 .f32) (b : Fin 4) (t : Fin 2048) (j : Fin 4096) :
    mod S X g sc sh (ix3 b t j) = (X (ix3 b t j) * rs (S (ix2 b t)) * g (ix1 j) * (Ideal.ofBits .f32 0x3F800000#32 + sc (ix3 b 0 j)) + sh (ix3 b 0 j) : EReal) := by
  pointwise [mod, rs]

/-- Rows of all batch entries put in one row. -/
theorem rows_at (M : FVec Ideal S4x2048x4096 .f32) (r : Fin 8192) (j : Fin 4096) :
    (truncf .bf16 (shapeCast Cert.Reference8Ideal.S8192x4096 M Cert.Reference8Ideal.Gen.shapeCasts_S4x2048x4096_S8192x4096) Cert.Reference8Ideal.Gen.bitsLt_bf16_f32) (ix2 r j)
      = M (ix3 ⟨r.val / 2048, by omega⟩ ⟨r.val % 2048, by omega⟩ j) := by
  pointwise

variable (m : (ℓ : Loc nD τ sig) → Buf (Elt Ideal) ℓ)

/-- Where each grid point's blocks lie. -/
theorem idx : ∀ t : Fin cfg0.N,
    win0_0.index t = ![(grid0.coords t 0).val, 0]
    ∧ win0_1.index t = ![0, 0]
    ∧ win0_2.index t = ![(grid0.coords t 0).val / 8, 0, 0]
    ∧ win0_3.index t = ![(grid0.coords t 0).val / 8, 0, 0]
    ∧ win0_4.index t = ![(grid0.coords t 0).val, 0]
    ∧ (grid0.coords t 0).val < 32 :=
  (by decide +kernel : ∀ t : Fin grid0.N, _)

/-- What the body stores, entry by entry. -/
theorem pay_at (x0 : Vec Ideal S256x4096 .f32) (x1 : Vec Ideal S1x4096 .f32) (x2 x3 : Vec Ideal S1x1x4096 .f32) (r : Fin 256) (j : Fin 4096) :
    k0_pay1 x0 x1 x2 x3 (ix2 r j) = (x0 (ix2 r j) * rs (∑ k, x0 (ix2 r k) * x0 (ix2 r k)) * x1 (ix2 0 j)
      * (Ideal.ofBits .f32 0x3F800000#32 + x2 (ix3 0 0 j)) + x3 (ix3 0 0 j) : EReal) := by
  pointwise [k0_pay1, rs]

/-- The block of the rows at a grid point. -/
theorem iblk0_at (c : Dev nD) (t : Fin cfg0.N) (r : Fin 256) (k : Fin 4096) :
    (iblk m c 0 t : Vec Ideal S256x4096 .f32) (ix2 r k) = (V m c main_v0 : FVec Ideal S8192x4096 .f32) (ix2 ⟨256 * (grid0.coords t 0).val + r.val, by have := (idx t).2.2.2.2.2; omega⟩ k) := by
  blk_simp [iblk]
  generalize V m c main_v0 = A
  blk_ext [idx t]
  all_goals omega

/-- The block of the gains. -/
theorem iblk1_at (c : Dev nD) (t : Fin cfg0.N) (k : Fin 4096) :
    (iblk m c 1 t : Vec Ideal S1x4096 .f32) (ix2 0 k) = (V m c main_v1 : FVec Ideal S1x4096 .f32) (ix2 0 k) := by
  blk_simp [iblk]
  generalize V m c main_v1 = A
  blk_ext [idx t]

/-- The block of the scales: eight row blocks share a batch entry. -/
theorem iblk2_at (c : Dev nD) (t : Fin cfg0.N) (j : Fin 4096) :
    (iblk m c 2 t : Vec Ideal S1x1x4096 .f32) (ix3 0 0 j) = (V m c main_arg2 : FVec Ideal S4x1x4096 .f32) (ix3 ⟨(grid0.coords t 0).val / 8, by have := (idx t).2.2.2.2.2; omega⟩ 0 j) := by
  blk_simp [iblk]
  generalize V m c main_arg2 = A
  blk_ext [idx t]

/-- The block of the shifts. -/
theorem iblk3_at (c : Dev nD) (t : Fin cfg0.N) (j : Fin 4096) :
    (iblk m c 3 t : Vec Ideal S1x1x4096 .f32) (ix3 0 0 j) = (V m c main_arg3 : FVec Ideal S4x1x4096 .f32) (ix3 ⟨(grid0.coords t 0).val / 8, by have := (idx t).2.2.2.2.2; omega⟩ 0 j) := by
  blk_simp [iblk]
  generalize V m c main_arg3 = A
  blk_ext [idx t]

/-- The rows as the kernel gets them. -/
theorem entry_x (c : Dev nD) (r : Fin 8192) (k : Fin 4096) :
    (V m c main_v0 : FVec Ideal S8192x4096 .f32) (ix2 r k) = m ((c : Thread nD τ).loc main_arg0) (ix3 ⟨r.val / 2048, by omega⟩ ⟨r.val % 2048, by omega⟩ k) := by
  simp only [V]
  entry_read
  pointwise

/-- The gains as the kernel gets them. -/
theorem entry_g (c : Dev nD) (k : Fin 4096) :
    (V m c main_v1 : FVec Ideal S1x4096 .f32) (ix2 0 k) = m ((c : Thread nD τ).loc main_arg1) (ix1 k) := by
  simp only [V]
  entry_read
  pointwise

/-- The final array, block by block. -/
theorem final (c : Dev nD) : (dats m 0 c).arrAt 4 cfg0.N
    = (fun i => val (m ((c : Thread nD τ).loc main_arg0)) (m ((c : Thread nD τ).loc main_arg1)) (m ((c : Thread nD τ).loc main_arg2))
        (m ((c : Thread nD τ).loc main_arg3)) (i 0) (i 1) : FVec Ideal S8192x4096 .bf16) := by
  refine (dats m 0 c).arrAt_eq_of_covers 4 _ (by decide +kernel) fun t _ y => ?_
  blk_simp
  rw [after0_4]
  have h0 := (idx t).2.2.2.2.2
  idx_vars y
  have e : (win0_4.blk t).view.emb (ix2 y0 y1) = ix2 ⟨256 * (grid0.coords t 0).val + y0.val, by omega⟩ y1 := by
    blk_ext [idx t]
    all_goals omega
  rw [e]
  frame_out
  rw [pay_at]
  have hx : ∀ k, (iblk m c 0 t : Vec Ideal S256x4096 .f32) (ix2 y0 k) = _ := fun k => (iblk0_at m c t y0 k).trans (entry_x m c _ k)
  have g : (⟨(grid0.coords t 0).val / 8, by omega⟩ : Fin 4) = ⟨(256 * (grid0.coords t 0).val + y0.val) / 2048, by omega⟩ := Fin.ext (by dsimp only; omega)
  have h2 := iblk2_at m c t y1
  have h3 := iblk3_at m c t y1
  rw [V_main_arg2, g] at h2
  rw [V_main_arg3, g] at h3
  exact congrArg₂ (fun a b : EReal => a + b) (congrArg₂ (fun a b : EReal => a * b) (congrArg₂ (fun a b : EReal => a * b)
    (congrArg₂ (fun a b : EReal => a * b) (hx y1) (congrArg rs (Finset.sum_congr rfl fun k _ => congrArg₂ (fun a b : EReal => a * b) (hx k) (hx k))))
    ((iblk1_at m c t y1).trans (entry_g m c y1))) (congrArg (fun b : EReal => Ideal.ofBits .f32 0x3F800000#32 + b) h2)) h3

end Cert.Kernel8Ideal.Proj

namespace Cert.Proof

/-- Both programs end with the modulated rows. -/
theorem algebraic8 : Cert.algebraic_Kernel8Ideal_Reference8Ideal := by
  intro m g m' g' _ hag
  refine ⟨fun c => (fun i => Cert.Kernel8Ideal.Proj.val (m ((c.tc : Thread _ _).loc Cert.Kernel8Ideal.main_arg0)) (m ((c.tc : Thread _ _).loc Cert.Kernel8Ideal.main_arg1))
      (m ((c.tc : Thread _ _).loc Cert.Kernel8Ideal.main_arg2)) (m ((c.tc : Thread _ _).loc Cert.Kernel8Ideal.main_arg3)) (i 0) (i 1) : FVec Ideal Cert.Kernel8Ideal.S8192x4096 .bf16), ?_, ?_⟩
  · exact (θ_run Cert.Kernel8Ideal.defs _ _).mono (fun r h c => ⟨(h c).1.trans (Cert.Kernel8Ideal.Proj.final m c), (h c).2⟩)
      (Cert.Kernel8Ideal.Value.run_blocks (F := Ideal) m g)
  · refine (θ_run Cert.Reference8Ideal.defs _ _).mono (fun r h c => ⟨(h c).1.trans ?_, (h c).2⟩) (Cert.Reference8Ideal.Value.run (F := Ideal) m' g')
    obtain ⟨a0, a1, a2, a3⟩ := hag c
    rw [a0, a1, a2, a3]
    funext i
    idx_vars i
    generalize m ((c.tc : Thread _ _).loc Cert.Kernel8Ideal.main_arg0) = X
    generalize m ((c.tc : Thread _ _).loc Cert.Kernel8Ideal.main_arg1) = G
    generalize m ((c.tc : Thread _ _).loc Cert.Kernel8Ideal.main_arg2) = A
    generalize m ((c.tc : Thread _ _).loc Cert.Kernel8Ideal.main_arg3) = B
    refine (Cert.Kernel8Ideal.Proj.rows_at (Cert.Kernel8Ideal.Proj.mod (Cert.Kernel8Ideal.Proj.sq X) X G A B) i0 i1).trans ?_
    rw [Cert.Kernel8Ideal.Proj.mod_at, Cert.Kernel8Ideal.Proj.sq_at]
    rfl

end Cert.Proof
end
end
-- ==== Proof.Combine.lean ====
module

public import proofs.«01_k».proof.Defs
public import proofs.«01_k».proof.Proof.Gen.Kernel9Ideal.Value
public import proofs.«01_k».proof.Proof.Gen.Reference9Ideal.Run
public import proofs.«01_k».proof.Proof.Gen.Kernel9Ideal
public import proofs.«01_k».proof.Proof.Gen.Reference9Ideal
public import Idealize.ShloMosaic.Lib.Pipeline.ValueKit
public import Idealize.ShloMosaic.Lib.Pointwise
public import Idealize.ShloMosaic.Lib.Claim

@[expose] public section

set_option maxRecDepth 16384

noncomputable section
open Idealize.ShloMosaic Idealize.ShloMosaic.TcCoe Idealize.SL.Sem
open Idealize.ShloMosaic.Pipeline (Dat)

/-! The gated sum of the three branches: a head's three gates are the logistic function of three columns of the layer's projection. -/

namespace Cert.Kernel9Ideal.Proj

open Cert.Kernel9Ideal Cert.Kernel9Ideal.Gen

/-- A block's row and column: the head is the column's 128, its three gates lie side by side. -/
theorem out_at (x0 : Vec Ideal S256x128 .bf16) (x1 x2 x3 : Vec Ideal S256x2048 .bf16) (r : Fin 256) (j : Fin 2048) :
    out0_4 x0 x1 x2 x3 (ix2 r j) = (Ideal.logistic (x0 (ix2 r ⟨3 * (j.val / 128), by omega⟩)) * x1 (ix2 r j)
      + Ideal.logistic (x0 (ix2 r ⟨3 * (j.val / 128) + 1, by omega⟩)) * x2 (ix2 r j)
      + Ideal.logistic (x0 (ix2 r ⟨3 * (j.val / 128) + 2, by omega⟩)) * x3 (ix2 r j) : EReal) := by
  unfold_out out0_4
  canon_tiles x h
  all_goals
    open_payloads
    pointwise
    replace h0 : r.val = _ := h0
    replace h1 : j.val = _ := h1
    refine congrArg₂ (fun a b : EReal => a + b) (congrArg₂ (fun a b : EReal => a + b)
      (congrArg₂ (fun a b : EReal => a * b) (congrArg Ideal.logistic (congrArg x0 (congrArg₂ ix2 (Fin.ext ?_) (Fin.ext ?_)))) (congrArg x1 (congrArg₂ ix2 (Fin.ext ?_) (Fin.ext ?_))))
      (congrArg₂ (fun a b : EReal => a * b) (congrArg Ideal.logistic (congrArg x0 (congrArg₂ ix2 (Fin.ext ?_) (Fin.ext ?_)))) (congrArg x2 (congrArg₂ ix2 (Fin.ext ?_) (Fin.ext ?_)))))
      (congrArg₂ (fun a b : EReal => a * b) (congrArg Ideal.logistic (congrArg x0 (congrArg₂ ix2 (Fin.ext ?_) (Fin.ext ?_)))) (congrArg x3 (congrArg₂ ix2 (Fin.ext ?_) (Fin.ext ?_))))
    all_goals (simp; omega)

/-- A gate: one of the three of each head, from its column of the layer's projection. -/
def gate (H : FVec Ideal S4x2048x10752 .f32) (r : Fin 8192) (k : Fin 48) : EReal :=
  Ideal.logistic (H (ix3 ⟨r.val / 2048, by omega⟩ ⟨r.val % 2048, by omega⟩ ⟨10368 + k.val, by omega⟩))

/-- The result at a row and a column. -/
def val (H : FVec Ideal S4x2048x10752 .f32) (A B C : FVec Ideal S4x2048x2048 .f32) (r : Fin 8192) (j : Fin 2048) : EReal :=
  gate H r ⟨3 * (j.val / 128), by omega⟩ * A (ix3 ⟨r.val / 2048, by omega⟩ ⟨r.val % 2048, by omega⟩ j)
    + gate H r ⟨3 * (j.val / 128) + 1, by omega⟩ * B (ix3 ⟨r.val / 2048, by omega⟩ ⟨r.val % 2048, by omega⟩ j)
    + gate H r ⟨3 * (j.val / 128) + 2, by omega⟩ * C (ix3 ⟨r.val / 2048, by omega⟩ ⟨r.val % 2048, by omega⟩ j)

variable (m : (ℓ : Loc nD τ sig) → Buf (Elt Ideal) ℓ)

/-- Where each grid point's blocks lie. -/
theorem idx : ∀ t : Fin cfg0.N,
    win0_0.index t = ![(grid0.coords t 0).val, 81]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ (grid0.coords t 0).val < 32 :=
  (by decide +kernel : ∀ t : Fin grid0.N, _)

/-- The block of the gates' columns at a grid point. -/
theorem iblk0_at (c : Dev nD) (t : Fin cfg0.N) (r : Fin 256) (k : Fin 128) :
    (iblk m c 0 t : Vec Ideal S256x128 .bf16) (ix2 r k) = (V m c main_v1 : FVec Ideal S8192x10752 .bf16) (ix2 ⟨256 * (grid0.coords t 0).val + r.val, by have := (idx t).2.2.2.2.2; omega⟩ ⟨10368 + k.val, by omega⟩) := by
  blk_simp [iblk]
  generalize V m c main_v1 = A
  blk_ext [idx t]
  all_goals omega

/-- The block of the first branch. -/
theorem iblk1_at (c : Dev nD) (t : Fin cfg0.N) (r : Fin 256) (k : Fin 2048) :
    (iblk m c 1 t : Vec Ideal S256x2048 .bf16) (ix2 r k) = (V m c main_v3 : FVec Ideal S8192x2048 .bf16) (ix2 ⟨256 * (grid0.coords t 0).val + r.val, by have := (idx t).2.2.2.2.2; omega⟩ k) := by
  blk_simp [iblk]
  generalize V m c main_v3 = A
  blk_ext [idx t]
  all_goals omega

/-- The block of the second branch. -/
theorem iblk2_at (c : Dev nD) (t : Fin cfg0.N) (r : Fin 256) (k : Fin 2048) :
    (iblk m c 2 t : Vec Ideal S256x2048 .bf16) (ix2 r k) = (V m c main_v5 : FVec Ideal S8192x2048 .bf16) (ix2 ⟨256 * (grid0.coords t 0).val + r.val, by have := (idx t).2.2.2.2.2; omega⟩ k) := by
  blk_simp [iblk]
  generalize V m c main_v5 = A
  blk_ext [idx t]
  all_goals omega

/-- The block of the third branch. -/
theorem iblk3_at (c : Dev nD) (t : Fin cfg0.N) (r : Fin 256) (k : Fin 2048) :
    (iblk m c 3 t : Vec Ideal S256x2048 .bf16) (ix2 r k) = (V m c main_v7 : FVec Ideal S8192x2048 .bf16) (ix2 ⟨256 * (grid0.coords t 0).val + r.val, by have := (idx t).2.2.2.2.2; omega⟩ k) := by
  blk_simp [iblk]
  generalize V m c main_v7 = A
  blk_ext [idx t]
  all_goals omega

/-- The layer's projection as the kernel gets it. -/
theorem entry0 (c : Dev nD) (r : Fin 8192) (k : Fin 10752) :
    (V m c main_v1 : FVec Ideal S8192x10752 .bf16) (ix2 r k) = m ((c : Thread nD τ).loc main_arg0) (ix3 ⟨r.val / 2048, by omega⟩ ⟨r.val % 2048, by omega⟩ k) := by
  simp only [V]
  entry_read
  pointwise

/-- The first branch as the kernel gets it. -/
theorem entry1 (c : Dev nD) (r : Fin 8192) (k : Fin 2048) :
    (V m c main_v3 : FVec Ideal S8192x2048 .bf16) (ix2 r k) = m ((c : Thread nD τ).loc main_arg1) (ix3 ⟨r.val / 2048, by omega⟩ ⟨r.val % 2048, by omega⟩ k) := by
  simp only [V]
  entry_read
  pointwise

/-- The second branch as the kernel gets it. -/
theorem entry2 (c : Dev nD) (r : Fin 8192) (k : Fin 2048) :
    (V m c main_v5 : FVec Ideal S8192x2048 .bf16) (ix2 r k) = m ((c : Thread nD τ).loc main_arg2) (ix3 ⟨r.val / 2048, by omega⟩ ⟨r.val % 2048, by omega⟩ k) := by
  simp only [V]
  entry_read
  pointwise

/-- The third branch as the kernel gets it. -/
theorem entry3 (c : Dev nD) (r : Fin 8192) (k : Fin 2048) :
    (V m c main_v7 : FVec Ideal S8192x2048 .bf16) (ix2 r k) = m ((c : Thread nD τ).loc main_arg3) (ix3 ⟨r.val / 2048, by omega⟩ ⟨r.val % 2048, by omega⟩ k) := by
  simp only [V]
  entry_read
  pointwise

/-- The final array, block by block. -/
theorem final (c : Dev nD) : (dats m 0 c).arrAt 4 cfg0.N
    = (fun i => val (m ((c : Thread nD τ).loc main_arg0)) (m ((c : Thread nD τ).loc main_arg1)) (m ((c : Thread nD τ).loc main_arg2))
        (m ((c : Thread nD τ).loc main_arg3)) (i 0) (i 1) : FVec Ideal S8192x2048 .bf16) := by
  refine (dats m 0 c).arrAt_eq_of_covers 4 _ (by decide +kernel) fun t _ y => ?_
  blk_simp
  rw [after0_4]
  have h0 := (idx t).2.2.2.2.2
  idx_vars y
  have e : (win0_4.blk t).view.emb (ix2 y0 y1) = ix2 ⟨256 * (grid0.coords t 0).val + y0.val, by omega⟩ y1 := by
    blk_ext [idx t]
    all_goals omega
  rw [e]
  rw [out_at]
  have g : ∀ (k : Nat) (hk : k < 48), Ideal.logistic ((iblk m c 0 t : Vec Ideal S256x128 .bf16) (ix2 y0 ⟨k, by omega⟩))
      = gate (m ((c : Thread nD τ).loc main_arg0)) ⟨256 * (grid0.coords t 0).val + y0.val, by omega⟩ ⟨k, hk⟩ :=
    fun k hk => congrArg Ideal.logistic ((iblk0_at m c t y0 ⟨k, by omega⟩).trans (entry0 m c _ _))
  exact congrArg₂ (fun a b : EReal => a + b) (congrArg₂ (fun a b : EReal => a + b)
    (congrArg₂ (fun a b : EReal => a * b) (g (3 * (y1.val / 128)) (by omega)) ((iblk1_at m c t y0 y1).trans (entry1 m c _ y1)))
    (congrArg₂ (fun a b : EReal => a * b) (g (3 * (y1.val / 128) + 1) (by omega)) ((iblk2_at m c t y0 y1).trans (entry2 m c _ y1))))
    (congrArg₂ (fun a b : EReal => a * b) (g (3 * (y1.val / 128) + 2) (by omega)) ((iblk3_at m c t y0 y1).trans (entry3 m c _ y1)))

end Cert.Kernel9Ideal.Proj

namespace Cert.Reference9Ideal.Proj

open Cert.Reference9Ideal Cert.Reference9Ideal.Gen

/-- The gates as the reference has them. -/
def gates (H : FVec Ideal S4x2048x10752 .f32) : FVec Ideal S4x2048x4x4x3 .f32 :=
  shapeCast _ (Host.divf (broadcastInDim S4x2048x48 ![] bcast_S_S4x2048x48 (constant S_ .f32 0x3F800000#32)) (addf (broadcastInDim S4x2048x48 ![] bcast_S_S4x2048x48 (constant S_ .f32 0x3F800000#32)) (Host.exp (Host.negf (extractStridedSlice S4x2048x48 ![0, 0, 10368] H slices_S4x2048x10752_S4x2048x48_0_0_10368))))) shapeCasts_S4x2048x48_S4x2048x4x4x3

/-- A gate of the reference, from its column of the layer's projection. -/
theorem gates_at (H : FVec Ideal S4x2048x10752 .f32) (b : Fin 4) (t : Fin 2048) (g r : Fin 4) (k : Fin 3) :
    gates H (ix5 b t g r k) = Ideal.logistic (H (ix3 b t ⟨10368 + (g.val * 12 + r.val * 3 + k.val), by omega⟩)) := by
  pointwise [gates]
  rfl

/-- The sum of the gated branches, head by head. -/
def tot (S : FVec Ideal S4x2048x4x4x3 .f32) (A B C : FVec Ideal S4x2048x2048 .f32) : FVec Ideal S4x2048x4x4x128 .f32 :=
  addf (addf (mulf (broadcastInDim S4x2048x4x4x128 ![0, 1, 2, 3, 4] bcast_S4x2048x4x4x1_S4x2048x4x4x128_0_1_2_3_4 (extractStridedSlice S4x2048x4x4x1 ![0, 0, 0, 0, 0] S slices_S4x2048x4x4x3_S4x2048x4x4x1_0_0_0_0_0)) (shapeCast _ A shapeCasts_S4x2048x2048_S4x2048x4x4x128))
    (mulf (broadcastInDim S4x2048x4x4x128 ![0, 1, 2, 3, 4] bcast_S4x2048x4x4x1_S4x2048x4x4x128_0_1_2_3_4 (extractStridedSlice S4x2048x4x4x1 ![0, 0, 0, 0, 1] S slices_S4x2048x4x4x3_S4x2048x4x4x1_0_0_0_0_1)) (shapeCast _ B shapeCasts_S4x2048x2048_S4x2048x4x4x128)))
    (mulf (broadcastInDim S4x2048x4x4x128 ![0, 1, 2, 3, 4] bcast_S4x2048x4x4x1_S4x2048x4x4x128_0_1_2_3_4 (extractStridedSlice S4x2048x4x4x1 ![0, 0, 0, 0, 2] S slices_S4x2048x4x4x3_S4x2048x4x4x1_0_0_0_0_2)) (shapeCast _ C shapeCasts_S4x2048x2048_S4x2048x4x4x128))

/-- The reference's gated sum at a head and a lane. -/
theorem tot_at (S : FVec Ideal S4x2048x4x4x3 .f32) (A B C : FVec Ideal S4x2048x2048 .f32) (b : Fin 4) (t : Fin 2048) (g r : Fin 4) (d : Fin 128) :
    tot S A B C (ix5 b t g r d) = (S (ix5 b t g r 0) * A (ix3 b t ⟨g.val * 512 + r.val * 128 + d.val, by omega⟩)
      + S (ix5 b t g r 1) * B (ix3 b t ⟨g.val * 512 + r.val * 128 + d.val, by omega⟩)
      + S (ix5 b t g r 2) * C (ix3 b t ⟨g.val * 512 + r.val * 128 + d.val, by omega⟩) : EReal) := by
  pointwise [tot]

/-- Heads and batch entries put in one row. -/
theorem rows_at (M : FVec Ideal S4x2048x4x4x128 .f32) (r : Fin 8192) (j : Fin 2048) :
    (truncf .bf16 (shapeCast S8192x2048 M shapeCasts_S4x2048x4x4x128_S8192x2048) bitsLt_bf16_f32) (ix2 r j)
      = M (ix5 ⟨r.val / 2048, by omega⟩ ⟨r.val % 2048, by omega⟩ ⟨j.val / 512, by omega⟩ ⟨j.val / 128 % 4, by omega⟩ ⟨j.val % 128, by omega⟩) := by
  pointwise

end Cert.Reference9Ideal.Proj

namespace Cert.Proof

/-- Both programs end with the gated sum. -/
theorem algebraic9 : Cert.algebraic_Kernel9Ideal_Reference9Ideal := by
  intro m g m' g' _ hag
  refine ⟨fun c => (fun i => Cert.Kernel9Ideal.Proj.val (m ((c.tc : Thread _ _).loc Cert.Kernel9Ideal.main_arg0)) (m ((c.tc : Thread _ _).loc Cert.Kernel9Ideal.main_arg1))
      (m ((c.tc : Thread _ _).loc Cert.Kernel9Ideal.main_arg2)) (m ((c.tc : Thread _ _).loc Cert.Kernel9Ideal.main_arg3)) (i 0) (i 1) : FVec Ideal Cert.Kernel9Ideal.S8192x2048 .bf16), ?_, ?_⟩
  · exact (θ_run Cert.Kernel9Ideal.defs _ _).mono (fun r h c => ⟨(h c).1.trans (Cert.Kernel9Ideal.Proj.final m c), (h c).2⟩)
      (Cert.Kernel9Ideal.Value.run_blocks (F := Ideal) m g)
  · refine (θ_run Cert.Reference9Ideal.defs _ _).mono (fun r h c => ⟨(h c).1.trans ?_, (h c).2⟩) (Cert.Reference9Ideal.Value.run (F := Ideal) m' g')
    obtain ⟨a0, a1, a2, a3⟩ := hag c
    rw [a0, a1, a2, a3]
    funext i
    idx_vars i
    generalize m ((c.tc : Thread _ _).loc Cert.Kernel9Ideal.main_arg0) = H
    generalize m ((c.tc : Thread _ _).loc Cert.Kernel9Ideal.main_arg1) = A
    generalize m ((c.tc : Thread _ _).loc Cert.Kernel9Ideal.main_arg2) = B
    generalize m ((c.tc : Thread _ _).loc Cert.Kernel9Ideal.main_arg3) = C
    refine (Cert.Reference9Ideal.Proj.rows_at (Cert.Reference9Ideal.Proj.tot (Cert.Reference9Ideal.Proj.gates H) A B C) i0 i1).trans ?_
    rw [Cert.Reference9Ideal.Proj.tot_at]
    simp only [Cert.Reference9Ideal.Proj.gates_at, Cert.Kernel9Ideal.Proj.val, Cert.Kernel9Ideal.Proj.gate]
    have e : (⟨i1.val / 512 * 512 + i1.val / 128 % 4 * 128 + i1.val % 128, by omega⟩ : Fin 2048) = i1 := Fin.ext (by dsimp only; omega)
    have e0 : ∀ k : Nat, 10368 + (i1.val / 512 * 12 + i1.val / 128 % 4 * 3 + k) = 10368 + (3 * (i1.val / 128) + k) := fun k => by omega
    rw [e]
    simp only [e0]
    rfl

end Cert.Proof
end
end
-- ==== Proof.Adaln.lean ====
module

public import proofs.«01_k».proof.Defs
public import proofs.«01_k».proof.Proof.Gen.Kernel10Ideal.Value
public import proofs.«01_k».proof.Proof.Gen.Reference10Ideal.Run
public import proofs.«01_k».proof.Proof.Gen.Kernel10Ideal
public import proofs.«01_k».proof.Proof.Gen.Reference10Ideal
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section
open Idealize.ShloMosaic Idealize.ShloMosaic.TcCoe Idealize.SL.Sem
open Idealize.ShloMosaic.Pipeline (Dat)

/-! The shared modulation's projection: the logistic-weighted activations, padded to eight rows, times the weights. -/

namespace Cert.Kernel10Ideal.Proj

open Cert.Kernel10Ideal Cert.Kernel10Ideal.Gen

/-- An entry of the padded activations: four rows of zeros below. -/
def row (C : FVec Ideal S4x4096 .f32) (r : Fin 8) (k : Fin 4096) : EReal :=
  if h : r.val < 4 then C (ix2 ⟨r.val, h⟩ k) else 0

/-- One term of the product. -/
def term (C : FVec Ideal S4x4096 .f32) (W : FVec Ideal S4096x24576 .f32) (r : Fin 8) (j : Fin 24576) (k : Fin 4096) : EReal :=
  row C r k * Ideal.logistic (row C r k) * W (ix2 k j)

/-- The result at a row and a column. -/
def val (C : FVec Ideal S4x4096 .f32) (W : FVec Ideal S4096x24576 .f32) (r : Fin 8) (j : Fin 24576) : EReal :=
  ∑ k, term C W r j k

/-- A sum over 4096 is the sum of its two halves. -/
theorem sum_halves (f : Fin 4096 → EReal) :
    ∑ k, f k = (∑ k : Fin 2048, f ⟨k.val, by omega⟩) + ∑ k : Fin 2048, f ⟨2048 + k.val, by omega⟩ :=
  Fin.sum_univ_add (a := 2048) (b := 2048) f

variable (m : (ℓ : Loc nD τ sig) → Buf (Elt Ideal) ℓ)

/-- Where each grid point's blocks lie. -/
theorem idx : ∀ t : Fin cfg0.N,
    win0_0.index t = ![0, t.val % 2]
    ∧ win0_1.index t = ![t.val % 2, t.val / 2]
    ∧ win0_2.index t = ![0, t.val / 2]
    ∧ t.val / 2 < 24 ∧ t.val % 2 < 2 :=
  (by decide +kernel : ∀ t : Fin grid0.N, _)

/-- The product of a point's blocks, entry by entry. -/
theorem pay1_at (x0 : Vec Ideal S8x2048 .f32) (x1 : Vec Ideal S2048x1024 .f32) (r : Fin 8) (j : Fin 1024) :
    k0_pay1 x0 x1 (ix2 r j) = (∑ k, x0 (ix2 r k) * Ideal.logistic (x0 (ix2 r k)) * x1 (ix2 k j) : EReal) := by
  pointwise [k0_pay1]

/-- What the first point of a pair stores. -/
theorem pay2_at (x0 : Vec Ideal S8x2048 .f32) (x1 : Vec Ideal S2048x1024 .f32) (r : Fin 8) (j : Fin 1024) :
    k0_pay2 x0 x1 (ix2 r j) = (k0_pay1 x0 x1 (ix2 r j) : EReal) := by
  unfold k0_pay2
  generalize k0_pay1 x0 x1 = P
  pointwise

/-- What the second point of a pair stores. -/
theorem pay3_at (x0 : Vec Ideal S8x2048 .f32) (x1 : Vec Ideal S2048x1024 .f32) (a : Vec Ideal S8x1024 .f32) (r : Fin 8) (j : Fin 1024) :
    k0_pay3 x0 x1 a (ix2 r j) = (a (ix2 r j) + k0_pay1 x0 x1 (ix2 r j) : EReal) := by
  unfold k0_pay3
  generalize k0_pay1 x0 x1 = P
  pointwise

/-- The block of the activations. -/
theorem iblk0_at (c : Dev nD) (t : Fin cfg0.N) (r : Fin 8) (k : Fin 2048) :
    (iblk m c 0 t : Vec Ideal S8x2048 .f32) (ix2 r k) = (V m c main_v0 : FVec Ideal S8x4096 .f32) (ix2 r ⟨2048 * (t.val % 2) + k.val, by omega⟩) := by
  blk_simp [iblk]
  generalize V m c main_v0 = A
  blk_ext [idx t]
  all_goals omega

/-- The block of the weights. -/
theorem iblk1_at (c : Dev nD) (t : Fin cfg0.N) (k : Fin 2048) (j : Fin 1024) :
    (iblk m c 1 t : Vec Ideal S2048x1024 .f32) (ix2 k j) = m ((c : Thread nD τ).loc main_arg1)
      (ix2 ⟨2048 * (t.val % 2) + k.val, by omega⟩ ⟨1024 * (t.val / 2) + j.val, by have := (idx t).2.2.2; omega⟩) := by
  rw [← V_main_arg1 m c]
  blk_simp [iblk]
  generalize V m c main_arg1 = A
  blk_ext [idx t]
  all_goals omega

/-- What the padding is filled with. -/
theorem zero_at : FloatOps.sitofp (F := Ideal) FTy.f32 0#32 = (0 : EReal) := by
  show ((((0#32 : BitVec 32).toInt : ℤ) : ℝ) : EReal) = 0
  simp

/-- The padding read entry by entry. -/
theorem pad_at (C : FVec Ideal S4x4096 .f32) (r : Fin 8) (k : Fin 4096) :
    pad S8x4096 ![0, 0] ![4, 0] ![0, 0] C (sitofp .f32 (constantI S_ 32 0#32) : FVec Ideal S_ .f32) pads_S4x4096_S8x4096_040_000 h_S_ (ix2 r k) = row C r k := by
  pointwise [row]
  rw [zero_at]

/-- The activations as the kernel gets them. -/
theorem entry_c (c : Dev nD) (r : Fin 8) (k : Fin 4096) :
    (V m c main_v0 : FVec Ideal S8x4096 .f32) (ix2 r k) = row (m ((c : Thread nD τ).loc main_arg0)) r k := by
  have e : (V m c main_v0 : FVec Ideal S8x4096 .f32) = pad S8x4096 ![0, 0] ![4, 0] ![0, 0] (m ((c : Thread nD τ).loc main_arg0) : FVec Ideal S4x4096 .f32)
      (sitofp .f32 (constantI S_ 32 0#32) : FVec Ideal S_ .f32) pads_S4x4096_S8x4096_040_000 h_S_ := by
    simp only [V, hostOps0, List.flatten_cons, List.flatten_nil, List.append_nil, List.cons_append, List.nil_append]
    after_results_simp <;> (try dsimp only [Matrix.cons_val]) <;> (try after_results_simp) <;> rfl
  rw [e]
  exact pad_at _ r k

/-- The product of a point's blocks is half of the sum. -/
theorem half_at (c : Dev nD) (t : Fin cfg0.N) (r : Fin 8) (j : Fin 1024) :
    k0_pay1 (iblk m c 0 t : Vec Ideal S8x2048 .f32) (iblk m c 1 t : Vec Ideal S2048x1024 .f32) (ix2 r j)
      = (∑ k : Fin 2048, term (m ((c : Thread nD τ).loc main_arg0)) (m ((c : Thread nD τ).loc main_arg1)) r
          ⟨1024 * (t.val / 2) + j.val, by have := (idx t).2.2.2; omega⟩ ⟨2048 * (t.val % 2) + k.val, by omega⟩ : EReal) := by
  rw [pay1_at]
  refine Finset.sum_congr rfl fun k _ => ?_
  rw [iblk0_at, entry_c, iblk1_at]
  rfl

/-- The final array, block by block. -/
theorem final (c : Dev nD) : (dats m 0 c).arrAt 2 cfg0.N
    = (fun i => val (m ((c : Thread nD τ).loc main_arg0)) (m ((c : Thread nD τ).loc main_arg1)) (i 0) (i 1) : FVec Ideal S8x24576 .f32) := by
  refine (dats m 0 c).arrAt_eq_of_covers 2 _ (by decide +kernel) fun t hf y => ?_
  have h1 : t.val % 2 = 1 := (flush0_2 t).mp hf
  have h0 : ¬ t.val % 2 = 0 := by omega
  have hq := (idx t).2.2.2.1
  blk_simp
  rw [after0_2, outsAt0_B m c t h0 h1 h1]
  idx_vars y
  have e : (win0_2.blk t).view.emb (ix2 y0 y1) = ix2 ⟨y0.val, by omega⟩ ⟨1024 * (t.val / 2) + y1.val, by omega⟩ := by
    blk_ext [idx t]
    all_goals omega
  rw [e]
  frame_out
  refine (congrArg (fun a => k0_pay3 (iblk m c 0 t) (iblk m c 1 t) a (ix2 y0 y1)) ((Memref.isWhole_whole cc0_scratch0).read_unread _)).trans ?_
  rw [pay3_at, half_at]
  have hs : t.val - 1 < cfg0.N := lt_of_le_of_lt (Nat.sub_le _ _) t.isLt
  have g0 : (⟨t.val - 1, hs⟩ : Fin cfg0.N).val % 2 = 0 := by show (t.val - 1) % 2 = 0; omega
  have g1 : ¬ (⟨t.val - 1, hs⟩ : Fin cfg0.N).val % 2 = 1 := by omega
  have ep : (outsAt0 m c (t.val - 1) hs).2 (ix2 y0 y1) = k0_pay1 (iblk m c 0 ⟨t.val - 1, hs⟩ : Vec Ideal S8x2048 .f32) (iblk m c 1 ⟨t.val - 1, hs⟩ : Vec Ideal S2048x1024 .f32) (ix2 y0 y1) := by
    refine (congrFun (congrArg Prod.snd (outsAt0_A m c ⟨t.val - 1, hs⟩ g0 g1 g1)) (ix2 y0 y1)).trans ?_
    frame_out
    exact pay2_at _ _ y0 y1
  rw [ep, half_at]
  show _ = val _ _ _ _
  unfold val
  rw [sum_halves]
  refine congrArg₂ (fun a b : EReal => a + b) (Finset.sum_congr rfl fun k _ => congrArg₂ (term _ _ _) (Fin.ext ?_) (Fin.ext ?_)) (Finset.sum_congr rfl fun k _ => congrArg₂ (term _ _ _) (Fin.ext ?_) (Fin.ext ?_))
  all_goals first | rfl | (simp; omega)

end Cert.Kernel10Ideal.Proj

namespace Cert.Proof

/-- Both programs end with the projection, four rows of zeros below it. -/
theorem algebraic10 : Cert.algebraic_Kernel10Ideal_Reference10Ideal := by
  intro m g m' g' _ hag
  refine ⟨fun c => (fun i => Cert.Kernel10Ideal.Proj.val (m ((c.tc : Thread _ _).loc Cert.Kernel10Ideal.main_arg0)) (m ((c.tc : Thread _ _).loc Cert.Kernel10Ideal.main_arg1))
      (i 0) (i 1) : FVec Ideal Cert.Kernel10Ideal.S8x24576 .f32), ?_, ?_⟩
  · exact (θ_run Cert.Kernel10Ideal.defs _ _).mono (fun r h c => ⟨(h c).1.trans (Cert.Kernel10Ideal.Proj.final m c), (h c).2⟩)
      (Cert.Kernel10Ideal.Value.run_blocks (F := Ideal) m g)
  · refine (θ_run Cert.Reference10Ideal.defs _ _).mono (fun r h c => ⟨(h c).1.trans ?_, (h c).2⟩) (Cert.Reference10Ideal.Value.run (F := Ideal) m' g')
    obtain ⟨a0, a1⟩ := hag c
    try unfold Cert.Reference10Ideal.Value.res_main_v2
    try dsimp only
    rw [← a0, ← a1]
    funext i
    idx_vars i
    generalize m' ((c.tc : Thread _ _).loc Cert.Reference10Ideal.main_arg0) = C
    generalize m' ((c.tc : Thread _ _).loc Cert.Reference10Ideal.main_arg1) = W
    pointwise [Cert.Kernel10Ideal.Proj.val, Cert.Kernel10Ideal.Proj.term, Cert.Kernel10Ideal.Proj.row]
    split
    · rfl
    · rw [Cert.Kernel10Ideal.Proj.zero_at]
      refine (Finset.sum_eq_zero fun k _ => ?_).symm
      rw [zero_mul, zero_mul]

end Cert.Proof
end
end
-- ==== Proof.PrepQ.lean ====
module

public import proofs.«01_k».proof.Defs
public import proofs.«01_k».proof.Proof.Gen.Kernel11Ideal.Value
public import proofs.«01_k».proof.Proof.Gen.Reference11Ideal.Run
public import proofs.«01_k».proof.Proof.Gen.Kernel11Ideal
public import proofs.«01_k».proof.Proof.Gen.Reference11Ideal
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section
open Idealize.ShloMosaic Idealize.ShloMosaic.TcCoe Idealize.SL.Sem
open Idealize.ShloMosaic.Pipeline (Dat)

/-! The queries prepared: each head's norm, the rotation of its last 64 lanes, the scores' scale. -/

namespace Cert.Kernel11Ideal.Proj

open Cert.Kernel11Ideal Cert.Kernel11Ideal.Gen

/-- The factor of a head's norm, from the sum of the squares. -/
def rs (s : EReal) : EReal := Ideal.rsqrt (s * ((1 / 192 : ℝ) : EReal) + Ideal.ofBits .f32 0x358637BD#32)

/-- The named constant is 1/192. -/
theorem inv_192 : (Named.named (F := Ideal) (φ := .f32) κ "inv_192" 0x3BAAAAAB#32 : EReal) = ((1 / 192 : ℝ) : EReal) :=
  IdealRules.named_const.ideal_named_scalar _ _ _ _ rfl

/-- The sum of the squares of a head's lanes as the body has it: 128 lanes, then 64 of 128. -/
def sq (x0 : Vec Ideal S256x4096 .bf16) (r : Fin 256) (h : Fin 16) : EReal :=
  (∑ k : Fin 128, x0 (ix2 r ⟨256 * h.val + k.val, by omega⟩) * x0 (ix2 r ⟨256 * h.val + k.val, by omega⟩))
    + ∑ k : Fin 128, if k.val < 64 then x0 (ix2 r ⟨256 * h.val + 128 + k.val, by omega⟩) * x0 (ix2 r ⟨256 * h.val + 128 + k.val, by omega⟩) else 0

/-- The mask of the first 64 lanes, as a condition. -/
theorem mask_at : ∀ k : Fin 128, IntOp.cmpi CmpIPredicate.slt (BitVec.ofNat 32 k.val) 64#32 = if k.val < 64 then 1#1 else 0#1 := by decide

/-- A choice by the mask of the first 64 lanes. -/
theorem sel_at (k : Fin 128) (a : EReal) :
    (Scalar.select (α := EReal) (IntOp.cmpi CmpIPredicate.slt (BitVec.ofNat 32 k.val) 64#32) a (0 : EReal) : EReal) = if k.val < 64 then a else 0 := by
  rw [mask_at k]; by_cases h : k.val < 64
  · rw [if_pos h, if_pos h]; rfl
  · rw [if_neg h, if_neg h]; rfl

/-- The factor as the body has it is the factor of the head whose lanes it reads. -/
theorem rs_congr (x0 : Vec Ideal S256x4096 .bf16) (p r : Fin 256) (h : Fin 16) (f g : Fin 128 → Fin 4096) (hp : p = r)
    (hf : ∀ k, (f k).val = 256 * h.val + k.val) (hg : ∀ k, (g k).val = 256 * h.val + 128 + k.val) :
    Ideal.rsqrt ((((∑ k : Fin 128, x0 (ix2 p (f k)) * x0 (ix2 p (f k)) : EReal)
      + ∑ k : Fin 128, (Scalar.select (α := EReal) (IntOp.cmpi CmpIPredicate.slt (BitVec.ofNat 32 k.val) 64#32) (x0 (ix2 p (g k)) * x0 (ix2 p (g k)) : EReal) (0 : EReal) : EReal))
        * (Named.named (F := Ideal) (φ := .f32) κ "inv_192" 0x3BAAAAAB#32 : EReal)) + Ideal.ofBits .f32 0x358637BD#32) = rs (sq x0 r h) := by
  subst hp
  have ef : f = fun k => ⟨256 * h.val + k.val, by omega⟩ := funext fun k => Fin.ext (hf k)
  have eg : g = fun k => ⟨256 * h.val + 128 + k.val, by omega⟩ := funext fun k => Fin.ext (hg k)
  subst ef; subst eg
  rw [inv_192]
  unfold rs sq
  simp only [sel_at]

set_option maxHeartbeats 2000000 in
/-- What the body writes at a row and a column. -/
theorem out_at (x0 : Vec Ideal S256x4096 .bf16) (x1 : Vec Ideal S1x128 .f32) (x2 x3 : Vec Ideal S256x128 .f32) (r : Fin 256) (j : Fin 4096) :
    out0_4 x0 x1 x2 x3 (ix2 r j) = (if j.val % 256 < 128 then x0 (ix2 r j) * rs (sq x0 r ⟨j.val / 256, by omega⟩) * x1 (ix2 0 ⟨j.val % 128, by omega⟩)
      else (x0 (ix2 r j) * x2 (ix2 r ⟨j.val % 128, by omega⟩)
        + x0 (ix2 r ⟨256 * (j.val / 256) + 128 + (j.val + 64) % 128, by omega⟩) * x3 (ix2 r ⟨(j.val + 64) % 128, by omega⟩)) * rs (sq x0 r ⟨j.val / 256, by omega⟩) : EReal) := by
  unfold_out out0_4
  canon_tiles x h
  all_goals (open_payloads; pointwise; replace h0 : r.val = _ := h0; replace h1 : j.val = _ := h1)
  all_goals first
    | rw [if_pos (by omega)]
      refine congrArg₂ (· * ·) (congrArg₂ (· * ·) (congrArg x0 (congrArg₂ ix2 (Fin.ext ?_) (Fin.ext ?_))) (rs_congr x0 _ _ _ _ _ (Fin.ext ?_) (fun k => ?_) (fun k => ?_))) (congrArg x1 (congrArg₂ ix2 rfl (Fin.ext ?_)))
      all_goals (dsimp only; omega)
    | rw [if_neg (by omega)]
      refine congrArg₂ (· * ·) (congrArg₂ (· + ·) (congrArg₂ (· * ·) (congrArg x0 (congrArg₂ ix2 (Fin.ext ?_) (Fin.ext ?_))) (congrArg x2 ((ix2_eta x).symm.trans (congrArg₂ ix2 (Fin.ext ?_) (Fin.ext ?_)))))
        (congrArg₂ (· * ·) (congrArg x0 (congrArg₂ ix2 (Fin.ext ?_) (Fin.ext ?_))) (congrArg x3 (congrArg₂ ix2 (Fin.ext ?_) (Fin.ext ?_))))) (rs_congr x0 _ _ _ _ _ (Fin.ext ?_) (fun k => ?_) (fun k => ?_))
      all_goals (dsimp only; omega)

/-- The angles of the rotation. -/
def ang : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The scores' scale. -/
def sc : EReal := Ideal.ofBits .f32 0x3D93CD3A#32

/-- The factors of a head's first 128 lanes. -/
def tabA (G : FVec Ideal S192 .f32) : FVec Ideal S1x128 .f32 :=
  shapeCast S1x128 (mulf (extractStridedSlice S128 ![0] G slices_S192_S128_0) (broadcastInDim S128 ![] bcast_S_S128 (constant S_ .f32 0x3D93CD3A#32))) shapeCasts_S128_S1x128

/-- The factors of a head's rotary lanes at their own places. -/
def tabC (G : FVec Ideal S192 .f32) (C : FVec Ideal S2048x32 .f32) : FVec Ideal S2048x128 .f32 :=
  concatenate S2048x128 1 [⟨S2048x64, mulf (mulf (broadcastInDim S2048x64 ![0, 1] bcast_S1x64_S2048x64_0_1 (broadcastInDim S1x64 ![1] bcast_S64_S1x64_1 (extractStridedSlice S64 ![128] G slices_S192_S64_128)))
      (concatenate S2048x64 1 [⟨S2048x32, C⟩, ⟨S2048x32, C⟩] concatenates_S2048x32_S2048x32_S2048x64_d1)) (broadcastInDim S2048x64 ![] bcast_S_S2048x64 (constant S_ .f32 0x3D93CD3A#32))⟩,
    ⟨S2048x64, broadcastInDim S2048x64 ![] bcast_S_S2048x64 (constant S_ .f32 0x00000000#32)⟩] concatenates_S2048x64_S2048x64_S2048x128_d1

/-- The factors of a head's rotary lanes with their halves exchanged. -/
def tabS (G : FVec Ideal S192 .f32) (S : FVec Ideal S2048x32 .f32) : FVec Ideal S2048x128 .f32 :=
  concatenate S2048x128 1 [⟨S2048x64, broadcastInDim S2048x64 ![] bcast_S_S2048x64 (constant S_ .f32 0x00000000#32)⟩,
    ⟨S2048x64, mulf (mulf (broadcastInDim S2048x64 ![0, 1] bcast_S1x64_S2048x64_0_1 (broadcastInDim S1x64 ![1] bcast_S64_S1x64_1
      (concatenate S64 0 [⟨S32, extractStridedSlice S32 ![32] (extractStridedSlice S64 ![128] G slices_S192_S64_128) slices_S64_S32_32⟩, ⟨S32, extractStridedSlice S32 ![0] (extractStridedSlice S64 ![128] G slices_S192_S64_128) slices_S64_S32_0⟩] concatenates_S32_S32_S64_d0)))
      (concatenate S2048x64 1 [⟨S2048x32, Host.negf S⟩, ⟨S2048x32, S⟩] concatenates_S2048x32_S2048x32_S2048x64_d1)) (broadcastInDim S2048x64 ![] bcast_S_S2048x64 (constant S_ .f32 0x3D93CD3A#32))⟩] concatenates_S2048x64_S2048x64_S2048x128_d1

/-- The queries with each head's rotary lanes repeated, their halves exchanged. -/
def lay (Q : FVec Ideal S4x2048x16x192 .f32) : FVec Ideal S8192x4096 .bf16 :=
  truncf .bf16 (shapeCast S8192x4096 (concatenate S4x2048x16x256 3 [⟨S4x2048x16x192, Q⟩,
    ⟨S4x2048x16x32, extractStridedSlice S4x2048x16x32 ![0, 0, 0, 32] (extractStridedSlice S4x2048x16x64 ![0, 0, 0, 128] Q slices_S4x2048x16x192_S4x2048x16x64_0_0_0_128) slices_S4x2048x16x64_S4x2048x16x32_0_0_0_32⟩,
    ⟨S4x2048x16x32, extractStridedSlice S4x2048x16x32 ![0, 0, 0, 0] (extractStridedSlice S4x2048x16x64 ![0, 0, 0, 128] Q slices_S4x2048x16x192_S4x2048x16x64_0_0_0_128) slices_S4x2048x16x64_S4x2048x16x32_0_0_0_0⟩] concatenates_S4x2048x16x192_S4x2048x16x32_S4x2048x16x32_S4x2048x16x256_d3) shapeCasts_S4x2048x16x256_S8192x4096) bitsLt_bf16_f32

/-- The first factors at a lane. -/
theorem tabA_at (G : FVec Ideal S192 .f32) (k : Fin 128) : tabA G (ix2 0 k) = (G (ix1 ⟨k.val, by omega⟩) * sc : EReal) := by
  pointwise [tabA]
  rfl

/-- The rotary factors at a position and a lane. -/
theorem tabC_at (G : FVec Ideal S192 .f32) (C : FVec Ideal S2048x32 .f32) (t : Fin 2048) (p : Fin 128) : tabC G C (ix2 t p)
    = (if h : p.val < 64 then (G (ix1 ⟨128 + p.val, by omega⟩) * if h1 : p.val < 32 then C (ix2 t ⟨p.val, h1⟩) else C (ix2 t ⟨p.val - 32, by omega⟩)) * sc else 0 : EReal) := by
  pointwise [tabC]
  rfl

/-- The exchanged rotary factors at a position and a lane. -/
theorem tabS_at (G : FVec Ideal S192 .f32) (S : FVec Ideal S2048x32 .f32) (t : Fin 2048) (p : Fin 128) : tabS G S (ix2 t p)
    = (if h : p.val < 64 then 0 else ((if h1 : p.val - 64 < 32 then G (ix1 ⟨128 + (32 + (p.val - 64)), by omega⟩) else G (ix1 ⟨128 + (p.val - 64 - 32), by omega⟩))
        * if h1 : p.val - 64 < 32 then -S (ix2 t ⟨p.val - 64, h1⟩) else S (ix2 t ⟨p.val - 64 - 32, by omega⟩)) * sc : EReal) := by
  pointwise [tabS]
  rfl

/-- The repeated queries at a row and a column. -/
theorem lay_at (Q : FVec Ideal S4x2048x16x192 .f32) (r : Fin 8192) (j : Fin 4096) : lay Q (ix2 r j)
    = (if h : j.val % 256 < 192 then Q (ix4 ⟨r.val / 2048, by omega⟩ ⟨r.val % 2048, by omega⟩ ⟨j.val / 256, by omega⟩ ⟨j.val % 256, h⟩)
      else if h : j.val % 256 - 192 < 32 then Q (ix4 ⟨r.val / 2048, by omega⟩ ⟨r.val % 2048, by omega⟩ ⟨j.val / 256, by omega⟩ ⟨128 + (32 + (j.val % 256 - 192)), by omega⟩)
      else Q (ix4 ⟨r.val / 2048, by omega⟩ ⟨r.val % 2048, by omega⟩ ⟨j.val / 256, by omega⟩ ⟨128 + (j.val % 256 - 192 - 32), by omega⟩) : EReal) := by
  pointwise [lay]

/-- A head's own lanes in the repeated queries. -/
theorem lay_own (Q : FVec Ideal S4x2048x16x192 .f32) (r : Fin 8192) (h : Fin 16) (j : Fin 4096) (d : Fin 192) (hj : j.val = 256 * h.val + d.val) :
    lay Q (ix2 r j) = Q (ix4 ⟨r.val / 2048, by omega⟩ ⟨r.val % 2048, by omega⟩ h d) := by
  rw [lay_at, dif_pos (by omega)]
  exact congrArg Q (congr (congrArg (ix4 _ _) (Fin.ext (by dsimp only; omega))) (Fin.ext (by dsimp only; omega)))

/-- The second half of a head's rotary lanes, repeated first. -/
theorem lay_up (Q : FVec Ideal S4x2048x16x192 .f32) (r : Fin 8192) (h : Fin 16) (j : Fin 4096) (d : Fin 192) (hd : 160 ≤ d.val) (hj : j.val = 256 * h.val + 32 + d.val) :
    lay Q (ix2 r j) = Q (ix4 ⟨r.val / 2048, by omega⟩ ⟨r.val % 2048, by omega⟩ h d) := by
  rw [lay_at, dif_neg (by omega), dif_pos (by omega)]
  exact congrArg Q (congr (congrArg (ix4 _ _) (Fin.ext (by dsimp only; omega))) (Fin.ext (by dsimp only; omega)))

/-- The first half of a head's rotary lanes, repeated last. -/
theorem lay_down (Q : FVec Ideal S4x2048x16x192 .f32) (r : Fin 8192) (h : Fin 16) (j : Fin 4096) (d : Fin 192) (hd : 128 ≤ d.val) (hd' : d.val < 160) (hj : j.val = 256 * h.val + 96 + d.val) :
    lay Q (ix2 r j) = Q (ix4 ⟨r.val / 2048, by omega⟩ ⟨r.val % 2048, by omega⟩ h d) := by
  rw [lay_at, dif_neg (by omega), dif_neg (by omega)]
  exact congrArg Q (congr (congrArg (ix4 _ _) (Fin.ext (by dsimp only; omega))) (Fin.ext (by dsimp only; omega)))

/-- The scale's value. -/
theorem sc_eq : sc = ((9686330 / 134217728 : ℝ) : EReal) := by
  simp [sc, Ideal.ofBits, Ideal.ieee, -EReal.coe_mul]; norm_num

/-- The value of the number added before the root. -/
theorem eps_eq : Ideal.ofBits .f32 0x358637BD#32 = ((8796093 / 8796093022208 : ℝ) : EReal) := by
  simp [Ideal.ofBits, Ideal.ieee, -EReal.coe_mul]; norm_num

/-- A square is not negative. -/
theorem square_nonneg (x : EReal) : 0 ≤ x * x := by
  induction x with
  | bot => simp
  | top => simp
  | coe x => rw [← EReal.coe_mul]; exact EReal.coe_nonneg.2 (mul_self_nonneg x)

/-- The reciprocal root of a positive number is not negative and not infinite. -/
theorem rsqrt_bounds (z : EReal) (hz : 0 < z) : 0 ≤ Ideal.rsqrt z ∧ Ideal.rsqrt z ≠ ⊤ := by
  induction z with
  | bot => simp at hz
  | top =>
    have e : Ideal.rsqrt (⊤ : EReal) = 0 := rfl
    rw [e]
    exact ⟨le_refl _, EReal.zero_ne_top⟩
  | coe x =>
    have hx : 0 < x := EReal.coe_pos.1 hz
    have e : Ideal.rsqrt (x : EReal) = (((Real.sqrt x)⁻¹ : ℝ) : EReal) := by
      show (if x < 0 then (⊥ : EReal) else if x = 0 then ⊤ else (((Real.sqrt x)⁻¹ : ℝ) : EReal)) = _
      rw [if_neg (not_lt.2 hx.le), if_neg hx.ne']
    rw [e]
    exact ⟨EReal.coe_nonneg.2 (by positivity), EReal.coe_ne_top _⟩

/-- The factor of a head's norm is not negative and not infinite, a sum of squares given. -/
theorem rs_bounds (s : EReal) (hs : 0 ≤ s) : 0 ≤ rs s ∧ rs s ≠ ⊤ := by
  refine rsqrt_bounds _ ?_
  rw [eps_eq]
  refine lt_of_lt_of_le (EReal.coe_pos.2 (by norm_num : (0 : ℝ) < 8796093 / 8796093022208)) ?_
  exact le_add_of_nonneg_left (mul_nonneg hs (EReal.coe_nonneg.2 (by norm_num)))

/-- The two ways of multiplying out a rotation. -/
theorem turn (x y r g h c n : EReal) (hr : 0 ≤ r) (hr' : r ≠ ⊤) :
    (x * (g * c * sc) + y * (h * n * sc)) * r = (x * r * g * c + y * r * h * n) * sc := by
  have s0 : (0 : EReal) ≤ sc := by rw [sc_eq]; exact EReal.coe_nonneg.2 (by norm_num)
  have s1 : sc ≠ ⊤ := by rw [sc_eq]; exact EReal.coe_ne_top _
  rw [EReal.right_distrib_of_nonneg_of_ne_top hr hr', EReal.right_distrib_of_nonneg_of_ne_top s0 s1]
  congr 1 <;> ac_rfl

/-- A sum of squares over 192 lanes in two parts. -/
theorem sum_192 (p : Fin 192 → EReal) : ∑ k, p k * p k
    = (∑ k : Fin 128, p ⟨k.val, by omega⟩ * p ⟨k.val, by omega⟩) + ∑ k : Fin 128, if h : k.val < 64 then p ⟨128 + k.val, by omega⟩ * p ⟨128 + k.val, by omega⟩ else 0 := by
  rw [Fin.sum_univ_add (a := 128) (b := 64)]
  refine congrArg₂ (· + ·) rfl ?_
  rw [Fin.sum_univ_add (a := 64) (b := 64)]
  have h0 : ∀ k : Fin 64, (if h : (Fin.castAdd 64 k).val < 64 then p ⟨128 + (Fin.castAdd 64 k).val, by omega⟩ * p ⟨128 + (Fin.castAdd 64 k).val, by omega⟩ else 0) = p (Fin.natAdd 128 k) * p (Fin.natAdd 128 k) :=
    fun k => dif_pos k.isLt
  have h1 : ∀ k : Fin 64, (if h : (Fin.natAdd 64 k).val < 64 then p ⟨128 + (Fin.natAdd 64 k).val, by omega⟩ * p ⟨128 + (Fin.natAdd 64 k).val, by omega⟩ else 0) = 0 :=
    fun k => dif_neg (by simp)
  simp only [h0, h1, Finset.sum_const_zero, add_zero]

/-- A mean over a head's 192 lanes is the sum times 1/192. -/
theorem div_192 (s : EReal) : Ideal.rsqrt (Ideal.div s (Ideal.ofBits .f32 0x43400000#32) + Ideal.ofBits .f32 0x358637BD#32) = rs s := by
  have h : Ideal.ofBits .f32 0x43400000#32 = ((192 : ℝ) : EReal) := by
    simp [Ideal.ofBits, Ideal.ieee, -EReal.coe_mul]; norm_num
  rw [rs, h, Ideal.div_coe (by norm_num)]

/-- A lane of a head after its norm. -/
def nrm (Q : FVec Ideal S4x2048x16x192 .f32) (G : FVec Ideal S192 .f32) (b : Fin 4) (t : Fin 2048) (h : Fin 16) (d : Fin 192) : EReal :=
  Q (ix4 b t h d) * rs (∑ k : Fin 192, Q (ix4 b t h k) * Q (ix4 b t h k)) * G (ix1 d)

/-- A head's 256 lanes: 128 with the norm, 64 rotated, 64 zero. -/
def head (Q : FVec Ideal S4x2048x16x192 .f32) (G : FVec Ideal S192 .f32) (C S : FVec Ideal S2048x32 .f32) (b : Fin 4) (t : Fin 2048) (h : Fin 16) (l : Fin 256) : EReal :=
  if h0 : l.val < 128 then nrm Q G b t h ⟨l.val, by omega⟩ * sc
  else if h1 : l.val < 160 then (nrm Q G b t h ⟨l.val, by omega⟩ * C (ix2 t ⟨l.val - 128, by omega⟩) - nrm Q G b t h ⟨l.val + 32, by omega⟩ * S (ix2 t ⟨l.val - 128, by omega⟩)) * sc
  else if h2 : l.val < 192 then (nrm Q G b t h ⟨l.val, by omega⟩ * C (ix2 t ⟨l.val - 160, by omega⟩) + nrm Q G b t h ⟨l.val - 32, by omega⟩ * S (ix2 t ⟨l.val - 160, by omega⟩)) * sc
  else 0

/-- The result at a row and a column. -/
def val (Q : FVec Ideal S4x2048x16x192 .f32) (G : FVec Ideal S192 .f32) (r : Fin 8192) (j : Fin 4096) : EReal :=
  head Q G (Host.cos ang) (Host.sin ang) ⟨r.val / 2048, by omega⟩ ⟨r.val % 2048, by omega⟩ ⟨j.val / 256, by omega⟩ ⟨j.val % 256, by omega⟩

/-- What the body writes is the head's lane, its blocks given. -/
theorem head_of (Q : FVec Ideal S4x2048x16x192 .f32) (G : FVec Ideal S192 .f32) (C S : FVec Ideal S2048x32 .f32)
    (x0 : Vec Ideal S256x4096 .bf16) (x1 : Vec Ideal S1x128 .f32) (x2 x3 : Vec Ideal S256x128 .f32) (p : Fin 256) (r : Fin 8192) (j : Fin 4096)
    (e0 : ∀ j, x0 (ix2 p j) = lay Q (ix2 r j)) (e1 : ∀ k, x1 (ix2 0 k) = tabA G (ix2 0 k))
    (e2 : ∀ k, x2 (ix2 p k) = tabC G C (ix2 ⟨r.val % 2048, by omega⟩ k)) (e3 : ∀ k, x3 (ix2 p k) = tabS G S (ix2 ⟨r.val % 2048, by omega⟩ k)) :
    out0_4 x0 x1 x2 x3 (ix2 p j) = head Q G C S ⟨r.val / 2048, by omega⟩ ⟨r.val % 2048, by omega⟩ ⟨j.val / 256, by omega⟩ ⟨j.val % 256, by omega⟩ := by
  have hs : sq x0 p ⟨j.val / 256, by omega⟩ = ∑ k : Fin 192, Q (ix4 ⟨r.val / 2048, by omega⟩ ⟨r.val % 2048, by omega⟩ ⟨j.val / 256, by omega⟩ k) * Q (ix4 ⟨r.val / 2048, by omega⟩ ⟨r.val % 2048, by omega⟩ ⟨j.val / 256, by omega⟩ k) := by
    rw [sum_192]
    unfold sq
    refine congrArg₂ (· + ·) (Finset.sum_congr rfl fun k _ => ?_) (Finset.sum_congr rfl fun k _ => ?_)
    · rw [e0, lay_own Q r ⟨j.val / 256, by omega⟩ _ ⟨k.val, by omega⟩ rfl]
    · by_cases hk : k.val < 64
      · rw [if_pos hk, dif_pos hk, e0, lay_own Q r ⟨j.val / 256, by omega⟩ _ ⟨128 + k.val, by omega⟩ (by dsimp only; omega)]
      · rw [if_neg hk, dif_neg hk]
  have hb : 0 ≤ rs (sq x0 p ⟨j.val / 256, by omega⟩) ∧ rs (sq x0 p ⟨j.val / 256, by omega⟩) ≠ ⊤ := by
    rw [hs]
    exact rs_bounds _ (Finset.sum_nonneg fun k _ => square_nonneg _)
  rw [out_at]
  unfold head nrm
  rw [← hs]
  generalize rs (sq x0 p ⟨j.val / 256, by omega⟩) = R at hb ⊢
  rw [e0, e0, e1, e2, e3, tabA_at, tabC_at, tabS_at]
  by_cases h0 : j.val % 256 < 128
  · rw [if_pos h0, dif_pos h0, lay_own Q r ⟨j.val / 256, by omega⟩ j ⟨j.val % 256, by omega⟩ (by dsimp only; omega), ← mul_assoc]
    have e : (⟨j.val % 128, by omega⟩ : Fin 192) = ⟨j.val % 256, by omega⟩ := Fin.ext (by dsimp only; omega)
    rw [e]
  · rw [if_neg h0, dif_neg h0]
    by_cases h1 : j.val % 256 < 160
    · rw [dif_pos h1, dif_pos (by first | omega | (dsimp only; omega)), dif_pos (by first | omega | (dsimp only; omega)), dif_neg (by first | omega | (dsimp only; omega)), dif_pos (by first | omega | (dsimp only; omega)), dif_pos (by first | omega | (dsimp only; omega)),
        lay_own Q r ⟨j.val / 256, by omega⟩ j ⟨j.val % 256, by omega⟩ (by dsimp only; omega),
        lay_up Q r ⟨j.val / 256, by omega⟩ _ ⟨j.val % 256 + 32, by omega⟩ (by dsimp only; omega) (by dsimp only; omega),
        turn _ _ _ _ _ _ _ hb.1 hb.2, mul_neg, ← sub_eq_add_neg]
      have a : (⟨128 + j.val % 128, by omega⟩ : Fin 192) = ⟨j.val % 256, by omega⟩ := Fin.ext (by dsimp only; omega)
      have b : (⟨128 + (32 + ((j.val + 64) % 128 - 64)), by omega⟩ : Fin 192) = ⟨j.val % 256 + 32, by omega⟩ := Fin.ext (by dsimp only; omega)
      have c : (⟨j.val % 128, by omega⟩ : Fin 32) = ⟨j.val % 256 - 128, by omega⟩ := Fin.ext (by dsimp only; omega)
      have d : (⟨(j.val + 64) % 128 - 64, by omega⟩ : Fin 32) = ⟨j.val % 256 - 128, by omega⟩ := Fin.ext (by dsimp only; omega)
      rw [a, b, c, d]
    · rw [dif_neg h1]
      by_cases h2 : j.val % 256 < 192
      · rw [dif_pos h2, dif_pos (by first | omega | (dsimp only; omega)), dif_neg (by first | omega | (dsimp only; omega)), dif_neg (by first | omega | (dsimp only; omega)), dif_neg (by first | omega | (dsimp only; omega)), dif_neg (by first | omega | (dsimp only; omega)),
          lay_own Q r ⟨j.val / 256, by omega⟩ j ⟨j.val % 256, by omega⟩ (by dsimp only; omega),
          lay_down Q r ⟨j.val / 256, by omega⟩ _ ⟨j.val % 256 - 32, by omega⟩ (by dsimp only; omega) (by dsimp only; omega) (by dsimp only; omega),
          turn _ _ _ _ _ _ _ hb.1 hb.2]
        have a : (⟨128 + j.val % 128, by omega⟩ : Fin 192) = ⟨j.val % 256, by omega⟩ := Fin.ext (by dsimp only; omega)
        have b : (⟨128 + ((j.val + 64) % 128 - 64 - 32), by omega⟩ : Fin 192) = ⟨j.val % 256 - 32, by omega⟩ := Fin.ext (by dsimp only; omega)
        have c : (⟨j.val % 128 - 32, by omega⟩ : Fin 32) = ⟨j.val % 256 - 160, by omega⟩ := Fin.ext (by dsimp only; omega)
        have d : (⟨(j.val + 64) % 128 - 64 - 32, by omega⟩ : Fin 32) = ⟨j.val % 256 - 160, by omega⟩ := Fin.ext (by dsimp only; omega)
        rw [a, b, c, d]
      · rw [dif_neg h2, dif_neg (by first | omega | (dsimp only; omega)), dif_pos (by first | omega | (dsimp only; omega)), mul_zero, mul_zero, add_zero, zero_mul]

variable (m : (ℓ : Loc nD τ sig) → Buf (Elt Ideal) ℓ)

/-- Where each grid point's blocks lie. -/
theorem idx : ∀ t : Fin cfg0.N,
    win0_0.index t = ![(grid0.coords t 0).val, 0]
    ∧ win0_1.index t = ![0, 0]
    ∧ win0_2.index t = ![(grid0.coords t 0).val % 8, 0]
    ∧ win0_3.index t = ![(grid0.coords t 0).val % 8, 0]
    ∧ win0_4.index t = ![(grid0.coords t 0).val, 0]
    ∧ (grid0.coords t 0).val < 32 :=
  (by decide +kernel : ∀ t : Fin grid0.N, _)

/-- The block of the queries at a grid point. -/
theorem iblk0_at (c : Dev nD) (t : Fin cfg0.N) (r : Fin 256) (k : Fin 4096) :
    (iblk m c 0 t : Vec Ideal S256x4096 .bf16) (ix2 r k) = (V m c main_v5 : FVec Ideal S8192x4096 .bf16) (ix2 ⟨256 * (grid0.coords t 0).val + r.val, by have := (idx t).2.2.2.2.2; omega⟩ k) := by
  blk_simp [iblk]
  generalize V m c main_v5 = A
  blk_ext [idx t]
  all_goals omega

/-- The block of the first factors. -/
theorem iblk1_at (c : Dev nD) (t : Fin cfg0.N) (k : Fin 128) :
    (iblk m c 1 t : Vec Ideal S1x128 .f32) (ix2 0 k) = (V m c main_v33 : FVec Ideal S1x128 .f32) (ix2 0 k) := by
  blk_simp [iblk]
  generalize V m c main_v33 = A
  blk_ext [idx t]
  all_goals omega

/-- The block of the rotary factors. -/
theorem iblk2_at (c : Dev nD) (t : Fin cfg0.N) (r : Fin 256) (k : Fin 128) :
    (iblk m c 2 t : Vec Ideal S256x128 .f32) (ix2 r k) = (V m c main_v39 : FVec Ideal S2048x128 .f32) (ix2 ⟨256 * ((grid0.coords t 0).val % 8) + r.val, by omega⟩ k) := by
  blk_simp [iblk]
  generalize V m c main_v39 = A
  blk_ext [idx t]
  all_goals omega

/-- The block of the exchanged rotary factors. -/
theorem iblk3_at (c : Dev nD) (t : Fin cfg0.N) (r : Fin 256) (k : Fin 128) :
    (iblk m c 3 t : Vec Ideal S256x128 .f32) (ix2 r k) = (V m c main_v45 : FVec Ideal S2048x128 .f32) (ix2 ⟨256 * ((grid0.coords t 0).val % 8) + r.val, by omega⟩ k) := by
  blk_simp [iblk]
  generalize V m c main_v45 = A
  blk_ext [idx t]
  all_goals omega

/-- The queries as the kernel gets them. -/
theorem entry0 (c : Dev nD) : (V m c main_v5 : FVec Ideal S8192x4096 .bf16) = lay (m ((c : Thread nD τ).loc main_arg0)) := by
  unfold lay
  simp only [V, hostOps0, List.flatten_cons, List.flatten_nil, List.append_nil, List.cons_append, List.nil_append]
  after_results_simp <;> (try dsimp only [Matrix.cons_val]) <;> (try after_results_simp) <;> rfl

/-- The first factors as the kernel gets them. -/
theorem entry1 (c : Dev nD) : (V m c main_v33 : FVec Ideal S1x128 .f32) = tabA (m ((c : Thread nD τ).loc main_arg1)) := by
  unfold tabA
  simp only [V, hostOps0, List.flatten_cons, List.flatten_nil, List.append_nil, List.cons_append, List.nil_append]
  after_results_simp <;> (try dsimp only [Matrix.cons_val]) <;> (try after_results_simp) <;> rfl

/-- The rotary factors as the kernel gets them. -/
theorem entry2 (c : Dev nD) : (V m c main_v39 : FVec Ideal S2048x128 .f32) = tabC (m ((c : Thread nD τ).loc main_arg1)) (Host.cos ang) := by
  unfold tabC ang
  simp only [V, hostOps0, List.flatten_cons, List.flatten_nil, List.append_nil, List.cons_append, List.nil_append]
  after_results_simp <;> (try dsimp only [Matrix.cons_val]) <;> (try after_results_simp) <;> rfl

/-- The exchanged rotary factors as the kernel gets them. -/
theorem entry3 (c : Dev nD) : (V m c main_v45 : FVec Ideal S2048x128 .f32) = tabS (m ((c : Thread nD τ).loc main_arg1)) (Host.sin ang) := by
  unfold tabS ang
  simp only [V, hostOps0, List.flatten_cons, List.flatten_nil, List.append_nil, List.cons_append, List.nil_append]
  after_results_simp <;> (try dsimp only [Matrix.cons_val]) <;> (try after_results_simp) <;> rfl

/-- The final array, block by block. -/
theorem final (c : Dev nD) : (dats m 0 c).arrAt 4 cfg0.N
    = (fun i => val (m ((c : Thread nD τ).loc main_arg0)) (m ((c : Thread nD τ).loc main_arg1)) (i 0) (i 1) : FVec Ideal S8192x4096 .bf16) := by
  refine (dats m 0 c).arrAt_eq_of_covers 4 _ (by decide +kernel) fun t _ y => ?_
  blk_simp
  rw [after0_4]
  have h0 := (idx t).2.2.2.2.2
  idx_vars y
  have e : (win0_4.blk t).view.emb (ix2 y0 y1) = ix2 ⟨256 * (grid0.coords t 0).val + y0.val, by omega⟩ y1 := by
    blk_ext [idx t]
    all_goals omega
  rw [e]
  have er : (⟨256 * ((grid0.coords t 0).val % 8) + y0.val, by omega⟩ : Fin 2048) = ⟨(256 * (grid0.coords t 0).val + y0.val) % 2048, by omega⟩ := Fin.ext (by dsimp only; omega)
  exact head_of (m ((c : Thread nD τ).loc main_arg0)) (m ((c : Thread nD τ).loc main_arg1)) (Host.cos ang) (Host.sin ang) _ _ _ _ y0
    ⟨256 * (grid0.coords t 0).val + y0.val, by omega⟩ y1
    (fun j => (iblk0_at m c t y0 j).trans (congrFun (entry0 m c) _))
    (fun k => (iblk1_at m c t k).trans (congrFun (entry1 m c) _))
    (fun k => (iblk2_at m c t y0 k).trans ((congrFun (entry2 m c) _).trans (by rw [er])))
    (fun k => (iblk3_at m c t y0 k).trans ((congrFun (entry3 m c) _).trans (by rw [er])))

end Cert.Kernel11Ideal.Proj

namespace Cert.Reference11Ideal.Proj

open Cert.Reference11Ideal Cert.Reference11Ideal.Gen

/-- The reference's norm of each head. -/
def normed (X : FVec Ideal S4x2048x16x192 .f32) (G : FVec Ideal S192 .f32) : FVec Ideal S4x2048x16x192 .f32 :=
  mulf (mulf X (broadcastInDim S4x2048x16x192 ![0, 1, 2, 3] bcast_S4x2048x16x1_S4x2048x16x192_0_1_2_3 (Host.rsqrt (addf (Host.divf (broadcastInDim S4x2048x16x1 ![0, 1, 2] bcast_S4x2048x16_S4x2048x16x1_0_1_2
      (Host.reduceAdd (mulf X X) (constant S_ .f32 0x00000000#32) reducesTo_S4x2048x16x192_S4x2048x16_d3 h_S_)) (broadcastInDim S4x2048x16x1 ![] bcast_S_S4x2048x16x1 (constant S_ .f32 0x43400000#32)))
      (broadcastInDim S4x2048x16x1 ![] bcast_S_S4x2048x16x1 (constant S_ .f32 0x358637BD#32))))))
    (broadcastInDim S4x2048x16x192 ![0, 1, 2, 3] bcast_S1x1x1x192_S4x2048x16x192_0_1_2_3 (broadcastInDim S1x1x1x192 ![3] bcast_S192_S1x1x1x192_3 G))

/-- The rotation of the last 64 lanes, with the scale. -/
def rot (N : FVec Ideal S4x2048x16x192 .f32) (C S : FVec Ideal S2048x32 .f32) : FVec Ideal S4x2048x16x192 .f32 :=
  mulf (concatenate S4x2048x16x192 3 [⟨S4x2048x16x128, extractStridedSlice S4x2048x16x128 ![0, 0, 0, 0] N slices_S4x2048x16x192_S4x2048x16x128_0_0_0_0⟩,
    ⟨S4x2048x16x64, concatenate S4x2048x16x64 3 [
      ⟨S4x2048x16x32, subf (mulf (extractStridedSlice S4x2048x16x32 ![0, 0, 0, 0] (extractStridedSlice S4x2048x16x64 ![0, 0, 0, 128] N slices_S4x2048x16x192_S4x2048x16x64_0_0_0_128) slices_S4x2048x16x64_S4x2048x16x32_0_0_0_0) (broadcastInDim S4x2048x16x32 ![0, 1, 2, 3] bcast_S1x2048x1x32_S4x2048x16x32_0_1_2_3 (broadcastInDim S1x2048x1x32 ![1, 3] bcast_S2048x32_S1x2048x1x32_1_3 C)))
        (mulf (extractStridedSlice S4x2048x16x32 ![0, 0, 0, 32] (extractStridedSlice S4x2048x16x64 ![0, 0, 0, 128] N slices_S4x2048x16x192_S4x2048x16x64_0_0_0_128) slices_S4x2048x16x64_S4x2048x16x32_0_0_0_32) (broadcastInDim S4x2048x16x32 ![0, 1, 2, 3] bcast_S1x2048x1x32_S4x2048x16x32_0_1_2_3 (broadcastInDim S1x2048x1x32 ![1, 3] bcast_S2048x32_S1x2048x1x32_1_3 S)))⟩,
      ⟨S4x2048x16x32, addf (mulf (extractStridedSlice S4x2048x16x32 ![0, 0, 0, 32] (extractStridedSlice S4x2048x16x64 ![0, 0, 0, 128] N slices_S4x2048x16x192_S4x2048x16x64_0_0_0_128) slices_S4x2048x16x64_S4x2048x16x32_0_0_0_32) (broadcastInDim S4x2048x16x32 ![0, 1, 2, 3] bcast_S1x2048x1x32_S4x2048x16x32_0_1_2_3 (broadcastInDim S1x2048x1x32 ![1, 3] bcast_S2048x32_S1x2048x1x32_1_3 C)))
        (mulf (extractStridedSlice S4x2048x16x32 ![0, 0, 0, 0] (extractStridedSlice S4x2048x16x64 ![0, 0, 0, 128] N slices_S4x2048x16x192_S4x2048x16x64_0_0_0_128) slices_S4x2048x16x64_S4x2048x16x32_0_0_0_0) (broadcastInDim S4x2048x16x32 ![0, 1, 2, 3] bcast_S1x2048x1x32_S4x2048x16x32_0_1_2_3 (broadcastInDim S1x2048x1x32 ![1, 3] bcast_S2048x32_S1x2048x1x32_1_3 S)))⟩] concatenates_S4x2048x16x32_S4x2048x16x32_S4x2048x16x64_d3⟩] concatenates_S4x2048x16x128_S4x2048x16x64_S4x2048x16x192_d3)
    (broadcastInDim S4x2048x16x192 ![] bcast_S_S4x2048x16x192 (constant S_ .f32 0x3D93CD3A#32))

/-- Each head in 256 lanes, heads and batch entries put in one row. -/
def rows (N : FVec Ideal S4x2048x16x192 .f32) : FVec Ideal S8192x4096 .bf16 :=
  truncf .bf16 (shapeCast S8192x4096 (pad S4x2048x16x256 ![0, 0, 0, 0] ![0, 0, 0, 64] ![0, 0, 0, 0] N (sitofp .f32 (constantI S_ 32 0#32) : FVec Ideal S_ .f32) pads_S4x2048x16x192_S4x2048x16x256_000_000_000_0640 h_S_) shapeCasts_S4x2048x16x256_S8192x4096) bitsLt_bf16_f32

/-- The norm at a lane. -/
theorem normed_at (X : FVec Ideal S4x2048x16x192 .f32) (G : FVec Ideal S192 .f32) (b : Fin 4) (t : Fin 2048) (h : Fin 16) (d : Fin 192) :
    normed X G (ix4 b t h d) = (X (ix4 b t h d) * Ideal.rsqrt (Ideal.div (∑ k : Fin 192, X (ix4 b t h k) * X (ix4 b t h k)) (Ideal.ofBits .f32 0x43400000#32) + Ideal.ofBits .f32 0x358637BD#32) * G (ix1 d) : EReal) := by
  pointwise [normed]

/-- The rotation at a lane. -/
theorem rot_at (N : FVec Ideal S4x2048x16x192 .f32) (C S : FVec Ideal S2048x32 .f32) (b : Fin 4) (t : Fin 2048) (h : Fin 16) (d : Fin 192) :
    rot N C S (ix4 b t h d) = ((if h_1 : d.val < 128 then N (ix4 b t h d)
      else if h_2 : d.val - 128 < 32 then N (ix4 b t h ⟨128 + (d.val - 128), by omega⟩) * C (ix2 t ⟨d.val - 128, h_2⟩) - N (ix4 b t h ⟨128 + (32 + (d.val - 128)), by omega⟩) * S (ix2 t ⟨d.val - 128, h_2⟩)
      else N (ix4 b t h ⟨128 + (32 + (d.val - 128 - 32)), by omega⟩) * C (ix2 t ⟨d.val - 128 - 32, by omega⟩) + N (ix4 b t h ⟨128 + (d.val - 128 - 32), by omega⟩) * S (ix2 t ⟨d.val - 128 - 32, by omega⟩))
      * Ideal.ofBits .f32 0x3D93CD3A#32 : EReal) := by
  pointwise [rot]

/-- The number the reference pads with is zero. -/
theorem zero_at : FloatOps.sitofp (F := Ideal) FTy.f32 0#32 = (0 : EReal) := by
  show ((((0#32 : BitVec 32).toInt : ℤ) : ℝ) : EReal) = 0
  simp

/-- A row and a column of the reference's result. -/
theorem rows_at (N : FVec Ideal S4x2048x16x192 .f32) (r : Fin 8192) (j : Fin 4096) :
    rows N (ix2 r j) = (if h : j.val % 256 < 192 then N (ix4 ⟨r.val / 2048, by omega⟩ ⟨r.val % 2048, by omega⟩ ⟨j.val / 256, by omega⟩ ⟨j.val % 256, h⟩) else 0 : EReal) := by
  pointwise [rows]
  by_cases h : j.val % 256 < 192
  · rw [dif_pos ⟨by omega, by omega, by omega, h⟩, dif_pos h]
  · rw [dif_neg (fun h' => h h'.2.2.2), dif_neg h, zero_at]

end Cert.Reference11Ideal.Proj

namespace Cert.Kernel11Ideal.Proj

open Cert.Kernel11Ideal Cert.Kernel11Ideal.Gen

/-- The reference's lane is the head's lane. -/
theorem ref_at (Q : FVec Ideal S4x2048x16x192 .f32) (G : FVec Ideal S192 .f32) (C S : FVec Ideal S2048x32 .f32) (r : Fin 8192) (j : Fin 4096) :
    Cert.Reference11Ideal.Proj.rows (Cert.Reference11Ideal.Proj.rot (Cert.Reference11Ideal.Proj.normed Q G) C S) (ix2 r j)
      = head Q G C S ⟨r.val / 2048, by omega⟩ ⟨r.val % 2048, by omega⟩ ⟨j.val / 256, by omega⟩ ⟨j.val % 256, by omega⟩ := by
  have hn : ∀ b t h d, Cert.Reference11Ideal.Proj.normed Q G (ix4 b t h d) = nrm Q G b t h d := fun b t h d => by
    rw [Cert.Reference11Ideal.Proj.normed_at, div_192]
    rfl
  rw [Cert.Reference11Ideal.Proj.rows_at]
  unfold head
  by_cases h2 : j.val % 256 < 192
  · rw [dif_pos h2, Cert.Reference11Ideal.Proj.rot_at]
    simp only [hn]
    by_cases h0 : j.val % 256 < 128
    · rw [dif_pos h0, dif_pos h0]
      rfl
    · rw [dif_neg h0, dif_neg h0]
      by_cases h1 : j.val % 256 < 160
      · rw [dif_pos h1, dif_pos (by first | omega | (dsimp only; omega))]
        have a : (⟨128 + (j.val % 256 - 128), by omega⟩ : Fin 192) = ⟨j.val % 256, by omega⟩ := Fin.ext (by dsimp only; omega)
        have b : (⟨128 + (32 + (j.val % 256 - 128)), by omega⟩ : Fin 192) = ⟨j.val % 256 + 32, by omega⟩ := Fin.ext (by dsimp only; omega)
        rw [a, b]
        rfl
      · rw [dif_neg h1, dif_pos h2, dif_neg (by first | omega | (dsimp only; omega))]
        have a : (⟨128 + (32 + (j.val % 256 - 128 - 32)), by omega⟩ : Fin 192) = ⟨j.val % 256, by omega⟩ := Fin.ext (by dsimp only; omega)
        have b : (⟨128 + (j.val % 256 - 128 - 32), by omega⟩ : Fin 192) = ⟨j.val % 256 - 32, by omega⟩ := Fin.ext (by dsimp only; omega)
        have c : (⟨j.val % 256 - 128 - 32, by omega⟩ : Fin 32) = ⟨j.val % 256 - 160, by omega⟩ := Fin.ext (by dsimp only; omega)
        rw [a, b, c]
        rfl
  · rw [dif_neg h2, dif_neg (by first | omega | (dsimp only; omega)), dif_neg (by first | omega | (dsimp only; omega)), dif_neg h2]

end Cert.Kernel11Ideal.Proj

namespace Cert.Proof

/-- Both programs end with the same prepared queries. -/
theorem algebraic11 : Cert.algebraic_Kernel11Ideal_Reference11Ideal := by
  intro m g m' g' _ hag
  refine ⟨fun c => (fun i => Cert.Kernel11Ideal.Proj.val (m ((c.tc : Thread _ _).loc Cert.Kernel11Ideal.main_arg0)) (m ((c.tc : Thread _ _).loc Cert.Kernel11Ideal.main_arg1))
      (i 0) (i 1) : FVec Ideal Cert.Kernel11Ideal.S8192x4096 .bf16), ?_, ?_⟩
  · exact (θ_run Cert.Kernel11Ideal.defs _ _).mono (fun r h c => ⟨(h c).1.trans (Cert.Kernel11Ideal.Proj.final m c), (h c).2⟩)
      (Cert.Kernel11Ideal.Value.run_blocks (F := Ideal) m g)
  · refine (θ_run Cert.Reference11Ideal.defs _ _).mono (fun r h c => ⟨(h c).1.trans ?_, (h c).2⟩) (Cert.Reference11Ideal.Value.run (F := Ideal) m' g')
    obtain ⟨a0, a1⟩ := hag c
    unfold Cert.Reference11Ideal.Value.res_main_v50
    rw [a0, a1]
    funext i
    idx_vars i
    generalize m ((c.tc : Thread _ _).loc Cert.Kernel11Ideal.main_arg0) = Q
    generalize m ((c.tc : Thread _ _).loc Cert.Kernel11Ideal.main_arg1) = G
    exact Cert.Kernel11Ideal.Proj.ref_at Q G (Host.cos Cert.Kernel11Ideal.Proj.ang) (Host.sin Cert.Kernel11Ideal.Proj.ang) i0 i1

end Cert.Proof
end
end
-- ==== Proof.PrepK.lean ====
module

public import proofs.«01_k».proof.Defs
public import proofs.«01_k».proof.Proof.Gen.Kernel12Ideal.Value
public import proofs.«01_k».proof.Proof.Gen.Reference12Ideal.Run
public import proofs.«01_k».proof.Proof.Gen.Kernel12Ideal
public import proofs.«01_k».proof.Proof.Gen.Reference12Ideal
public import proofs.«01_k».proof.Proof.PrepQ
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section
open Idealize.ShloMosaic Idealize.ShloMosaic.TcCoe Idealize.SL.Sem
open Idealize.ShloMosaic.Pipeline (Dat)

/-! The keys prepared: each head's norm over its own 128 lanes and the shared rotary key's 64, the rotation of the latter. -/

namespace Cert.Kernel12Ideal.Proj

open Cert.Kernel12Ideal Cert.Kernel12Ideal.Gen
open Cert.Kernel11Ideal.Proj (rs rs_bounds square_nonneg sum_192 div_192 sel_at)

/-- The named constant is 1/192. -/
theorem inv_192 : (Named.named (F := Ideal) (φ := .f32) κ "inv_192" 0x3BAAAAAB#32 : EReal) = ((1 / 192 : ℝ) : EReal) :=
  IdealRules.named_const.ideal_named_scalar _ _ _ _ rfl

/-- The sum of the squares of a key's lanes as the body has it: 128 of its head, then 64 of 128 shared ones. -/
def sq (x0 : Vec Ideal S256x4096 .bf16) (x1 : Vec Ideal S256x128 .bf16) (r : Fin 256) (h : Fin 16) : EReal :=
  (∑ k : Fin 128, x0 (ix2 r ⟨256 * h.val + k.val, by omega⟩) * x0 (ix2 r ⟨256 * h.val + k.val, by omega⟩))
    + ∑ k : Fin 128, if k.val < 64 then x1 (ix2 r k) * x1 (ix2 r k) else 0

/-- The factor as the body has it is the factor of the head whose lanes it reads. -/
theorem rs_congr (x0 : Vec Ideal S256x4096 .bf16) (x1 : Vec Ideal S256x128 .bf16) (p r : Fin 256) (h : Fin 16) (f : Fin 128 → Fin 4096) (hp : p = r)
    (hf : ∀ k, (f k).val = 256 * h.val + k.val) :
    Ideal.rsqrt ((((∑ k : Fin 128, x0 (ix2 p (f k)) * x0 (ix2 p (f k)) : EReal)
      + ∑ k : Fin 128, (Scalar.select (α := EReal) (IntOp.cmpi CmpIPredicate.slt (BitVec.ofNat 32 k.val) 64#32) (x1 (ix2 p k) * x1 (ix2 p k) : EReal) (0 : EReal) : EReal))
        * (Named.named (F := Ideal) (φ := .f32) κ "inv_192" 0x3BAAAAAB#32 : EReal)) + Ideal.ofBits .f32 0x358637BD#32) = rs (sq x0 x1 r h) := by
  subst hp
  have ef : f = fun k => ⟨256 * h.val + k.val, by omega⟩ := funext fun k => Fin.ext (hf k)
  subst ef
  rw [inv_192]
  unfold rs sq
  simp only [sel_at]

set_option maxHeartbeats 2000000 in
/-- What the body writes at a row and a column. -/
theorem out_at (x0 : Vec Ideal S256x4096 .bf16) (x1 : Vec Ideal S256x128 .bf16) (x2 : Vec Ideal S1x128 .f32) (x3 x4 : Vec Ideal S256x128 .f32) (r : Fin 256) (j : Fin 4096) :
    out0_5 x0 x1 x2 x3 x4 (ix2 r j) = (if j.val % 256 < 128 then x0 (ix2 r j) * rs (sq x0 x1 r ⟨j.val / 256, by omega⟩) * x2 (ix2 0 ⟨j.val % 128, by omega⟩)
      else (x1 (ix2 r ⟨j.val % 128, by omega⟩) * x3 (ix2 r ⟨j.val % 128, by omega⟩)
        + x1 (ix2 r ⟨(j.val + 64) % 128, by omega⟩) * x4 (ix2 r ⟨(j.val + 64) % 128, by omega⟩)) * rs (sq x0 x1 r ⟨j.val / 256, by omega⟩) : EReal) := by
  unfold_out out0_5
  canon_tiles x h
  all_goals (open_payloads; pointwise; replace h0 : r.val = _ := h0; replace h1 : j.val = _ := h1)
  all_goals first
    | rw [if_pos (by omega)]
      refine congrArg₂ (· * ·) (congrArg₂ (· * ·) (congrArg x0 (congrArg₂ ix2 (Fin.ext ?_) (Fin.ext ?_))) (rs_congr x0 x1 _ _ _ _ (Fin.ext ?_) (fun k => ?_))) (congrArg x2 (congrArg₂ ix2 rfl (Fin.ext ?_)))
      all_goals (dsimp only; omega)
    | rw [if_neg (by omega)]
      refine congrArg₂ (· * ·) (congrArg₂ (· + ·) (congrArg₂ (· * ·) (congrArg x1 ((ix2_eta x).symm.trans (congrArg₂ ix2 (Fin.ext ?_) (Fin.ext ?_)))) (congrArg x3 ((ix2_eta x).symm.trans (congrArg₂ ix2 (Fin.ext ?_) (Fin.ext ?_)))))
        (congrArg₂ (· * ·) (congrArg x1 (congrArg₂ ix2 (Fin.ext ?_) (Fin.ext ?_))) (congrArg x4 (congrArg₂ ix2 (Fin.ext ?_) (Fin.ext ?_))))) (rs_congr x0 x1 _ _ _ _ (Fin.ext ?_) (fun k => ?_))
      all_goals (dsimp only; omega)

/-- The angles of the rotation. -/
def ang : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The factors of a head's first 128 lanes. -/
def tabA (G : FVec Ideal S192 .f32) : FVec Ideal S1x128 .f32 :=
  shapeCast S1x128 (mulf (extractStridedSlice S128 ![0] G slices_S192_S128_0) (broadcastInDim S128 ![] bcast_S_S128 (constant S_ .f32 0x3F800000#32))) shapeCasts_S128_S1x128

/-- The factors of a head's rotary lanes at their own places. -/
def tabC (G : FVec Ideal S192 .f32) (C : FVec Ideal S2048x32 .f32) : FVec Ideal S2048x128 .f32 :=
  concatenate S2048x128 1 [⟨S2048x64, mulf (mulf (broadcastInDim S2048x64 ![0, 1] bcast_S1x64_S2048x64_0_1 (broadcastInDim S1x64 ![1] bcast_S64_S1x64_1 (extractStridedSlice S64 ![128] G slices_S192_S64_128)))
      (concatenate S2048x64 1 [⟨S2048x32, C⟩, ⟨S2048x32, C⟩] concatenates_S2048x32_S2048x32_S2048x64_d1)) (broadcastInDim S2048x64 ![] bcast_S_S2048x64 (constant S_ .f32 0x3F800000#32))⟩,
    ⟨S2048x64, broadcastInDim S2048x64 ![] bcast_S_S2048x64 (constant S_ .f32 0x00000000#32)⟩] concatenates_S2048x64_S2048x64_S2048x128_d1

/-- The factors of a head's rotary lanes with their halves exchanged. -/
def tabS (G : FVec Ideal S192 .f32) (S : FVec Ideal S2048x32 .f32) : FVec Ideal S2048x128 .f32 :=
  concatenate S2048x128 1 [⟨S2048x64, broadcastInDim S2048x64 ![] bcast_S_S2048x64 (constant S_ .f32 0x00000000#32)⟩,
    ⟨S2048x64, mulf (mulf (broadcastInDim S2048x64 ![0, 1] bcast_S1x64_S2048x64_0_1 (broadcastInDim S1x64 ![1] bcast_S64_S1x64_1
      (concatenate S64 0 [⟨S32, extractStridedSlice S32 ![32] (extractStridedSlice S64 ![128] G slices_S192_S64_128) slices_S64_S32_32⟩, ⟨S32, extractStridedSlice S32 ![0] (extractStridedSlice S64 ![128] G slices_S192_S64_128) slices_S64_S32_0⟩] concatenates_S32_S32_S64_d0)))
      (concatenate S2048x64 1 [⟨S2048x32, Host.negf S⟩, ⟨S2048x32, S⟩] concatenates_S2048x32_S2048x32_S2048x64_d1)) (broadcastInDim S2048x64 ![] bcast_S_S2048x64 (constant S_ .f32 0x3F800000#32))⟩] concatenates_S2048x64_S2048x64_S2048x128_d1

/-- The keys' and values' lanes in one row. -/
def flat (X : FVec Ideal S4x2048x16x256 .f32) : FVec Ideal S8192x4096 .bf16 :=
  truncf .bf16 (shapeCast S8192x4096 X shapeCasts_S4x2048x16x256_S8192x4096) bitsLt_bf16_f32

/-- The rotary key with its halves exchanged a second time. -/
def rep (Y : FVec Ideal S4x2048x64 .f32) : FVec Ideal S8192x128 .f32 :=
  shapeCast S8192x128 (concatenate S4x2048x128 2 [⟨S4x2048x64, Y⟩, ⟨S4x2048x32, extractStridedSlice S4x2048x32 ![0, 0, 32] Y slices_S4x2048x64_S4x2048x32_0_0_32⟩,
    ⟨S4x2048x32, extractStridedSlice S4x2048x32 ![0, 0, 0] Y slices_S4x2048x64_S4x2048x32_0_0_0⟩] concatenates_S4x2048x64_S4x2048x32_S4x2048x32_S4x2048x128_d2) shapeCasts_S4x2048x128_S8192x128

/-- It at its columns of the even layer's projection. -/
def wide (Z : FVec Ideal S8192x128 .f32) : FVec Ideal S8192x10752 .bf16 :=
  truncf .bf16 (pad S8192x10752 ![0, 8704] ![0, 1920] ![0, 0] Z (sitofp .f32 (constantI S_ 32 0#32) : FVec Ideal S_ .f32) pads_S8192x128_S8192x10752_000_870419200 h_S_) bitsLt_bf16_f32

/-- The first factors at a lane. -/
theorem tabA_at (G : FVec Ideal S192 .f32) (k : Fin 128) : tabA G (ix2 0 k) = (G (ix1 ⟨k.val, by omega⟩) * 1 : EReal) := by
  pointwise [tabA]

/-- The rotary factors at a position and a lane. -/
theorem tabC_at (G : FVec Ideal S192 .f32) (C : FVec Ideal S2048x32 .f32) (t : Fin 2048) (p : Fin 128) : tabC G C (ix2 t p)
    = (if h : p.val < 64 then (G (ix1 ⟨128 + p.val, by omega⟩) * if h1 : p.val < 32 then C (ix2 t ⟨p.val, h1⟩) else C (ix2 t ⟨p.val - 32, by omega⟩)) * 1 else 0 : EReal) := by
  pointwise [tabC]

/-- The exchanged rotary factors at a position and a lane. -/
theorem tabS_at (G : FVec Ideal S192 .f32) (S : FVec Ideal S2048x32 .f32) (t : Fin 2048) (p : Fin 128) : tabS G S (ix2 t p)
    = (if h : p.val < 64 then 0 else ((if h1 : p.val - 64 < 32 then G (ix1 ⟨128 + (32 + (p.val - 64)), by omega⟩) else G (ix1 ⟨128 + (p.val - 64 - 32), by omega⟩))
        * if h1 : p.val - 64 < 32 then -S (ix2 t ⟨p.val - 64, h1⟩) else S (ix2 t ⟨p.val - 64 - 32, by omega⟩)) * 1 : EReal) := by
  pointwise [tabS]

/-- A row and a column of the keys and values. -/
theorem flat_at (X : FVec Ideal S4x2048x16x256 .f32) (r : Fin 8192) (j : Fin 4096) : flat X (ix2 r j)
    = X (ix4 ⟨r.val / 2048, by omega⟩ ⟨r.val % 2048, by omega⟩ ⟨j.val / 256, by omega⟩ ⟨j.val % 256, by omega⟩) := by
  pointwise [flat]

/-- A row and a lane of the repeated rotary key. -/
theorem rep_at (Y : FVec Ideal S4x2048x64 .f32) (r : Fin 8192) (p : Fin 128) : rep Y (ix2 r p)
    = (if h : p.val < 64 then Y (ix3 ⟨r.val / 2048, by omega⟩ ⟨r.val % 2048, by omega⟩ ⟨p.val, h⟩)
      else if h : p.val - 64 < 32 then Y (ix3 ⟨r.val / 2048, by omega⟩ ⟨r.val % 2048, by omega⟩ ⟨32 + (p.val - 64), by omega⟩)
      else Y (ix3 ⟨r.val / 2048, by omega⟩ ⟨r.val % 2048, by omega⟩ ⟨p.val - 64 - 32, by omega⟩) : EReal) := by
  pointwise [rep]

/-- The columns the kernel reads. -/
theorem wide_at (Z : FVec Ideal S8192x128 .f32) (r : Fin 8192) (p : Fin 128) : wide Z (ix2 r ⟨8704 + p.val, by omega⟩) = Z (ix2 r p) := by
  pointwise [wide]
/-- The two ways of multiplying out a rotation. -/
theorem turn (x y r g h c n : EReal) (hr : 0 ≤ r) (hr' : r ≠ ⊤) :
    (x * (g * c * 1) + y * (h * n * 1)) * r = x * r * g * c + y * r * h * n := by
  rw [EReal.right_distrib_of_nonneg_of_ne_top hr hr', mul_one, mul_one]
  congr 1 <;> ac_rfl

/-- A key's 192 lanes: its head's 128, then the shared 64. -/
def key (X : FVec Ideal S4x2048x16x256 .f32) (Y : FVec Ideal S4x2048x64 .f32) (b : Fin 4) (t : Fin 2048) (h : Fin 16) (d : Fin 192) : EReal :=
  if h0 : d.val < 128 then X (ix4 b t h ⟨d.val, by omega⟩) else Y (ix3 b t ⟨d.val - 128, by omega⟩)

/-- A lane of a head after its norm. -/
def nrm (K : Fin 192 → EReal) (G : FVec Ideal S192 .f32) (d : Fin 192) : EReal :=
  K d * rs (∑ k : Fin 192, K k * K k) * G (ix1 d)

/-- A head's 256 lanes: 128 with the norm, 64 rotated, 64 zero. -/
def head (K : Fin 192 → EReal) (G : FVec Ideal S192 .f32) (C S : FVec Ideal S2048x32 .f32) (t : Fin 2048) (l : Fin 256) : EReal :=
  if h0 : l.val < 128 then nrm K G ⟨l.val, by omega⟩
  else if h1 : l.val < 160 then nrm K G ⟨l.val, by omega⟩ * C (ix2 t ⟨l.val - 128, by omega⟩) - nrm K G ⟨l.val + 32, by omega⟩ * S (ix2 t ⟨l.val - 128, by omega⟩)
  else if h2 : l.val < 192 then nrm K G ⟨l.val, by omega⟩ * C (ix2 t ⟨l.val - 160, by omega⟩) + nrm K G ⟨l.val - 32, by omega⟩ * S (ix2 t ⟨l.val - 160, by omega⟩)
  else 0

/-- The result at a row and a column. -/
def val (X : FVec Ideal S4x2048x16x256 .f32) (Y : FVec Ideal S4x2048x64 .f32) (G : FVec Ideal S192 .f32) (r : Fin 8192) (j : Fin 4096) : EReal :=
  head (key X Y ⟨r.val / 2048, by omega⟩ ⟨r.val % 2048, by omega⟩ ⟨j.val / 256, by omega⟩) G (Host.cos ang) (Host.sin ang) ⟨r.val % 2048, by omega⟩ ⟨j.val % 256, by omega⟩

/-- What the body writes is the head's lane, its blocks given. -/
theorem head_of (K : Fin 192 → EReal) (G : FVec Ideal S192 .f32) (C S : FVec Ideal S2048x32 .f32)
    (x0 : Vec Ideal S256x4096 .bf16) (x1 : Vec Ideal S256x128 .bf16) (x2 : Vec Ideal S1x128 .f32) (x3 x4 : Vec Ideal S256x128 .f32) (p : Fin 256) (t : Fin 2048) (j : Fin 4096)
    (e0 : ∀ k : Fin 128, x0 (ix2 p ⟨256 * (j.val / 256) + k.val, by omega⟩) = K ⟨k.val, by omega⟩)
    (e1 : ∀ k : Fin 128, x1 (ix2 p k) = if h : k.val < 64 then K ⟨128 + k.val, by omega⟩ else if h1 : k.val < 96 then K ⟨96 + k.val, by omega⟩ else K ⟨32 + k.val, by omega⟩)
    (e2 : ∀ k, x2 (ix2 0 k) = tabA G (ix2 0 k)) (e3 : ∀ k, x3 (ix2 p k) = tabC G C (ix2 t k)) (e4 : ∀ k, x4 (ix2 p k) = tabS G S (ix2 t k)) :
    out0_5 x0 x1 x2 x3 x4 (ix2 p j) = head K G C S t ⟨j.val % 256, by omega⟩ := by
  have hs : sq x0 x1 p ⟨j.val / 256, by omega⟩ = ∑ k : Fin 192, K k * K k := by
    rw [sum_192]
    unfold sq
    refine congrArg₂ (· + ·) (Finset.sum_congr rfl fun k _ => ?_) (Finset.sum_congr rfl fun k _ => ?_)
    · rw [e0]
    · by_cases hk : k.val < 64
      · rw [if_pos hk, dif_pos hk, e1, dif_pos hk]
      · rw [if_neg hk, dif_neg hk]
  have hb : 0 ≤ rs (sq x0 x1 p ⟨j.val / 256, by omega⟩) ∧ rs (sq x0 x1 p ⟨j.val / 256, by omega⟩) ≠ ⊤ := by
    rw [hs]
    exact rs_bounds _ (Finset.sum_nonneg fun k _ => square_nonneg _)
  rw [out_at]
  unfold head nrm
  rw [← hs]
  generalize rs (sq x0 x1 p ⟨j.val / 256, by omega⟩) = R at hb ⊢
  rw [e1, e1, e2, e3, e4, tabA_at, tabC_at, tabS_at]
  by_cases h0 : j.val % 256 < 128
  · rw [if_pos h0, dif_pos h0, mul_one]
    have e : (⟨j.val % 128, by omega⟩ : Fin 192) = ⟨j.val % 256, by omega⟩ := Fin.ext (by dsimp only; omega)
    have e' : x0 (ix2 p j) = K ⟨j.val % 256, by omega⟩ :=
      (congrArg x0 (congrArg (ix2 p) (Fin.ext (by dsimp only; omega)))).trans (e0 ⟨j.val % 256, h0⟩)
    rw [e, e']
  · rw [if_neg h0, dif_neg h0]
    by_cases h1 : j.val % 256 < 160
    · rw [dif_pos h1, dif_pos (by first | omega | (dsimp only; omega)), dif_pos (by first | omega | (dsimp only; omega)), dif_pos (by first | omega | (dsimp only; omega)), dif_neg (by first | omega | (dsimp only; omega)), dif_pos (by first | omega | (dsimp only; omega)), dif_neg (by first | omega | (dsimp only; omega)), dif_pos (by first | omega | (dsimp only; omega)), dif_pos (by first | omega | (dsimp only; omega)),
        turn _ _ _ _ _ _ _ hb.1 hb.2, mul_neg, ← sub_eq_add_neg]
      have a : (⟨128 + j.val % 128, by omega⟩ : Fin 192) = ⟨j.val % 256, by omega⟩ := Fin.ext (by dsimp only; omega)
      have b : (⟨128 + (32 + ((j.val + 64) % 128 - 64)), by omega⟩ : Fin 192) = ⟨j.val % 256 + 32, by omega⟩ := Fin.ext (by dsimp only; omega)
      have b' : (⟨96 + (j.val + 64) % 128, by omega⟩ : Fin 192) = ⟨j.val % 256 + 32, by omega⟩ := Fin.ext (by dsimp only; omega)
      have c : (⟨j.val % 128, by omega⟩ : Fin 32) = ⟨j.val % 256 - 128, by omega⟩ := Fin.ext (by dsimp only; omega)
      have d : (⟨(j.val + 64) % 128 - 64, by omega⟩ : Fin 32) = ⟨j.val % 256 - 128, by omega⟩ := Fin.ext (by dsimp only; omega)
      rw [a, b, b', c, d]
    · rw [dif_neg h1]
      by_cases h2 : j.val % 256 < 192
      · rw [dif_pos h2, dif_pos (by first | omega | (dsimp only; omega)), dif_pos (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)), dif_neg (by first | omega | (dsimp only; omega)),
          turn _ _ _ _ _ _ _ hb.1 hb.2]
        have a : (⟨128 + j.val % 128, by omega⟩ : Fin 192) = ⟨j.val % 256, by omega⟩ := Fin.ext (by dsimp only; omega)
        have b : (⟨128 + ((j.val + 64) % 128 - 64 - 32), by omega⟩ : Fin 192) = ⟨j.val % 256 - 32, by omega⟩ := Fin.ext (by dsimp only; omega)
        have b' : (⟨32 + (j.val + 64) % 128, by omega⟩ : Fin 192) = ⟨j.val % 256 - 32, by omega⟩ := Fin.ext (by dsimp only; omega)
        have c : (⟨j.val % 128 - 32, by omega⟩ : Fin 32) = ⟨j.val % 256 - 160, by omega⟩ := Fin.ext (by dsimp only; omega)
        have d : (⟨(j.val + 64) % 128 - 64 - 32, by omega⟩ : Fin 32) = ⟨j.val % 256 - 160, by omega⟩ := Fin.ext (by dsimp only; omega)
        rw [a, b, b', c, d]
      · have z1 : ¬ (⟨j.val % 128, by omega⟩ : Fin 128).val < 64 := by dsimp only; omega
        have z2 : (⟨(j.val + 64) % 128, by omega⟩ : Fin 128).val < 64 := by dsimp only; omega
        rw [dif_neg h2, dif_neg z1 (e := fun _ => (0 : EReal)), dif_pos z2 (t := fun _ => (0 : EReal)), mul_zero, mul_zero, add_zero, zero_mul]

variable (m : (ℓ : Loc nD τ sig) → Buf (Elt Ideal) ℓ)

/-- Where each grid point's blocks lie. -/
theorem idx : ∀ t : Fin cfg0.N,
    win0_0.index t = ![(grid0.coords t 0).val, 0]
    ∧ win0_1.index t = ![(grid0.coords t 0).val, 68]
    ∧ win0_2.index t = ![0, 0]
    ∧ win0_3.index t = ![(grid0.coords t 0).val % 8, 0]
    ∧ win0_4.index t = ![(grid0.coords t 0).val % 8, 0]
    ∧ win0_5.index t = ![(grid0.coords t 0).val, 0]
    ∧ (grid0.coords t 0).val < 32 :=
  (by decide +kernel : ∀ t : Fin grid0.N, _)

/-- The block of the keys and values at a grid point. -/
theorem iblk0_at (c : Dev nD) (t : Fin cfg0.N) (r : Fin 256) (k : Fin 4096) :
    (iblk m c 0 t : Vec Ideal S256x4096 .bf16) (ix2 r k) = (V m c main_v47 : FVec Ideal S8192x4096 .bf16) (ix2 ⟨256 * (grid0.coords t 0).val + r.val, by have := (idx t).2.2.2.2.2.2; omega⟩ k) := by
  blk_simp [iblk]
  generalize V m c main_v47 = A
  blk_ext [idx t]
  all_goals omega

/-- The block of the rotary key. -/
theorem iblk1_at (c : Dev nD) (t : Fin cfg0.N) (r : Fin 256) (k : Fin 128) :
    (iblk m c 1 t : Vec Ideal S256x128 .bf16) (ix2 r k) = (V m c main_v5 : FVec Ideal S8192x10752 .bf16) (ix2 ⟨256 * (grid0.coords t 0).val + r.val, by have := (idx t).2.2.2.2.2.2; omega⟩ ⟨8704 + k.val, by omega⟩) := by
  blk_simp [iblk]
  generalize V m c main_v5 = A
  blk_ext [idx t]
  all_goals omega

/-- The block of the first factors. -/
theorem iblk2_at (c : Dev nD) (t : Fin cfg0.N) (k : Fin 128) :
    (iblk m c 2 t : Vec Ideal S1x128 .f32) (ix2 0 k) = (V m c main_v33 : FVec Ideal S1x128 .f32) (ix2 0 k) := by
  blk_simp [iblk]
  generalize V m c main_v33 = A
  blk_ext [idx t]
  all_goals omega

/-- The block of the rotary factors. -/
theorem iblk3_at (c : Dev nD) (t : Fin cfg0.N) (r : Fin 256) (k : Fin 128) :
    (iblk m c 3 t : Vec Ideal S256x128 .f32) (ix2 r k) = (V m c main_v39 : FVec Ideal S2048x128 .f32) (ix2 ⟨256 * ((grid0.coords t 0).val % 8) + r.val, by omega⟩ k) := by
  blk_simp [iblk]
  generalize V m c main_v39 = A
  blk_ext [idx t]
  all_goals omega

/-- The block of the exchanged rotary factors. -/
theorem iblk4_at (c : Dev nD) (t : Fin cfg0.N) (r : Fin 256) (k : Fin 128) :
    (iblk m c 4 t : Vec Ideal S256x128 .f32) (ix2 r k) = (V m c main_v45 : FVec Ideal S2048x128 .f32) (ix2 ⟨256 * ((grid0.coords t 0).val % 8) + r.val, by omega⟩ k) := by
  blk_simp [iblk]
  generalize V m c main_v45 = A
  blk_ext [idx t]
  all_goals omega

/-- The keys and values as the kernel gets them. -/
theorem entry0 (c : Dev nD) : (V m c main_v47 : FVec Ideal S8192x4096 .bf16) = flat (m ((c : Thread nD τ).loc main_arg0)) := by
  unfold flat
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> (try dsimp only [Matrix.cons_val]) <;> (try after_results_simp) <;> rfl

/-- The rotary key as the kernel gets it. -/
theorem entry1 (c : Dev nD) : (V m c main_v5 : FVec Ideal S8192x10752 .bf16) = wide (rep (m ((c : Thread nD τ).loc main_arg1))) := by
  unfold wide rep
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> (try dsimp only [Matrix.cons_val]) <;> (try after_results_simp) <;> rfl

/-- The first factors as the kernel gets them. -/
theorem entry2 (c : Dev nD) : (V m c main_v33 : FVec Ideal S1x128 .f32) = tabA (m ((c : Thread nD τ).loc main_arg2)) := by
  unfold tabA
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> (try dsimp only [Matrix.cons_val]) <;> (try after_results_simp) <;> rfl

/-- The rotary factors as the kernel gets them. -/
theorem entry3 (c : Dev nD) : (V m c main_v39 : FVec Ideal S2048x128 .f32) = tabC (m ((c : Thread nD τ).loc main_arg2)) (Host.cos ang) := by
  unfold tabC ang
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> (try dsimp only [Matrix.cons_val]) <;> (try after_results_simp) <;> rfl

/-- The exchanged rotary factors as the kernel gets them. -/
theorem entry4 (c : Dev nD) : (V m c main_v45 : FVec Ideal S2048x128 .f32) = tabS (m ((c : Thread nD τ).loc main_arg2)) (Host.sin ang) := by
  unfold tabS ang
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> (try dsimp only [Matrix.cons_val]) <;> (try after_results_simp) <;> rfl

/-- A head's lanes of the keys and values are its key's first 128. -/
theorem flat_key (X : FVec Ideal S4x2048x16x256 .f32) (Y : FVec Ideal S4x2048x64 .f32) (r : Fin 8192) (j : Fin 4096) (k : Fin 128) :
    flat X (ix2 r ⟨256 * (j.val / 256) + k.val, by omega⟩) = key X Y ⟨r.val / 2048, by omega⟩ ⟨r.val % 2048, by omega⟩ ⟨j.val / 256, by omega⟩ ⟨k.val, by omega⟩ := by
  unfold key
  rw [flat_at, dif_pos k.isLt]
  exact congrArg X (congr (congrArg (ix4 _ _) (Fin.ext (by dsimp only; omega))) (Fin.ext (by dsimp only; omega)))

/-- The repeated rotary key is the key's last 64 lanes, then these with their halves exchanged. -/
theorem rep_key (X : FVec Ideal S4x2048x16x256 .f32) (Y : FVec Ideal S4x2048x64 .f32) (r : Fin 8192) (h : Fin 16) (k : Fin 128) :
    rep Y (ix2 r k) = if h' : k.val < 64 then key X Y ⟨r.val / 2048, by omega⟩ ⟨r.val % 2048, by omega⟩ h ⟨128 + k.val, by omega⟩
      else if h1 : k.val < 96 then key X Y ⟨r.val / 2048, by omega⟩ ⟨r.val % 2048, by omega⟩ h ⟨96 + k.val, by omega⟩
      else key X Y ⟨r.val / 2048, by omega⟩ ⟨r.val % 2048, by omega⟩ h ⟨32 + k.val, by omega⟩ := by
  unfold key
  rw [rep_at]
  by_cases h0 : k.val < 64
  · rw [dif_pos h0, dif_pos h0, dif_neg (by dsimp only; omega)]
    exact congrArg Y (congrArg (ix3 _ _) (Fin.ext (by dsimp only; omega)))
  · rw [dif_neg h0, dif_neg h0]
    by_cases h1 : k.val < 96
    · rw [dif_pos (by omega), dif_pos h1, dif_neg (by dsimp only; omega)]
      exact congrArg Y (congrArg (ix3 _ _) (Fin.ext (by dsimp only; omega)))
    · rw [dif_neg (by omega), dif_neg h1, dif_neg (by dsimp only; omega)]
      exact congrArg Y (congrArg (ix3 _ _) (Fin.ext (by dsimp only; omega)))

/-- The final array, block by block. -/
theorem final (c : Dev nD) : (dats m 0 c).arrAt 5 cfg0.N
    = (fun i => val (m ((c : Thread nD τ).loc main_arg0)) (m ((c : Thread nD τ).loc main_arg1)) (m ((c : Thread nD τ).loc main_arg2)) (i 0) (i 1) : FVec Ideal S8192x4096 .bf16) := by
  refine (dats m 0 c).arrAt_eq_of_covers 5 _ (by decide +kernel) fun t _ y => ?_
  blk_simp
  rw [after0_5]
  have h0 := (idx t).2.2.2.2.2.2
  idx_vars y
  have e : (win0_5.blk t).view.emb (ix2 y0 y1) = ix2 ⟨256 * (grid0.coords t 0).val + y0.val, by omega⟩ y1 := by
    blk_ext [idx t]
    all_goals omega
  rw [e]
  have er : (⟨256 * ((grid0.coords t 0).val % 8) + y0.val, by omega⟩ : Fin 2048) = ⟨(256 * (grid0.coords t 0).val + y0.val) % 2048, by omega⟩ := Fin.ext (by dsimp only; omega)
  exact head_of (key (m ((c : Thread nD τ).loc main_arg0)) (m ((c : Thread nD τ).loc main_arg1)) ⟨(256 * (grid0.coords t 0).val + y0.val) / 2048, by omega⟩ ⟨(256 * (grid0.coords t 0).val + y0.val) % 2048, by omega⟩ ⟨y1.val / 256, by omega⟩)
    (m ((c : Thread nD τ).loc main_arg2)) (Host.cos ang) (Host.sin ang) _ _ _ _ _ y0 ⟨(256 * (grid0.coords t 0).val + y0.val) % 2048, by omega⟩ y1
    (fun k => (iblk0_at m c t y0 _).trans ((congrFun (entry0 m c) _).trans (flat_key _ (m ((c : Thread nD τ).loc main_arg1)) ⟨256 * (grid0.coords t 0).val + y0.val, by omega⟩ y1 k)))
    (fun k => (iblk1_at m c t y0 k).trans ((congrFun (entry1 m c) _).trans ((wide_at _ _ k).trans (rep_key (m ((c : Thread nD τ).loc main_arg0)) _ ⟨256 * (grid0.coords t 0).val + y0.val, by omega⟩ ⟨y1.val / 256, by omega⟩ k))))
    (fun k => (iblk2_at m c t k).trans (congrFun (entry2 m c) _))
    (fun k => (iblk3_at m c t y0 k).trans ((congrFun (entry3 m c) _).trans (by rw [er])))
    (fun k => (iblk4_at m c t y0 k).trans ((congrFun (entry4 m c) _).trans (by rw [er])))

end Cert.Kernel12Ideal.Proj

namespace Cert.Reference12Ideal.Proj

open Cert.Reference12Ideal Cert.Reference12Ideal.Gen

/-- The reference's norm of each head. -/
def normed (X : FVec Ideal S4x2048x16x192 .f32) (G : FVec Ideal S192 .f32) : FVec Ideal S4x2048x16x192 .f32 :=
  mulf (mulf X (broadcastInDim S4x2048x16x192 ![0, 1, 2, 3] bcast_S4x2048x16x1_S4x2048x16x192_0_1_2_3 (Host.rsqrt (addf (Host.divf (broadcastInDim S4x2048x16x1 ![0, 1, 2] bcast_S4x2048x16_S4x2048x16x1_0_1_2
      (Host.reduceAdd (mulf X X) (constant S_ .f32 0x00000000#32) reducesTo_S4x2048x16x192_S4x2048x16_d3 h_S_)) (broadcastInDim S4x2048x16x1 ![] bcast_S_S4x2048x16x1 (constant S_ .f32 0x43400000#32)))
      (broadcastInDim S4x2048x16x1 ![] bcast_S_S4x2048x16x1 (constant S_ .f32 0x358637BD#32))))))
    (broadcastInDim S4x2048x16x192 ![0, 1, 2, 3] bcast_S1x1x1x192_S4x2048x16x192_0_1_2_3 (broadcastInDim S1x1x1x192 ![3] bcast_S192_S1x1x1x192_3 G))

/-- The keys as the reference has them before the norm. -/
def joined (X : FVec Ideal S4x2048x16x256 .f32) (Y : FVec Ideal S4x2048x64 .f32) : FVec Ideal S4x2048x16x192 .f32 :=
  concatenate S4x2048x16x192 3 [⟨S4x2048x16x128, extractStridedSlice S4x2048x16x128 ![0, 0, 0, 0] X slices_S4x2048x16x256_S4x2048x16x128_0_0_0_0⟩,
    ⟨S4x2048x16x64, broadcastInDim S4x2048x16x64 ![0, 1, 2, 3] bcast_S4x2048x1x64_S4x2048x16x64_0_1_2_3 (broadcastInDim S4x2048x1x64 ![0, 1, 3] bcast_S4x2048x64_S4x2048x1x64_0_1_3 Y)⟩] concatenates_S4x2048x16x128_S4x2048x16x64_S4x2048x16x192_d3

/-- Their lanes. -/
theorem joined_at (X : FVec Ideal S4x2048x16x256 .f32) (Y : FVec Ideal S4x2048x64 .f32) (b : Fin 4) (t : Fin 2048) (h : Fin 16) (d : Fin 192) :
    joined X Y (ix4 b t h d) = Cert.Kernel12Ideal.Proj.key X Y b t h d := by
  pointwise [joined]
  rfl

/-- The rotation of the last 64 lanes. -/
def rot (N : FVec Ideal S4x2048x16x192 .f32) (C S : FVec Ideal S2048x32 .f32) : FVec Ideal S4x2048x16x192 .f32 :=
  concatenate S4x2048x16x192 3 [⟨S4x2048x16x128, extractStridedSlice S4x2048x16x128 ![0, 0, 0, 0] N slices_S4x2048x16x192_S4x2048x16x128_0_0_0_0⟩,
    ⟨S4x2048x16x64, concatenate S4x2048x16x64 3 [
      ⟨S4x2048x16x32, subf (mulf (extractStridedSlice S4x2048x16x32 ![0, 0, 0, 0] (extractStridedSlice S4x2048x16x64 ![0, 0, 0, 128] N slices_S4x2048x16x192_S4x2048x16x64_0_0_0_128) slices_S4x2048x16x64_S4x2048x16x32_0_0_0_0) (broadcastInDim S4x2048x16x32 ![0, 1, 2, 3] bcast_S1x2048x1x32_S4x2048x16x32_0_1_2_3 (broadcastInDim S1x2048x1x32 ![1, 3] bcast_S2048x32_S1x2048x1x32_1_3 C)))
        (mulf (extractStridedSlice S4x2048x16x32 ![0, 0, 0, 32] (extractStridedSlice S4x2048x16x64 ![0, 0, 0, 128] N slices_S4x2048x16x192_S4x2048x16x64_0_0_0_128) slices_S4x2048x16x64_S4x2048x16x32_0_0_0_32) (broadcastInDim S4x2048x16x32 ![0, 1, 2, 3] bcast_S1x2048x1x32_S4x2048x16x32_0_1_2_3 (broadcastInDim S1x2048x1x32 ![1, 3] bcast_S2048x32_S1x2048x1x32_1_3 S)))⟩,
      ⟨S4x2048x16x32, addf (mulf (extractStridedSlice S4x2048x16x32 ![0, 0, 0, 32] (extractStridedSlice S4x2048x16x64 ![0, 0, 0, 128] N slices_S4x2048x16x192_S4x2048x16x64_0_0_0_128) slices_S4x2048x16x64_S4x2048x16x32_0_0_0_32) (broadcastInDim S4x2048x16x32 ![0, 1, 2, 3] bcast_S1x2048x1x32_S4x2048x16x32_0_1_2_3 (broadcastInDim S1x2048x1x32 ![1, 3] bcast_S2048x32_S1x2048x1x32_1_3 C)))
        (mulf (extractStridedSlice S4x2048x16x32 ![0, 0, 0, 0] (extractStridedSlice S4x2048x16x64 ![0, 0, 0, 128] N slices_S4x2048x16x192_S4x2048x16x64_0_0_0_128) slices_S4x2048x16x64_S4x2048x16x32_0_0_0_0) (broadcastInDim S4x2048x16x32 ![0, 1, 2, 3] bcast_S1x2048x1x32_S4x2048x16x32_0_1_2_3 (broadcastInDim S1x2048x1x32 ![1, 3] bcast_S2048x32_S1x2048x1x32_1_3 S)))⟩] concatenates_S4x2048x16x32_S4x2048x16x32_S4x2048x16x64_d3⟩] concatenates_S4x2048x16x128_S4x2048x16x64_S4x2048x16x192_d3

/-- Each head in 256 lanes, heads and batch entries put in one row. -/
def rows (N : FVec Ideal S4x2048x16x192 .f32) : FVec Ideal S8192x4096 .bf16 :=
  truncf .bf16 (shapeCast S8192x4096 (pad S4x2048x16x256 ![0, 0, 0, 0] ![0, 0, 0, 64] ![0, 0, 0, 0] N (sitofp .f32 (constantI S_ 32 0#32) : FVec Ideal S_ .f32) pads_S4x2048x16x192_S4x2048x16x256_000_000_000_0640 h_S_) shapeCasts_S4x2048x16x256_S8192x4096) bitsLt_bf16_f32

/-- The norm at a lane. -/
theorem normed_at (X : FVec Ideal S4x2048x16x192 .f32) (G : FVec Ideal S192 .f32) (b : Fin 4) (t : Fin 2048) (h : Fin 16) (d : Fin 192) :
    normed X G (ix4 b t h d) = (X (ix4 b t h d) * Ideal.rsqrt (Ideal.div (∑ k : Fin 192, X (ix4 b t h k) * X (ix4 b t h k)) (Ideal.ofBits .f32 0x43400000#32) + Ideal.ofBits .f32 0x358637BD#32) * G (ix1 d) : EReal) := by
  pointwise [normed]

/-- The rotation at a lane. -/
theorem rot_at (N : FVec Ideal S4x2048x16x192 .f32) (C S : FVec Ideal S2048x32 .f32) (b : Fin 4) (t : Fin 2048) (h : Fin 16) (d : Fin 192) :
    rot N C S (ix4 b t h d) = (if h_1 : d.val < 128 then N (ix4 b t h d)
      else if h_2 : d.val - 128 < 32 then N (ix4 b t h ⟨128 + (d.val - 128), by omega⟩) * C (ix2 t ⟨d.val - 128, h_2⟩) - N (ix4 b t h ⟨128 + (32 + (d.val - 128)), by omega⟩) * S (ix2 t ⟨d.val - 128, h_2⟩)
      else N (ix4 b t h ⟨128 + (32 + (d.val - 128 - 32)), by omega⟩) * C (ix2 t ⟨d.val - 128 - 32, by omega⟩) + N (ix4 b t h ⟨128 + (d.val - 128 - 32), by omega⟩) * S (ix2 t ⟨d.val - 128 - 32, by omega⟩) : EReal) := by
  pointwise [rot]

/-- The number the reference pads with is zero. -/
theorem zero_at : FloatOps.sitofp (F := Ideal) FTy.f32 0#32 = (0 : EReal) := by
  show ((((0#32 : BitVec 32).toInt : ℤ) : ℝ) : EReal) = 0
  simp

/-- A row and a column of the reference's result. -/
theorem rows_at (N : FVec Ideal S4x2048x16x192 .f32) (r : Fin 8192) (j : Fin 4096) :
    rows N (ix2 r j) = (if h : j.val % 256 < 192 then N (ix4 ⟨r.val / 2048, by omega⟩ ⟨r.val % 2048, by omega⟩ ⟨j.val / 256, by omega⟩ ⟨j.val % 256, h⟩) else 0 : EReal) := by
  pointwise [rows]
  by_cases h : j.val % 256 < 192
  · rw [dif_pos ⟨by omega, by omega, by omega, h⟩, dif_pos h]
  · rw [dif_neg (fun h' => h h'.2.2.2), dif_neg h, zero_at]

end Cert.Reference12Ideal.Proj

namespace Cert.Kernel12Ideal.Proj

open Cert.Kernel12Ideal Cert.Kernel12Ideal.Gen

/-- The reference's lane is the head's lane. -/
theorem ref_at (X : FVec Ideal S4x2048x16x256 .f32) (Y : FVec Ideal S4x2048x64 .f32) (G : FVec Ideal S192 .f32) (C S : FVec Ideal S2048x32 .f32) (r : Fin 8192) (j : Fin 4096) :
    Cert.Reference12Ideal.Proj.rows (Cert.Reference12Ideal.Proj.rot (Cert.Reference12Ideal.Proj.normed (Cert.Reference12Ideal.Proj.joined X Y) G) C S) (ix2 r j)
      = head (key X Y ⟨r.val / 2048, by omega⟩ ⟨r.val % 2048, by omega⟩ ⟨j.val / 256, by omega⟩) G C S ⟨r.val % 2048, by omega⟩ ⟨j.val % 256, by omega⟩ := by
  have hn : ∀ b t h d, Cert.Reference12Ideal.Proj.normed (Cert.Reference12Ideal.Proj.joined X Y) G (ix4 b t h d) = nrm (key X Y b t h) G d := fun b t h d => by
    rw [Cert.Reference12Ideal.Proj.normed_at, Cert.Kernel11Ideal.Proj.div_192]
    simp only [Cert.Reference12Ideal.Proj.joined_at]
    rfl
  rw [Cert.Reference12Ideal.Proj.rows_at]
  unfold head
  by_cases h2 : j.val % 256 < 192
  · rw [dif_pos h2, Cert.Reference12Ideal.Proj.rot_at]
    simp only [hn]
    by_cases h0 : j.val % 256 < 128
    · rw [dif_pos h0, dif_pos h0]
    · rw [dif_neg h0, dif_neg h0]
      by_cases h1 : j.val % 256 < 160
      · rw [dif_pos h1, dif_pos (by first | omega | (dsimp only; omega))]
        have a : (⟨128 + (j.val % 256 - 128), by omega⟩ : Fin 192) = ⟨j.val % 256, by omega⟩ := Fin.ext (by dsimp only; omega)
        have b : (⟨128 + (32 + (j.val % 256 - 128)), by omega⟩ : Fin 192) = ⟨j.val % 256 + 32, by omega⟩ := Fin.ext (by dsimp only; omega)
        rw [a, b]
      · rw [dif_neg h1, dif_pos h2, dif_neg (by first | omega | (dsimp only; omega))]
        have a : (⟨128 + (32 + (j.val % 256 - 128 - 32)), by omega⟩ : Fin 192) = ⟨j.val % 256, by omega⟩ := Fin.ext (by dsimp only; omega)
        have b : (⟨128 + (j.val % 256 - 128 - 32), by omega⟩ : Fin 192) = ⟨j.val % 256 - 32, by omega⟩ := Fin.ext (by dsimp only; omega)
        have c : (⟨j.val % 256 - 128 - 32, by omega⟩ : Fin 32) = ⟨j.val % 256 - 160, by omega⟩ := Fin.ext (by dsimp only; omega)
        rw [a, b, c]
  · rw [dif_neg h2, dif_neg (by first | omega | (dsimp only; omega)), dif_neg (by first | omega | (dsimp only; omega)), dif_neg h2]

end Cert.Kernel12Ideal.Proj

namespace Cert.Proof

/-- Both programs end with the same prepared keys. -/
theorem algebraic12 : Cert.algebraic_Kernel12Ideal_Reference12Ideal := by
  intro m g m' g' _ hag
  refine ⟨fun c => (fun i => Cert.Kernel12Ideal.Proj.val (m ((c.tc : Thread _ _).loc Cert.Kernel12Ideal.main_arg0)) (m ((c.tc : Thread _ _).loc Cert.Kernel12Ideal.main_arg1))
      (m ((c.tc : Thread _ _).loc Cert.Kernel12Ideal.main_arg2)) (i 0) (i 1) : FVec Ideal Cert.Kernel12Ideal.S8192x4096 .bf16), ?_, ?_⟩
  · exact (θ_run Cert.Kernel12Ideal.defs _ _).mono (fun r h c => ⟨(h c).1.trans (Cert.Kernel12Ideal.Proj.final m c), (h c).2⟩)
      (Cert.Kernel12Ideal.Value.run_blocks (F := Ideal) m g)
  · refine (θ_run Cert.Reference12Ideal.defs _ _).mono (fun r h c => ⟨(h c).1.trans ?_, (h c).2⟩) (Cert.Reference12Ideal.Value.run (F := Ideal) m' g')
    obtain ⟨a0, a1, a2⟩ := hag c
    unfold Cert.Reference12Ideal.Value.res_main_v52
    rw [a0, a1, a2]
    funext i
    idx_vars i
    generalize m ((c.tc : Thread _ _).loc Cert.Kernel12Ideal.main_arg0) = X
    generalize m ((c.tc : Thread _ _).loc Cert.Kernel12Ideal.main_arg1) = Y
    generalize m ((c.tc : Thread _ _).loc Cert.Kernel12Ideal.main_arg2) = G
    exact Cert.Kernel12Ideal.Proj.ref_at X Y G (Host.cos Cert.Kernel12Ideal.Proj.ang) (Host.sin Cert.Kernel12Ideal.Proj.ang) i0 i1

end Cert.Proof
end
end
-- ==== Proof.Frames.lean ====
/- The frames of the kernel, of its idealization and of the reference, and the ledger of the idealization.
   Nothing is computed here: the generated runs are cited. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal

@[expose] public section

noncomputable section

namespace Cert.Proof

open Idealize.ShloMosaic Idealize.SL.Sem

/-- The kernel runs, leaves its arguments and every counter as it found them. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- The reference, a line of host operations, leaves its arguments unchanged; it has no counters. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The reference's frame claim. -/
theorem frame_reference : Cert.quiescent_ReferenceIdeal := fun m ρ _ => run_reference m ρ

/-- The two named constants, the mask's filling and the running maximum's start, read minus infinity. -/
theorem preserves : Cert.preserves_Kernel_KernelIdeal :=
  ⟨IdealRules.named_const.statement Cert.KernelIdeal.κ "floor" .f32 0xEFA18F08#32 ⊥ rfl,
    IdealRules.named_const.statement Cert.KernelIdeal.κ "mask" .f32 0xF149F2CA#32 ⊥ rfl⟩

end Cert.Proof

end
-- ==== Proof.ProjFrames.lean ====
/- The frames of the projections, of their idealizations and of their references, and the ledgers.
   Nothing is computed here: the generated runs are cited. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal

@[expose] public section

noncomputable section

namespace Cert.Proof

open Idealize.ShloMosaic Idealize.SL.Sem

/-- The program of the odd layer's output projection runs, leaves its arguments and every counter as it found them. -/
theorem frame_kernel2 : Cert.quiescent_Kernel2 := fun m ρ _ => Cert.Kernel2.Gen.frame m ρ

/-- So does its idealization. -/
theorem frame_ideal2 : Cert.quiescent_Kernel2Ideal := fun m ρ _ => Cert.Kernel2Ideal.Gen.frame m ρ

/-- And the reference of the odd layer's output projection. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealization changes nothing. -/
theorem preserves2 : Cert.preserves_Kernel2_Kernel2Ideal := trivial

/-- The program of the even layer's output projection runs, leaves its arguments and every counter as it found them. -/
theorem frame_kernel3 : Cert.quiescent_Kernel3 := fun m ρ _ => Cert.Kernel3.Gen.frame m ρ

/-- So does its idealization. -/
theorem frame_ideal3 : Cert.quiescent_Kernel3Ideal := fun m ρ _ => Cert.Kernel3Ideal.Gen.frame m ρ

/-- And the reference of the even layer's output projection. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealization changes nothing. -/
theorem preserves3 : Cert.preserves_Kernel3_Kernel3Ideal := trivial

/-- The program of the odd layer's input projection runs, leaves its arguments and every counter as it found them. -/
theorem frame_kernel4 : Cert.quiescent_Kernel4 := fun m ρ _ => Cert.Kernel4.Gen.frame m ρ

/-- So does its idealization. -/
theorem frame_ideal4 : Cert.quiescent_Kernel4Ideal := fun m ρ _ => Cert.Kernel4Ideal.Gen.frame m ρ

/-- And the reference of the odd layer's input projection. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The idealization changes nothing. -/
theorem preserves4 : Cert.preserves_Kernel4_Kernel4Ideal := trivial

/-- The program of the even layer's input projection runs, leaves its arguments and every counter as it found them. -/
theorem frame_kernel5 : Cert.quiescent_Kernel5 := fun m ρ _ => Cert.Kernel5.Gen.frame m ρ

/-- So does its idealization. -/
theorem frame_ideal5 : Cert.quiescent_Kernel5Ideal := fun m ρ _ => Cert.Kernel5Ideal.Gen.frame m ρ

/-- And the reference of the even layer's input projection. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The idealization changes nothing but the named reciprocal of 192. -/
theorem preserves5 : Cert.preserves_Kernel5_Kernel5Ideal := IdealRules.named_const.statement Cert.Kernel5Ideal.κ "inv_192" .f32 0x3BAAAAAB#32 ((1 / 192 : ℝ) : EReal) rfl

/-- The program of the latent queries runs, leaves its arguments and every counter as it found them. -/
theorem frame_kernel6 : Cert.quiescent_Kernel6 := fun m ρ _ => Cert.Kernel6.Gen.frame m ρ

/-- So does its idealization. -/
theorem frame_ideal6 : Cert.quiescent_Kernel6Ideal := fun m ρ _ => Cert.Kernel6Ideal.Gen.frame m ρ

/-- And the reference of the latent queries. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The idealization changes nothing. -/
theorem preserves6 : Cert.preserves_Kernel6_Kernel6Ideal := trivial

/-- The program of the latent keys and values runs, leaves its arguments and every counter as it found them. -/
theorem frame_kernel7 : Cert.quiescent_Kernel7 := fun m ρ _ => Cert.Kernel7.Gen.frame m ρ

/-- So does its idealization. -/
theorem frame_ideal7 : Cert.quiescent_Kernel7Ideal := fun m ρ _ => Cert.Kernel7Ideal.Gen.frame m ρ

/-- And the reference of the latent keys and values. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The idealization changes nothing. -/
theorem preserves7 : Cert.preserves_Kernel7_Kernel7Ideal := trivial

/-- The program of the modulated norm runs, leaves its arguments and every counter as it found them. -/
theorem frame_kernel8 : Cert.quiescent_Kernel8 := fun m ρ _ => Cert.Kernel8.Gen.frame m ρ

/-- So does its idealization. -/
theorem frame_ideal8 : Cert.quiescent_Kernel8Ideal := fun m ρ _ => Cert.Kernel8Ideal.Gen.frame m ρ

/-- And the reference of the modulated norm. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The idealization changes nothing. -/
theorem preserves8 : Cert.preserves_Kernel8_Kernel8Ideal := trivial

/-- The program of the gated sum of the branches runs, leaves its arguments and every counter as it found them. -/
theorem frame_kernel9 : Cert.quiescent_Kernel9 := fun m ρ _ => Cert.Kernel9.Gen.frame m ρ

/-- So does its idealization. -/
theorem frame_ideal9 : Cert.quiescent_Kernel9Ideal := fun m ρ _ => Cert.Kernel9Ideal.Gen.frame m ρ

/-- And the reference of the gated sum of the branches. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The idealization changes nothing. -/
theorem preserves9 : Cert.preserves_Kernel9_Kernel9Ideal := trivial

/-- The program of the modulation runs, leaves its arguments and every counter as it found them. -/
theorem frame_kernel10 : Cert.quiescent_Kernel10 := fun m ρ _ => Cert.Kernel10.Gen.frame m ρ

/-- So does its idealization. -/
theorem frame_ideal10 : Cert.quiescent_Kernel10Ideal := fun m ρ _ => Cert.Kernel10Ideal.Gen.frame m ρ

/-- And the reference of the modulation. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The idealization changes nothing. -/
theorem preserves10 : Cert.preserves_Kernel10_Kernel10Ideal := trivial

/-- The program of the rotated queries runs, leaves its arguments and every counter as it found them. -/
theorem frame_kernel11 : Cert.quiescent_Kernel11 := fun m ρ _ => Cert.Kernel11.Gen.frame m ρ

/-- So does its idealization. -/
theorem frame_ideal11 : Cert.quiescent_Kernel11Ideal := fun m ρ _ => Cert.Kernel11Ideal.Gen.frame m ρ

/-- And the reference of the rotated queries. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The idealization changes nothing but the named reciprocal of 192. -/
theorem preserves11 : Cert.preserves_Kernel11_Kernel11Ideal := IdealRules.named_const.statement Cert.Kernel11Ideal.κ "inv_192" .f32 0x3BAAAAAB#32 ((1 / 192 : ℝ) : EReal) rfl

/-- The program of the rotated keys runs, leaves its arguments and every counter as it found them. -/
theorem frame_kernel12 : Cert.quiescent_Kernel12 := fun m ρ _ => Cert.Kernel12.Gen.frame m ρ

/-- So does its idealization. -/
theorem frame_ideal12 : Cert.quiescent_Kernel12Ideal := fun m ρ _ => Cert.Kernel12Ideal.Gen.frame m ρ

/-- And the reference of the rotated keys. -/
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The idealization changes nothing but the named reciprocal of 192. -/
theorem preserves12 : Cert.preserves_Kernel12_Kernel12Ideal := IdealRules.named_const.statement Cert.Kernel12Ideal.κ "inv_192" .f32 0x3BAAAAAB#32 ((1 / 192 : ℝ) : EReal) rfl

end Cert.Proof

end
-- ==== Proof.Step.lean ====
module
public import proofs.«01_k».proof.Proof.Gen.KernelIdeal.Frame
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

/-! One trip of the loop over the key blocks: what it leaves in the two scratch arrays, head by head. -/
namespace Cert.KernelIdeal.Attn
open Cert.KernelIdeal Cert.KernelIdeal.Gen
variable {F : FTy → Type} [FloatOps F] [Named F]

/-- The scores of 512 queries against 512 keys. -/
def score (q : FVec F S512x256 .bf16) (x : Vec F S512x256 .bf16) : FVec F S512x512 .f32 :=
  matmul dot_S512x256_S512x256_S512x512_1_1_0_0_n_n none q (shapeCast S512x256 x shapeCasts_S512x256_S512x256)
    (constant S512x512 .f32 0x00000000#32)

/-- The scores with the keys after the query masked. -/
def scoreM (v0 : BitVec 32) (v39 : IVec S512x512 32) (b : BitVec 32) (q : FVec F S512x256 .bf16)
    (x : Vec F S512x256 .bf16) : FVec F S512x512 .f32 :=
  select (k0_pay46 v0 v39 b) (score q x) (broadcast S512x512 (Named.named κ "mask" 0xF149F2CA#32))

/-- The first 128 keys of a tile of scores. -/
def cutA (S : FVec F S512x512 .f32) : FVec F S512x128 .f32 :=
  extractStridedSlice S512x128 ![0, 0] S slices_S512x512_o0_0_S512x128
/-- The second 128 keys. -/
def cutB (S : FVec F S512x512 .f32) : FVec F S512x128 .f32 :=
  extractStridedSlice S512x128 ![0, 128] S slices_S512x512_o0_128_S512x128
/-- The third 128 keys. -/
def cutC (S : FVec F S512x512 .f32) : FVec F S512x128 .f32 :=
  extractStridedSlice S512x128 ![0, 256] S slices_S512x512_o0_256_S512x128
/-- The last 128 keys. -/
def cutD (S : FVec F S512x512 .f32) : FVec F S512x128 .f32 :=
  extractStridedSlice S512x128 ![0, 384] S slices_S512x512_o0_384_S512x128

/-- The running row maximum after the block, in all 128 lanes. -/
def maxM (S : FVec F S512x512 .f32) (m : Vec F S1x512x128 .f32) : FVec F S512x128 .f32 :=
  maximumf (shapeCast S512x128 m shapeCasts_S1x512x128_S512x128)
    (broadcastTo S512x128 (shapeCast S512x1
      (multiReduction .maximumf [1] S512 (maximumf (maximumf (maximumf (cutA S) (cutB S)) (cutC S)) (cutD S))
        0xFF800000#32 reduces_S512x128_S512 (.inl rfl) rfl) shapeCasts_S512_S512x1) broadcasts_S512x1_S512x128)

/-- The next running maximum. -/
def stepM (S : FVec F S512x512 .f32) (m : Vec F S1x512x128 .f32) : Vec F S1x512x128 .f32 :=
  shapeCast S1x512x128 (maxM S m) shapeCasts_S512x128_S1x512x128

/-- The weights of 128 keys. -/
def wexp (c m : FVec F S512x128 .f32) : FVec F S512x128 .bf16 :=
  truncf .bf16 (exp (subf c m)) bitsLt_bf16_f32

/-- The running accumulator after the block: columns 0–127 the weighted values, 128–255 the weights. -/
def stepA (S : FVec F S512x512 .f32) (o : FVec F S512x128 .bf16) (v : Vec F S512x128 .bf16)
    (m : Vec F S1x512x128 .f32) (a : Vec F S1x512x256 .f32) : Vec F S1x512x256 .f32 :=
  shapeCast S1x512x256 (addf
    (mulf (concatenate S512x256 1
        [⟨S512x128, exp (subf (shapeCast S512x128 m shapeCasts_S1x512x128_S512x128) (maxM S m))⟩,
          ⟨S512x128, exp (subf (shapeCast S512x128 m shapeCasts_S1x512x128_S512x128) (maxM S m))⟩]
        concatenates_S512x128_S512x128_S512x256_d1)
      (shapeCast S512x256 a shapeCasts_S1x512x256_S512x256))
    (matmul dot_S512x512_S512x256_S512x256_1_0_0_1_n_n none
      (concatenate S512x512 1 [⟨S512x128, wexp (cutA S) (maxM S m)⟩, ⟨S512x128, wexp (cutB S) (maxM S m)⟩,
        ⟨S512x128, wexp (cutC S) (maxM S m)⟩, ⟨S512x128, wexp (cutD S) (maxM S m)⟩]
        concatenates_S512x128_S512x128_S512x128_S512x128_S512x512_d1)
      (concatenate S512x256 1 [⟨S512x128, shapeCast S512x128 v shapeCasts_S512x128_S512x128⟩, ⟨S512x128, o⟩]
        concatenates_S512x128_S512x128_S512x256_d1)
      (constant S512x256 .f32 0x00000000#32))) shapeCasts_S512x256_S1x512x256

/-- A head's slice lies inside the buffer of running maxima. -/
theorem inb7 (h : Fin 4) : ∀ a, (![h.val, 0, 0] : Fin 3 → ℕ) a + S1x512x128.size a ≤ S4x512x128.size a := by
  revert h; decide
/-- A head's slice lies inside the buffer of running sums. -/
theorem inb8 (h : Fin 4) : ∀ a, (![h.val, 0, 0] : Fin 3 → ℕ) a + S1x512x256.size a ≤ S4x512x256.size a := by
  revert h; decide

/-- Head `h` of the row maxima, and of the accumulators. -/
abbrev rect7 (h : Fin 4) : Rect S4x512x128 := Rect.unit ![h.val, 0, 0] S1x512x128.size (inb7 h)
/-- A head's slice of the running sums. -/
abbrev rect8 (h : Fin 4) : Rect S4x512x256 := Rect.unit ![h.val, 0, 0] S1x512x256.size (inb8 h)

/-- One piece per head, the last head's first. -/
def heads7 (P : Fin 4 → Vec F S1x512x128 .f32) : List (View.Piece (Elt F) S4x512x128 .f32) :=
  [⟨rect7 3, P 3⟩, ⟨rect7 2, P 2⟩, ⟨rect7 1, P 1⟩, ⟨rect7 0, P 0⟩]
/-- The four heads' stores of the running sums, last first. -/
def heads8 (P : Fin 4 → Vec F S1x512x256 .f32) : List (View.Piece (Elt F) S4x512x256 .f32) :=
  [⟨rect8 3, P 3⟩, ⟨rect8 2, P 2⟩, ⟨rect8 1, P 1⟩, ⟨rect8 0, P 0⟩]

/-- The keys, and the values, of the trip's block, head by head: of a trip without a mask, and of one with. -/
abbrev kF (i : grid0.Coords) (k : Fin (k0_t1_loop i).trips) (h : k0_cond1 i k = 1#1) (X : Vec F S2048x1024 .bf16) : Fin 4 → Vec F S512x256 .bf16 :=
  ![View.ld X (Rect.unit (k0_off1 i k) S512x256.size (k0_off1_inb i k h)),
    View.ld X (Rect.unit (k0_off3 i k) S512x256.size (k0_off3_inb i k h)),
    View.ld X (Rect.unit (k0_off5 i k) S512x256.size (k0_off5_inb i k h)),
    View.ld X (Rect.unit (k0_off7 i k) S512x256.size (k0_off7_inb i k h))]

/-- The unmasked trip's value tile of each head. -/
abbrev vF (i : grid0.Coords) (k : Fin (k0_t1_loop i).trips) (h : k0_cond1 i k = 1#1) (X : Vec F S2048x1024 .bf16) : Fin 4 → Vec F S512x128 .bf16 :=
  ![View.ld X (Rect.unit (k0_off2 i k) S512x128.size (k0_off2_inb i k h)),
    View.ld X (Rect.unit (k0_off4 i k) S512x128.size (k0_off4_inb i k h)),
    View.ld X (Rect.unit (k0_off6 i k) S512x128.size (k0_off6_inb i k h)),
    View.ld X (Rect.unit (k0_off8 i k) S512x128.size (k0_off8_inb i k h))]

/-- The masked trip's key tile of each head. -/
abbrev kM (i : grid0.Coords) (k : Fin (k0_t1_loop i).trips) (h : ¬k0_cond1 i k = 1#1) (X : Vec F S2048x1024 .bf16) : Fin 4 → Vec F S512x256 .bf16 :=
  ![View.ld X (Rect.unit (k0_off9 i k) S512x256.size (k0_off9_inb i k h)),
    View.ld X (Rect.unit (k0_off11 i k) S512x256.size (k0_off11_inb i k h)),
    View.ld X (Rect.unit (k0_off13 i k) S512x256.size (k0_off13_inb i k h)),
    View.ld X (Rect.unit (k0_off15 i k) S512x256.size (k0_off15_inb i k h))]

/-- The masked trip's value tile of each head. -/
abbrev vM (i : grid0.Coords) (k : Fin (k0_t1_loop i).trips) (h : ¬k0_cond1 i k = 1#1) (X : Vec F S2048x1024 .bf16) : Fin 4 → Vec F S512x128 .bf16 :=
  ![View.ld X (Rect.unit (k0_off10 i k) S512x128.size (k0_off10_inb i k h)),
    View.ld X (Rect.unit (k0_off12 i k) S512x128.size (k0_off12_inb i k h)),
    View.ld X (Rect.unit (k0_off14 i k) S512x128.size (k0_off14_inb i k h)),
    View.ld X (Rect.unit (k0_off16 i k) S512x128.size (k0_off16_inb i k h))]

section
variable (𝒱 : Variants) (c : Dev nD) (bd : Option 𝒱.V) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S512x512 .bf16) (harg6 : arg6.IsWhole) (arg7 : Memref sig .tc .vmem S4x512x128 .f32) (harg7 : arg7.IsWhole) (arg8 : Memref sig .tc .vmem S4x512x256 .f32) (harg8 : arg8.IsWhole) (v0 : BitVec 32) (q : Fin 4 → FVec F S512x256 .bf16) (v39 : IVec S512x512 32) (v40 : FVec F S512x128 .bf16) (b0 : BitVec 32) (v69 : BitVec 32) (X4 : BufTy.Contents (Elt F) arg4.view.ty) (X5 : BufTy.Contents (Elt F) arg5.view.ty) (k : Fin (k0_t1_loop i).trips) (f7 : BufTy.Contents (Elt F) arg7.view.ty) (f8 : BufTy.Contents (Elt F) arg8.view.ty)

/-- The unmasked trip stores the next running maxima. -/
theorem trip_full7 (h : k0_cond1 i k = 1#1) :
    (trip_k0_t1 (F := F) 𝒱 c bd i arg3 harg3 arg4 harg4 arg5 harg5 arg6 harg6 arg7 harg7 arg8 harg8 v0 (q 0) (q 1) (q 2) (q 3) v39 v40 b0 v69 X4 X5 k).2.1 f7 f8 h
      = heads7 fun hd => stepM (score (q hd) (kF i k h (arg4.view.read (Elt F) X4) hd)) (View.ld (arg7.view.read (Elt F) f7) (rect7 hd)) := by
  unfold trip_k0_t1
  dsimp only
  sl_unfold_words
  rfl

/-- The unmasked trip stores the next running sums. -/
theorem trip_full8 (h : k0_cond1 i k = 1#1) :
    (trip_k0_t1 (F := F) 𝒱 c bd i arg3 harg3 arg4 harg4 arg5 harg5 arg6 harg6 arg7 harg7 arg8 harg8 v0 (q 0) (q 1) (q 2) (q 3) v39 v40 b0 v69 X4 X5 k).2.2.2.1 f7 f8 h
      = heads8 fun hd => stepA (score (q hd) (kF i k h (arg4.view.read (Elt F) X4) hd)) v40 (vF i k h (arg5.view.read (Elt F) X5) hd)
          (View.ld (arg7.view.read (Elt F) f7) (rect7 hd)) (View.ld (arg8.view.read (Elt F) f8) (rect8 hd)) := by
  unfold trip_k0_t1
  dsimp only
  sl_unfold_words
  rfl

/-- The masked trip stores the next running maxima. -/
theorem trip_mask7 (h : ¬k0_cond1 i k = 1#1) :
    (trip_k0_t1 (F := F) 𝒱 c bd i arg3 harg3 arg4 harg4 arg5 harg5 arg6 harg6 arg7 harg7 arg8 harg8 v0 (q 0) (q 1) (q 2) (q 3) v39 v40 b0 v69 X4 X5 k).1 f7 f8 h
      = heads7 fun hd => stepM (scoreM v0 v39 (Scf.iv b0 1#32 k) (q hd) (kM i k h (arg4.view.read (Elt F) X4) hd)) (View.ld (arg7.view.read (Elt F) f7) (rect7 hd)) := by
  unfold trip_k0_t1
  dsimp only
  sl_unfold_words
  rfl

/-- The masked trip stores the next running sums. -/
theorem trip_mask8 (h : ¬k0_cond1 i k = 1#1) :
    (trip_k0_t1 (F := F) 𝒱 c bd i arg3 harg3 arg4 harg4 arg5 harg5 arg6 harg6 arg7 harg7 arg8 harg8 v0 (q 0) (q 1) (q 2) (q 3) v39 v40 b0 v69 X4 X5 k).2.2.1 f7 f8 h
      = heads8 fun hd => stepA (scoreM v0 v39 (Scf.iv b0 1#32 k) (q hd) (kM i k h (arg4.view.read (Elt F) X4) hd)) v40 (vM i k h (arg5.view.read (Elt F) X5) hd)
          (View.ld (arg7.view.read (Elt F) f7) (rect7 hd)) (View.ld (arg8.view.read (Elt F) f8) (rect8 hd)) := by
  unfold trip_k0_t1
  dsimp only
  sl_unfold_words
  rfl

end
end Cert.KernelIdeal.Attn
end
end
-- ==== Proof.Softmax.lean ====
module
public import proofs.«01_k».proof.Proof.Gen.KernelIdeal.Value
@[expose] public section
noncomputable section
open Idealize.ShloMosaic

/-! One row of causal attention, as mathematics: the scores `s j` of the keys, a column `w j` of the
values, the query `t`, which sees the keys `j ≤ t`. -/
namespace Cert.Softmax

/-- The score of key `j` as the query `t` sees it: `⊥` for a key after the query. -/
def seen (s : ℕ → ℝ) (t j : ℕ) : EReal := if j ≤ t then (s j : EReal) else ⊥

/-- The largest seen score among the first `n` keys, `⊥` where there is none. -/
def top (s : ℕ → ℝ) (t n : ℕ) : EReal := (Finset.range n).sup (seen s t)

/-- The weight of key `j` when the largest score is `M`. -/
def wt (s : ℕ → ℝ) (t : ℕ) (M : ℝ) (j : ℕ) : ℝ := if j ≤ t then Real.exp (s j - M) else 0

/-- The weighted sum of the column `w` over the first `n` keys, relative to their largest score. The column may hold
any ideal value, infinite ones too. -/
def acc (s : ℕ → ℝ) (w : ℕ → EReal) (t n : ℕ) : EReal := ∑ j ∈ Finset.range n, ((wt s t (top s t n).toReal j : ℝ) : EReal) * w j

/-- A bound of the largest seen score is a bound of every seen score. -/
theorem top_le (s : ℕ → ℝ) (t n : ℕ) (x : EReal) :
    top s t n ≤ x ↔ ∀ j, j < n → seen s t j ≤ x := by
  simp [top, Finset.sup_le_iff]

/-- With at least one key, the largest seen score is a number. -/
theorem top_coe (s : ℕ → ℝ) (t n : ℕ) (hn : 0 < n) :
    top s t n = (((top s t n).toReal : ℝ) : EReal) := by
  have h0 : seen s t 0 ≤ top s t n := (top_le s t n _).1 le_rfl 0 hn
  have hlt : top s t n < ⊤ := by
    unfold top
    rw [Finset.sup_lt_iff bot_lt_top]
    intro j _
    unfold seen
    split
    · exact EReal.coe_lt_top _
    · exact bot_lt_top
  refine (EReal.coe_toReal hlt.ne ?_).symm
  intro hb
  rw [hb, seen, if_pos (Nat.zero_le _)] at h0
  exact absurd h0 (by simp)

/-- Of no keys there is no largest score. -/
theorem top_zero (s : ℕ → ℝ) (t : ℕ) : top s t 0 = ⊥ := by simp [top]

/-- The weighted sum of no keys. -/
theorem acc_zero (s : ℕ → ℝ) (w : ℕ → EReal) (t : ℕ) : acc s w t 0 = 0 := by simp [acc]

/-- Keys after the query do not change the largest seen score. -/
theorem top_stable (s : ℕ → ℝ) (t n n' : ℕ) (h : t < n) (h' : t < n') : top s t n = top s t n' := by
  have key : ∀ n n' : ℕ, t < n' → top s t n ≤ top s t n' := by
    intro n n' h'
    rw [top_le]
    intro j _
    by_cases hj : j ≤ t
    · exact (top_le s t n' _).1 le_rfl j (by omega)
    · rw [seen, if_neg hj]; exact bot_le
  exact le_antisymm (key _ _ h') (key _ _ h)

/-- Keys after the query do not change the weighted sum. -/
theorem acc_stable (s : ℕ → ℝ) (w : ℕ → EReal) (t n n' : ℕ) (h : t < n) (h' : t < n') : acc s w t n = acc s w t n' := by
  have key : ∀ M : ℝ, ∀ n : ℕ, t < n →
      ∑ j ∈ Finset.range n, ((wt s t M j : ℝ) : EReal) * w j = ∑ j ∈ Finset.range (t + 1), ((wt s t M j : ℝ) : EReal) * w j := by
    intro M n h
    symm
    refine Finset.sum_subset (by intro x; simp; omega) ?_
    intro j _ hj
    rw [wt, if_neg (by simpa using hj), EReal.coe_zero, zero_mul]
  unfold acc
  rw [top_stable s t n n' h h', key _ n h, key _ n' h']

/-- A finite sum of numbers, as a sum of ideal values. -/
theorem coe_sum {n : ℕ} (f : Fin n → ℝ) : ((∑ j, f j : ℝ) : EReal) = ∑ j, ((f j : ℝ) : EReal) :=
  map_sum (AddMonoidHom.mk ⟨Real.toEReal, EReal.coe_zero⟩ EReal.coe_add) _ _

/-- The weights as the exponentials the programs take. -/
theorem exp_seen (s : ℕ → ℝ) (t j : ℕ) (M : ℝ) :
    Ideal.exp (seen s t j - (M : EReal)) = ((wt s t M j : ℝ) : EReal) := by
  unfold seen wt
  split
  · rw [← EReal.coe_sub, Ideal.exp_coe]
  · rw [EReal.bot_sub, Ideal.exp_bot]; rfl

/-- One block of 512 keys: the largest seen score so far. -/
theorem top_step (s : ℕ → ℝ) (t n : ℕ) (m : EReal)
    (hm : ∀ x, m ≤ x ↔ ∀ j : Fin 512, seen s t (n + j.val) ≤ x) :
    max (top s t n) m = top s t (n + 512) := by
  refine eq_of_forall_ge_iff fun x => ?_
  rw [max_le_iff, top_le, top_le, hm]
  constructor
  · rintro ⟨h1, h2⟩ j hj
    by_cases hjn : j < n
    · exact h1 j hjn
    · have := h2 ⟨j - n, by omega⟩
      rwa [show n + (j - n) = j by omega] at this
  · intro h
    exact ⟨fun j hj => h j (by omega), fun j => h _ (by omega)⟩

/-- A weight is not negative. -/
theorem wt_nonneg (s : ℕ → ℝ) (t : ℕ) (M : ℝ) (j : ℕ) : 0 ≤ wt s t M j := by
  unfold wt
  split
  · exact (Real.exp_pos _).le
  · exact le_rfl

/-- A nonnegative number distributes over a sum of ideal values, infinite ones too. -/
theorem mul_sum_nonneg {ι : Type} (c : ℝ) (hc : 0 ≤ c) (S : Finset ι) (f : ι → EReal) :
    (c : EReal) * ∑ j ∈ S, f j = ∑ j ∈ S, (c : EReal) * f j := by
  classical
  induction S using Finset.induction_on with
  | empty => simp
  | insert a S ha ih => rw [Finset.sum_insert ha, Finset.sum_insert ha, EReal.left_distrib_of_nonneg_of_ne_top (by exact_mod_cast hc) (EReal.coe_ne_top _), ih]

/-- One block of 512 keys: the weighted sum so far, rescaled, and the block's own. -/
theorem acc_step (s : ℕ → ℝ) (w : ℕ → EReal) (t n : ℕ) :
    Ideal.exp (top s t n - top s t (n + 512)) * acc s w t n
      + ∑ j : Fin 512, Ideal.exp (seen s t (n + j.val) - top s t (n + 512)) * w (n + j.val)
      = acc s w t (n + 512) := by
  obtain ⟨M, hM⟩ : ∃ M : ℝ, top s t (n + 512) = (M : EReal) := ⟨_, top_coe s t _ (by omega)⟩
  have h1 : Ideal.exp (top s t n - top s t (n + 512)) * acc s w t n
      = ∑ j ∈ Finset.range n, ((wt s t M j : ℝ) : EReal) * w j := by
    rw [hM]
    rcases Nat.eq_zero_or_pos n with rfl | hn
    · rw [acc_zero]; simp
    · rw [top_coe s t n hn, ← EReal.coe_sub, Ideal.exp_coe]
      unfold acc
      rw [mul_sum_nonneg _ (Real.exp_pos _).le]
      refine Finset.sum_congr rfl fun j _ => ?_
      rw [← mul_assoc, ← EReal.coe_mul]
      refine congrArg (fun x : ℝ => (x : EReal) * w j) ?_
      unfold wt
      split
      · rw [← Real.exp_add]; congr 1; ring
      · ring
  have h2 : ∑ j : Fin 512, Ideal.exp (seen s t (n + j.val) - top s t (n + 512)) * w (n + j.val)
      = ∑ j ∈ Finset.range 512, ((wt s t M (n + j) : ℝ) : EReal) * w (n + j) := by
    rw [Finset.sum_range (fun j => ((wt s t M (n + j) : ℝ) : EReal) * w (n + j)), hM]
    exact Finset.sum_congr rfl fun j _ => by rw [exp_seen]
  rw [h1, h2]
  unfold acc
  rw [hM, EReal.toReal_coe, Finset.sum_range_add]

/-- The sum of the weights is a positive number: the first key is seen. -/
theorem acc_one_pos (s : ℕ → ℝ) (t n : ℕ) (hn : 0 < n) : ∃ D : ℝ, 0 < D ∧ acc s (fun _ => 1) t n = (D : EReal) := by
  refine ⟨∑ j : Fin n, wt s t (top s t n).toReal j.val, ?_, ?_⟩
  · refine Finset.sum_pos' (fun j _ => wt_nonneg s t _ _) ⟨⟨0, hn⟩, Finset.mem_univ _, ?_⟩
    rw [wt, if_pos (Nat.zero_le _)]; exact Real.exp_pos _
  · rw [coe_sum, acc, Finset.sum_range (fun j => ((wt s t (top s t n).toReal j : ℝ) : EReal) * 1)]
    exact Finset.sum_congr rfl fun j _ => mul_one _

/-- The weighted sum as the sum of the exponentials the programs take, times the column `w`. -/
theorem acc_eq_sum (s : ℕ → ℝ) (w : ℕ → EReal) (t n : ℕ) (hn : 0 < n) :
    acc s w t n = ∑ j : Fin n, Ideal.exp (seen s t j.val - top s t n) * w j.val := by
  unfold acc
  rw [Finset.sum_range (fun j => ((wt s t (top s t n).toReal j : ℝ) : EReal) * w j)]
  refine Finset.sum_congr rfl fun j _ => ?_
  rw [← exp_seen, ← top_coe s t n hn]

/-- Dividing the weighted sum by the sum of the weights is weighting by the divided weights. -/
theorem quot (s : ℕ → ℝ) (w : ℕ → EReal) (t n : ℕ) (hn : 0 < n) (l : ℝ) :
    Ideal.div (acc s w t n) (max (acc s (fun _ => 1) t n) (l : EReal))
      = ∑ j : Fin n, Ideal.div (Ideal.exp (seen s t j.val - top s t n))
          (max (acc s (fun _ => 1) t n) (l : EReal)) * w j.val := by
  obtain ⟨D, hD, hDe⟩ := acc_one_pos s t n hn
  rw [hDe]
  have hy : max (D : EReal) (l : EReal) = ((max D l : ℝ) : EReal) := by
    rcases le_total D l with h | h
    · rw [max_eq_right h, max_eq_right (by exact_mod_cast h)]
    · rw [max_eq_left h, max_eq_left (by exact_mod_cast h)]
  have hpos : 0 < max D l := lt_of_lt_of_le hD (le_max_left _ _)
  rw [hy, Ideal.div_coe hpos.ne', mul_comm, acc_eq_sum s w t n hn, mul_sum_nonneg _ (one_div_pos.2 hpos).le]
  refine Finset.sum_congr rfl fun j _ => ?_
  rw [Ideal.div_coe hpos.ne', ← mul_assoc, mul_comm (((1 / max D l : ℝ)) : EReal)]

end Cert.Softmax
end
end
-- ==== Proof.Trip.lean ====
module
public import proofs.«01_k».proof.Proof.Step
public import proofs.«01_k».proof.Proof.Softmax
public import Idealize.ShloMosaic.Lib.WritesUnit
public import Idealize.ShloMosaic.Lib.WordCmp
@[expose] public section
set_option maxRecDepth 16384
noncomputable section
open Idealize.ShloMosaic Idealize.ShloMosaic.TcCoe Idealize.SL.Sem

/-! One trip at the ideal values, one row of one head: a step of `Softmax.top_step` and `Softmax.acc_step`. -/
namespace Cert.KernelIdeal.Attn
open Cert.KernelIdeal Cert.KernelIdeal.Gen Cert.Softmax

/-- The next running maximum of a row is that over the keys seen so far and the tile. -/
theorem maxM_row (S : FVec Ideal S512x512 .f32) (m : Vec Ideal S1x512x128 .f32) (s : ℕ → ℝ) (t n : ℕ) (r : Fin 512)
    (l : Fin 128) (hS : ∀ c : Fin 512, S (ix2 r c) = seen s t (n + c.val)) (hm : m (ix3 0 r l) = top s t n) :
    maxM (F := Ideal) S m (ix2 r l) = top s t (n + 512) := by
  pointwise [maxM, cutA, cutB, cutC, cutD]
  rw [hm]
  refine top_step s t n _ fun x => ?_
  rw [Finset.fold_max_le]
  simp only [Finset.mem_univ, true_imp_iff, max_le_iff, hS]
  constructor
  · rintro ⟨-, h⟩ j
    by_cases h1 : j.val < 128
    · exact (h ⟨j.val, h1⟩).1.1.1
    by_cases h2 : j.val < 256
    · have := (h ⟨j.val - 128, by omega⟩).1.1.2
      rwa [show 128 + (j.val - 128) = j.val by omega] at this
    by_cases h3 : j.val < 384
    · have := (h ⟨j.val - 256, by omega⟩).1.2
      rwa [show 256 + (j.val - 256) = j.val by omega] at this
    · have := (h ⟨j.val - 384, by omega⟩).2
      rwa [show 384 + (j.val - 384) = j.val by omega] at this
  · intro h
    refine ⟨?_, fun j => ⟨⟨⟨h ⟨j.val, by omega⟩, h ⟨128 + j.val, by omega⟩⟩, h ⟨256 + j.val, by omega⟩⟩,
      h ⟨384 + j.val, by omega⟩⟩⟩
    have hb : Ideal.ofBits FTy.f32 4286578688#32 = ⊥ := by simp [Ideal.ofBits, Ideal.ieee]
    rw [hb]; exact bot_le

/-- The same, as the lane stored in the buffer. -/
theorem stepM_row (S : FVec Ideal S512x512 .f32) (m : Vec Ideal S1x512x128 .f32) (s : ℕ → ℝ) (t n : ℕ) (r : Fin 512)
    (l : Fin 128) (hS : ∀ c : Fin 512, S (ix2 r c) = seen s t (n + c.val)) (hm : m (ix3 0 r l) = top s t n) :
    stepM (F := Ideal) S m (ix3 0 r l) = top s t (n + 512) := by
  refine Eq.trans ?_ (maxM_row S m s t n r l hS hm)
  pointwise [stepM]

/-- The next running sums of a row are those over the keys seen so far and the tile. -/
theorem stepA_row (S : FVec Ideal S512x512 .f32) (o : FVec Ideal S512x128 .bf16) (v : Vec Ideal S512x128 .bf16)
    (m : Vec Ideal S1x512x128 .f32) (a : Vec Ideal S1x512x256 .f32) (s : ℕ → ℝ) (w : ℕ → EReal) (t n : ℕ) (r : Fin 512)
    (l : Fin 256) (hS : ∀ c : Fin 512, S (ix2 r c) = seen s t (n + c.val)) (hm : ∀ l, m (ix3 0 r l) = top s t n)
    (hv : ∀ (h : l.val < 128) (x : Fin 512), v (ix2 x ⟨l.val, h⟩) = (w (n + x.val)))
    (ho : ∀ (h : ¬l.val < 128) (x : Fin 512), o (ix2 x ⟨l.val - 128, by omega⟩) = (w (n + x.val)))
    (ha : a (ix3 0 r l) = (acc s w t n)) :
    stepA (F := Ideal) S o v m a (ix3 0 r l) = (acc s w t (n + 512)) := by
  have hM := fun l => maxM_row S m s t n r l hS (hm l)
  rw [← acc_step s w t n]
  pointwise [stepA, wexp, cutA, cutB, cutC, cutD]
  simp only [hM, hm, hS, ha, ite_self, dite_eq_ite]
  refine congrArg₂ (· + ·) rfl (Finset.sum_congr rfl fun x _ => ?_)
  refine congrArg₂ (· * ·) ?_ ?_
  · by_cases h1 : x.val < 128
    · rw [if_pos h1]
    rw [if_neg h1]
    by_cases h2 : x.val - 128 < 128
    · rw [if_pos h2, show 128 + (x.val - 128) = x.val by omega]
    rw [if_neg h2]
    by_cases h3 : x.val - 128 - 128 < 128
    · rw [if_pos h3, show 256 + (x.val - 128 - 128) = x.val by omega]
    rw [if_neg h3, show 384 + (x.val - 128 - 128 - 128) = x.val by omega]
  · split
    · next h => exact hv h x
    · next h => exact ho h x

/-- A head's piece, read back: the newest piece of the head. -/
theorem read_heads7 (a : Memref sig .tc .vmem S4x512x128 .f32) (f : BufTy.Contents (Elt Ideal) a.view.ty)
    (P : Fin 4 → Vec Ideal S1x512x128 .f32) (L : List (View.Piece (Elt Ideal) S4x512x128 .f32)) (h : Fin 4)
    (r : Fin 512) (l : Fin 128) :
    a.view.read (Elt Ideal) (a.view.writes (Elt Ideal) f (heads7 P ++ L)) (ix3 h r l) = P h (ix3 0 r l) := by
  have hit : ∀ (hd : Fin 4) (L : List (View.Piece (Elt Ideal) S4x512x128 .f32)),
      a.view.read (Elt Ideal) (a.view.writes (Elt Ideal) f (⟨rect7 hd, P hd⟩ :: L)) (ix3 hd r l) = P hd (ix3 0 r l) :=
    fun hd L => View.read_writes_cons_unit_of_mem (s := S4x512x128) a.view f (off := ![hd.val, 0, 0])
      (off' := ![hd.val, 0, 0]) (size := S1x512x128.size) (inb7 hd) (P hd) L (ix3 hd r l) (ix3 0 r l) rfl
      (fun a => match a with
        | ⟨0, _⟩ => (Nat.add_zero _).symm
        | ⟨1, _⟩ => (Nat.zero_add _).symm
        | ⟨2, _⟩ => (Nat.zero_add _).symm)
  have miss : ∀ (hd : Fin 4) (L : List (View.Piece (Elt Ideal) S4x512x128 .f32)), h ≠ hd →
      a.view.read (Elt Ideal) (a.view.writes (Elt Ideal) f (⟨rect7 hd, P hd⟩ :: L)) (ix3 h r l)
        = a.view.read (Elt Ideal) (a.view.writes (Elt Ideal) f L) (ix3 h r l) :=
    fun hd L hne => View.read_writes_cons_unit_of_not_mem (s := S4x512x128) a.view f (off := ![hd.val, 0, 0])
      (off' := ![hd.val, 0, 0]) (size := S1x512x128.size) (inb7 hd) (P hd) L (ix3 h r l) rfl (0 : Fin 3)
      (by have : h.val ≠ hd.val := fun e => hne (Fin.ext e)
          show h.val < hd.val ∨ hd.val + 1 ≤ h.val
          omega)
  unfold heads7
  simp only [List.cons_append, List.nil_append]
  fin_cases h
  · exact (miss 3 _ (by decide)).trans ((miss 2 _ (by decide)).trans ((miss 1 _ (by decide)).trans (hit 0 _)))
  · exact (miss 3 _ (by decide)).trans ((miss 2 _ (by decide)).trans (hit 1 _))
  · exact (miss 3 _ (by decide)).trans (hit 2 _)
  · exact hit 3 _

/-- Reading a head's slice back gives what was stored last. -/
theorem read_heads8 (a : Memref sig .tc .vmem S4x512x256 .f32) (f : BufTy.Contents (Elt Ideal) a.view.ty)
    (P : Fin 4 → Vec Ideal S1x512x256 .f32) (L : List (View.Piece (Elt Ideal) S4x512x256 .f32)) (h : Fin 4)
    (r : Fin 512) (l : Fin 256) :
    a.view.read (Elt Ideal) (a.view.writes (Elt Ideal) f (heads8 P ++ L)) (ix3 h r l) = P h (ix3 0 r l) := by
  have hit : ∀ (hd : Fin 4) (L : List (View.Piece (Elt Ideal) S4x512x256 .f32)),
      a.view.read (Elt Ideal) (a.view.writes (Elt Ideal) f (⟨rect8 hd, P hd⟩ :: L)) (ix3 hd r l) = P hd (ix3 0 r l) :=
    fun hd L => View.read_writes_cons_unit_of_mem (s := S4x512x256) a.view f (off := ![hd.val, 0, 0])
      (off' := ![hd.val, 0, 0]) (size := S1x512x256.size) (inb8 hd) (P hd) L (ix3 hd r l) (ix3 0 r l) rfl
      (fun a => match a with
        | ⟨0, _⟩ => (Nat.add_zero _).symm
        | ⟨1, _⟩ => (Nat.zero_add _).symm
        | ⟨2, _⟩ => (Nat.zero_add _).symm)
  have miss : ∀ (hd : Fin 4) (L : List (View.Piece (Elt Ideal) S4x512x256 .f32)), h ≠ hd →
      a.view.read (Elt Ideal) (a.view.writes (Elt Ideal) f (⟨rect8 hd, P hd⟩ :: L)) (ix3 h r l)
        = a.view.read (Elt Ideal) (a.view.writes (Elt Ideal) f L) (ix3 h r l) :=
    fun hd L hne => View.read_writes_cons_unit_of_not_mem (s := S4x512x256) a.view f (off := ![hd.val, 0, 0])
      (off' := ![hd.val, 0, 0]) (size := S1x512x256.size) (inb8 hd) (P hd) L (ix3 h r l) rfl (0 : Fin 3)
      (by have : h.val ≠ hd.val := fun e => hne (Fin.ext e)
          show h.val < hd.val ∨ hd.val + 1 ≤ h.val
          omega)
  unfold heads8
  simp only [List.cons_append, List.nil_append]
  fin_cases h
  · exact (miss 3 _ (by decide)).trans ((miss 2 _ (by decide)).trans ((miss 1 _ (by decide)).trans (hit 0 _)))
  · exact (miss 3 _ (by decide)).trans ((miss 2 _ (by decide)).trans (hit 1 _))
  · exact (miss 3 _ (by decide)).trans (hit 2 _)
  · exact hit 3 _

/-! The loop's bounds, its branch, the mask and the offsets of a trip. -/

/-- The number of trips: one more than the query tile. -/
theorem trips_eq (i : grid0.Coords) : (k0_t1_loop i).trips = (i 2).val + 1 := by
  have : ∀ n : Fin 4, ∀ i : grid0.Coords, i 2 = n → (k0_t1_loop i).trips = n.val + 1 := by
    intro n i hi
    simp only [k0_t1_loop, hi]
    clear hi; revert n; decide +kernel
  exact this _ i rfl

/-- The second loop makes no trip. -/
theorem trips2_eq (i : grid0.Coords) : (k0_t2_loop i).trips = 0 := by
  have : ∀ n : Fin 4, ∀ i : grid0.Coords, i 2 = n → (k0_t2_loop i).trips = 0 := by
    intro n i hi
    simp only [k0_t2_loop, hi]
    clear hi; revert n; decide +kernel
  exact this _ i rfl

/-- The unmasked branch is taken exactly on the trips before the last. -/
theorem cond_iff (i : grid0.Coords) (k : Fin (k0_t1_loop i).trips) : k0_cond1 i k = 1#1 ↔ k.val < (i 2).val := by
  have hk : k.val < 4 := lt_of_lt_of_le k.isLt (k0_t1_abs i).2.1
  unfold k0_cond1
  have : ∀ n k : Fin 4, (Scalar.cmpi .ne (Scalar.extui (Scalar.cmpi .sle (Scalar.subi (Scalar.addi (Scalar.muli (Scf.iv 0#32 1#32 k.val) 512#32) 512#32) 1#32) (Scalar.muli (BitVec.ofNat 32 n.val) 512#32)) : BitVec 32) 0#32) = 1#1 ↔ k.val < n.val := by
    decide +kernel
  exact this (i 2) ⟨k.val, hk⟩

/-- A trip's first key row, as a number. -/
theorem row_eq (k : ℕ) (hk : k < 4) :
    (Scalar.indexCast (Scalar.muli (Scf.iv 0#32 1#32 k) 512#32) : Index).toNat = 512 * k := by
  have : ∀ k : Fin 4, (Scalar.indexCast (Scalar.muli (Scf.iv 0#32 1#32 k.val) 512#32) : Index).toNat = 512 * k.val := by
    decide +kernel
  exact this ⟨k, hk⟩

/-- The mask of the block on the diagonal: key `c` of the block is seen by query `r` of the block when `c ≤ r`. -/
theorem mask_eq (n : Fin 4) (r c : Fin 512) :
    k0_pay46 (Scalar.muli (BitVec.ofNat 32 n.val) 512#32) (k0_pay187 512#32 k0_pay184 k0_pay185 k0_pay186)
      (Scf.iv 0#32 1#32 n.val) (ix2 r c) = 1#1 ↔ c.val ≤ r.val := by
  have h0 : ∀ n : Fin 4, Scalar.subi (0#32) (Scalar.subi (Scalar.muli (BitVec.ofNat 32 n.val) 512#32)
      (Scalar.muli (Scf.iv 0#32 1#32 n.val) 512#32)) = 0#32 := by decide +kernel
  pointwise [k0_pay46, k0_pay187, k0_pay184, k0_pay185, k0_pay186]
  rw [h0]
  have h1 : ∀ r : Fin 512, IntOp.remsi ArithUnit.vector (BitVec.ofNat 32 r.val)
      (Scalar.select (Scalar.cmpi CmpIPredicate.eq 512#32 0#32) 1#32 512#32) = BitVec.ofNat 32 r.val := by decide +kernel
  have h2 : ∀ r : Fin 512, IntOp.andi (IntOp.xori (IntOp.cmpi CmpIPredicate.slt (BitVec.ofNat 32 r.val) 0#32)
      (Scalar.cmpi CmpIPredicate.slt (Scalar.select (Scalar.cmpi CmpIPredicate.eq 512#32 0#32) 1#32 512#32) 0#32))
      (IntOp.cmpi CmpIPredicate.ne (BitVec.ofNat 32 r.val) 0#32) = 0#1 := by decide +kernel
  rw [h1, h2]
  rw [Scalar.select, if_neg (by decide), WordCmp.cmpi_sge_zero]
  have hr := r.isLt
  have hc := c.isLt
  simp only [IntOp.subi, BitVec.toNat_sub, BitVec.toNat_ofNat]
  by_cases h : c.val ≤ r.val
  · rw [decide_eq_true (by omega)]; simp [h]
  · rw [decide_eq_false (by omega)]; simp [h]

end Cert.KernelIdeal.Attn
end
end
-- ==== Proof.Loop.lean ====
module
public import proofs.«01_k».proof.Proof.Trip
@[expose] public section
set_option maxRecDepth 16384
noncomputable section
open Idealize.ShloMosaic Idealize.ShloMosaic.TcCoe Idealize.SL.Sem

/-! The loop over the key blocks at the ideal values: after `k` trips the scratch arrays hold the largest score
and the weighted sums over the first `512 k` keys. -/
namespace Cert.KernelIdeal.Attn
open Cert.KernelIdeal Cert.KernelIdeal.Gen Cert.Softmax

/-- A 512-row tile of a key or value window, read at an index. -/
theorem ld_tile (X : Vec Ideal S2048x1024 .bf16) (w a b : ℕ) (off : Fin 2 → ℕ)
    (inb : ∀ x, off x + (![512, w] : Fin 2 → ℕ) x ≤ S2048x1024.size x) (h : off = ![a, b]) (c : Fin 512) (x : Fin w)
    (ha : a + c.val < 2048) (hb : b + x.val < 1024) :
    View.ld X (Rect.unit off ![512, w] inb) (ix2 c x) = X (ix2 ⟨a + c.val, ha⟩ ⟨b + x.val, hb⟩) := by
  subst h
  rw [View.ld_apply]
  refine congrArg X (funext fun d => Fin.ext ?_)
  match d with
  | ⟨0, _⟩ => show a + 1 * c.val = a + c.val; omega
  | ⟨1, _⟩ => show b + 1 * x.val = b + x.val; omega

/-- A trip's first key row. -/
theorem off_eq (k b : ℕ) (hk : k < 4) :
    (![(Scalar.indexCast (Scalar.muli (Scf.iv 0#32 1#32 k) 512#32) : Index).toNat, b] : Fin 2 → ℕ) = ![512 * k, b] := by
  rw [row_eq k hk]

section
variable (i : grid0.Coords) (k : Fin (k0_t1_loop i).trips)

/-- The loop makes at most four trips. -/
theorem k_lt : k.val < 4 := lt_of_lt_of_le k.isLt (k0_t1_abs i).2.1

/-- The unmasked trip's key tile, entry by entry. -/
theorem kF_at (h : k0_cond1 i k = 1#1) (X : Vec Ideal S2048x1024 .bf16) (hd : Fin 4) (c : Fin 512) (x : Fin 256) :
    kF (F := Ideal) i k h X hd (ix2 c x)
      = X (ix2 ⟨512 * k.val + c.val, by have := k_lt i k; omega⟩ ⟨256 * hd.val + x.val, by omega⟩) := by
  have hk := k_lt i k
  fin_cases hd
  · exact ld_tile X 256 (512 * k.val) 0 _ (k0_off1_inb i k h) (off_eq k.val 0 hk) c x (by omega) (by omega)
  · exact ld_tile X 256 (512 * k.val) 256 _ (k0_off3_inb i k h) (off_eq k.val 256 hk) c x (by omega) (by omega)
  · exact ld_tile X 256 (512 * k.val) 512 _ (k0_off5_inb i k h) (off_eq k.val 512 hk) c x (by omega) (by omega)
  · exact ld_tile X 256 (512 * k.val) 768 _ (k0_off7_inb i k h) (off_eq k.val 768 hk) c x (by omega) (by omega)

/-- The unmasked trip's value tile, entry by entry. -/
theorem vF_at (h : k0_cond1 i k = 1#1) (X : Vec Ideal S2048x1024 .bf16) (hd : Fin 4) (c : Fin 512) (x : Fin 128) :
    vF (F := Ideal) i k h X hd (ix2 c x)
      = X (ix2 ⟨512 * k.val + c.val, by have := k_lt i k; omega⟩ ⟨256 * hd.val + 128 + x.val, by omega⟩) := by
  have hk := k_lt i k
  fin_cases hd
  · exact ld_tile X 128 (512 * k.val) 128 _ (k0_off2_inb i k h) (off_eq k.val 128 hk) c x (by omega) (by omega)
  · exact ld_tile X 128 (512 * k.val) 384 _ (k0_off4_inb i k h) (off_eq k.val 384 hk) c x (by omega) (by omega)
  · exact ld_tile X 128 (512 * k.val) 640 _ (k0_off6_inb i k h) (off_eq k.val 640 hk) c x (by omega) (by omega)
  · exact ld_tile X 128 (512 * k.val) 896 _ (k0_off8_inb i k h) (off_eq k.val 896 hk) c x (by omega) (by omega)

/-- The masked trip's key tile, entry by entry. -/
theorem kM_at (h : ¬k0_cond1 i k = 1#1) (X : Vec Ideal S2048x1024 .bf16) (hd : Fin 4) (c : Fin 512) (x : Fin 256) :
    kM (F := Ideal) i k h X hd (ix2 c x)
      = X (ix2 ⟨512 * k.val + c.val, by have := k_lt i k; omega⟩ ⟨256 * hd.val + x.val, by omega⟩) := by
  have hk := k_lt i k
  fin_cases hd
  · exact ld_tile X 256 (512 * k.val) 0 _ (k0_off9_inb i k h) (off_eq k.val 0 hk) c x (by omega) (by omega)
  · exact ld_tile X 256 (512 * k.val) 256 _ (k0_off11_inb i k h) (off_eq k.val 256 hk) c x (by omega) (by omega)
  · exact ld_tile X 256 (512 * k.val) 512 _ (k0_off13_inb i k h) (off_eq k.val 512 hk) c x (by omega) (by omega)
  · exact ld_tile X 256 (512 * k.val) 768 _ (k0_off15_inb i k h) (off_eq k.val 768 hk) c x (by omega) (by omega)

/-- The masked trip's value tile, entry by entry. -/
theorem vM_at (h : ¬k0_cond1 i k = 1#1) (X : Vec Ideal S2048x1024 .bf16) (hd : Fin 4) (c : Fin 512) (x : Fin 128) :
    vM (F := Ideal) i k h X hd (ix2 c x)
      = X (ix2 ⟨512 * k.val + c.val, by have := k_lt i k; omega⟩ ⟨256 * hd.val + 128 + x.val, by omega⟩) := by
  have hk := k_lt i k
  fin_cases hd
  · exact ld_tile X 128 (512 * k.val) 128 _ (k0_off10_inb i k h) (off_eq k.val 128 hk) c x (by omega) (by omega)
  · exact ld_tile X 128 (512 * k.val) 384 _ (k0_off12_inb i k h) (off_eq k.val 384 hk) c x (by omega) (by omega)
  · exact ld_tile X 128 (512 * k.val) 640 _ (k0_off14_inb i k h) (off_eq k.val 640 hk) c x (by omega) (by omega)
  · exact ld_tile X 128 (512 * k.val) 896 _ (k0_off16_inb i k h) (off_eq k.val 896 hk) c x (by omega) (by omega)
end

/-- What the windows hold, as numbers: `s hd r j` the score of query row `r` against key `j` in head `hd`, `w hd l j`
column `l` of that head's values (and 1 in the columns that sum the weights). -/
structure Holds (q : Fin 4 → FVec Ideal S512x256 .bf16) (x4 x5 : Vec Ideal S2048x1024 .bf16)
    (s : Fin 4 → Fin 512 → ℕ → ℝ) (w : Fin 4 → Fin 256 → ℕ → EReal) : Prop where
  score : ∀ (hd : Fin 4) (r : Fin 512) (j : Fin 2048),
    ∑ x : Fin 256, q hd (ix2 r x) * x4 (ix2 j ⟨256 * hd.val + x.val, by omega⟩) = ((s hd r j.val : ℝ) : EReal)
  value : ∀ (hd : Fin 4) (l : Fin 128) (j : Fin 2048),
    x5 (ix2 j ⟨256 * hd.val + 128 + l.val, by omega⟩) = (w hd ⟨l.val, by omega⟩ j.val)
  ones : ∀ (hd : Fin 4) (l : Fin 256) (j : ℕ), ¬l.val < 128 → w hd l j = 1

section
variable (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S512x512 .bf16) (harg6 : arg6.IsWhole) (arg7 : Memref sig .tc .vmem S4x512x128 .f32) (harg7 : arg7.IsWhole) (arg8 : Memref sig .tc .vmem S4x512x256 .f32) (harg8 : arg8.IsWhole) (q : Fin 4 → FVec Ideal S512x256 .bf16) (v69 : BitVec 32) (X4 : BufTy.Contents (Elt Ideal) arg4.view.ty) (X5 : BufTy.Contents (Elt Ideal) arg5.view.ty) (f7 : BufTy.Contents (Elt Ideal) arg7.view.ty) (f8 : BufTy.Contents (Elt Ideal) arg8.view.ty) (s : Fin 4 → Fin 512 → ℕ → ℝ) (w : Fin 4 → Fin 256 → ℕ → EReal)

/-- The pieces of the trips before `k`. -/
abbrev pieces (k : ℕ) := pb_k0_t1 (F := Ideal) Variants.none c none i arg3 harg3 arg4 harg4 arg5 harg5 arg6 harg6 arg7 harg7 arg8 harg8
  (Scalar.muli (BitVec.ofNat 32 (i 2).val) 512#32) (q 0) (q 1) (q 2) (q 3)
  (k0_pay187 512#32 k0_pay184 k0_pay185 k0_pay186) k0_pay188 0#32 v69 X4 X5 f7 f8 k

/-- The lanes beside the values hold ones. -/
theorem ones_at (x : Fin 512) (l : Fin 128) : k0_pay188 (F := Ideal) (ix2 x l) = 1 := by
  pointwise [k0_pay188]

/-- The filling of a masked score reads minus infinity. -/
theorem mask_bot : Named.named (F := Ideal) κ "mask" (φ := .f32) 0xF149F2CA#32 = ⊥ := by
  rfl

/-- The scores of a trip, masked where the block is on the diagonal, are the scores as the query sees them. -/
theorem score_full (H : Holds q (arg4.view.read (Elt Ideal) X4) (arg5.view.read (Elt Ideal) X5) s w)
    (k : Fin (k0_t1_loop i).trips) (h : k0_cond1 i k = 1#1) (hd : Fin 4) (r x : Fin 512) :
    score (F := Ideal) (q hd) (kF i k h (arg4.view.read (Elt Ideal) X4) hd) (ix2 r x)
      = seen (s hd r) (512 * (i 2).val + r.val) (512 * k.val + x.val) := by
  have hk := k_lt i k
  have hlt := (cond_iff i k).1 h
  rw [seen, if_pos (by omega), ← H.score hd r ⟨512 * k.val + x.val, by omega⟩]
  pointwise [score]
  simp only [kF_at]

/-- The masked trip's scores: those of the keys up to the query, and minus infinity after it. -/
theorem score_mask (H : Holds q (arg4.view.read (Elt Ideal) X4) (arg5.view.read (Elt Ideal) X5) s w)
    (k : Fin (k0_t1_loop i).trips) (h : ¬k0_cond1 i k = 1#1) (hd : Fin 4) (r x : Fin 512) :
    scoreM (F := Ideal) (Scalar.muli (BitVec.ofNat 32 (i 2).val) 512#32) (k0_pay187 512#32 k0_pay184 k0_pay185 k0_pay186)
        (Scf.iv 0#32 1#32 k) (q hd) (kM i k h (arg4.view.read (Elt Ideal) X4) hd) (ix2 r x)
      = seen (s hd r) (512 * (i 2).val + r.val) (512 * k.val + x.val) := by
  have hk := k_lt i k
  have hlt := mt (cond_iff i k).2 h
  have hki : k.val = (i 2).val := by have := k.isLt; have := trips_eq i; omega
  have hm := mask_eq (i 2) r x
  rw [← hki] at hm
  show (if k0_pay46 _ _ _ (ix2 r x) = 1#1 then score (F := Ideal) (q hd) (kM i k h (arg4.view.read (Elt Ideal) X4) hd) (ix2 r x)
    else Named.named (F := Ideal) κ "mask" (φ := .f32) 0xF149F2CA#32) = _
  rw [← hki, mask_bot, seen]
  refine if_congr (hm.trans (by omega)) ?_ rfl
  rw [← H.score hd r ⟨512 * k.val + x.val, by omega⟩]
  pointwise [score]
  simp only [kM_at]

/-- After each trip the scratch buffers hold the running maximum and the running sums over the keys seen so far. -/
theorem loop_inv (H : Holds q (arg4.view.read (Elt Ideal) X4) (arg5.view.read (Elt Ideal) X5) s w)
    (h7 : ∀ hd r l, arg7.view.read (Elt Ideal) f7 (ix3 hd r l) = ⊥)
    (h8 : ∀ hd r l, arg8.view.read (Elt Ideal) f8 (ix3 hd r l) = 0) (k : ℕ) (hk : k ≤ (k0_t1_loop i).trips) :
    (∀ hd r l, arg7.view.read (Elt Ideal) (arg7.view.writes (Elt Ideal) f7 (pieces c i arg3 harg3 arg4 harg4 arg5 harg5 arg6 harg6 arg7 harg7 arg8 harg8 q v69 X4 X5 f7 f8 k).1) (ix3 hd r l)
        = top (s hd r) (512 * (i 2).val + r.val) (512 * k))
    ∧ (∀ hd r l, arg8.view.read (Elt Ideal) (arg8.view.writes (Elt Ideal) f8 (pieces c i arg3 harg3 arg4 harg4 arg5 harg5 arg6 harg6 arg7 harg7 arg8 harg8 q v69 X4 X5 f7 f8 k).2) (ix3 hd r l)
        = (acc (s hd r) (w hd l) (512 * (i 2).val + r.val) (512 * k))) := by
  induction k with
  | zero =>
    refine ⟨fun hd r l => ?_, fun hd r l => ?_⟩
    · rw [Nat.mul_zero, top_zero]; exact h7 hd r l
    · rw [Nat.mul_zero, acc_zero]; exact h8 hd r l
  | succ k ih =>
    obtain ⟨ih7, ih8⟩ := ih (by omega)
    let kk : Fin (k0_t1_loop i).trips := ⟨k, hk⟩
    have hk4 : k < 4 := k_lt i kk
    have hs := pb_k0_t1_succ (F := Ideal) Variants.none c none i arg3 harg3 arg4 harg4 arg5 harg5 arg6 harg6 arg7 harg7 arg8 harg8
      (Scalar.muli (BitVec.ofNat 32 (i 2).val) 512#32) (q 0) (q 1) (q 2) (q 3)
      (k0_pay187 512#32 k0_pay184 k0_pay185 k0_pay186) k0_pay188 0#32 v69 X4 X5 f7 f8 kk
    have hs' : pieces c i arg3 harg3 arg4 harg4 arg5 harg5 arg6 harg6 arg7 harg7 arg8 harg8 q v69 X4 X5 f7 f8 (k + 1) = _ := hs
    rw [hs']
    have hld7 : ∀ hd r l, View.ld (arg7.view.read (Elt Ideal) (arg7.view.writes (Elt Ideal) f7 (pieces c i arg3 harg3 arg4 harg4 arg5 harg5 arg6 harg6 arg7 harg7 arg8 harg8 q v69 X4 X5 f7 f8 k).1)) (rect7 hd) (ix3 0 r l)
        = top (s hd r) (512 * (i 2).val + r.val) (512 * k) := by
      intro hd r l
      rw [View.ld_apply, ← ih7 hd r l]
      refine congrArg _ (funext fun d => Fin.ext ?_)
      match d with
      | ⟨0, _⟩ => show hd.val + 1 * 0 = hd.val; omega
      | ⟨1, _⟩ => show 0 + 1 * r.val = r.val; omega
      | ⟨2, _⟩ => show 0 + 1 * l.val = l.val; omega
    have hld8 : ∀ hd r l, View.ld (arg8.view.read (Elt Ideal) (arg8.view.writes (Elt Ideal) f8 (pieces c i arg3 harg3 arg4 harg4 arg5 harg5 arg6 harg6 arg7 harg7 arg8 harg8 q v69 X4 X5 f7 f8 k).2)) (rect8 hd) (ix3 0 r l)
        = (acc (s hd r) (w hd l) (512 * (i 2).val + r.val) (512 * k)) := by
      intro hd r l
      rw [View.ld_apply, ← ih8 hd r l]
      refine congrArg _ (funext fun d => Fin.ext ?_)
      match d with
      | ⟨0, _⟩ => show hd.val + 1 * 0 = hd.val; omega
      | ⟨1, _⟩ => show 0 + 1 * r.val = r.val; omega
      | ⟨2, _⟩ => show 0 + 1 * l.val = l.val; omega
    have e512 : 512 * (k + 1) = 512 * k + 512 := by omega
    rw [e512]
    by_cases h : k0_cond1 i kk = 1#1
    · simp only [tripL_k0_t1, dif_pos h]
      refine ⟨fun hd r l => ?_, fun hd r l => ?_⟩
      · rw [trip_full7 (F := Ideal) Variants.none c none i arg3 harg3 arg4 harg4 arg5 harg5 arg6 harg6 arg7 harg7 arg8 harg8, read_heads7]
        exact stepM_row _ _ _ _ _ _ _ (fun x => score_full i arg4 arg5 q X4 X5 s w H kk h hd r x) (hld7 hd r l)
      · rw [trip_full8 (F := Ideal) Variants.none c none i arg3 harg3 arg4 harg4 arg5 harg5 arg6 harg6 arg7 harg7 arg8 harg8, read_heads8]
        refine stepA_row _ _ _ _ _ (s hd r) (w hd l) _ _ _ _ (fun x => score_full i arg4 arg5 q X4 X5 s w H kk h hd r x) (hld7 hd r)
          (fun hl x => ?_) (fun hl x => ?_) (hld8 hd r l)
        · rw [vF_at]; exact H.value hd ⟨l.val, hl⟩ ⟨512 * k + x.val, by omega⟩
        · rw [ones_at, H.ones hd l _ hl]
    · simp only [tripL_k0_t1, dif_neg h]
      refine ⟨fun hd r l => ?_, fun hd r l => ?_⟩
      · rw [trip_mask7 (F := Ideal) Variants.none c none i arg3 harg3 arg4 harg4 arg5 harg5 arg6 harg6 arg7 harg7 arg8 harg8, read_heads7]
        exact stepM_row _ _ _ _ _ _ _ (fun x => score_mask i arg4 arg5 q X4 X5 s w H kk h hd r x) (hld7 hd r l)
      · rw [trip_mask8 (F := Ideal) Variants.none c none i arg3 harg3 arg4 harg4 arg5 harg5 arg6 harg6 arg7 harg7 arg8 harg8, read_heads8]
        refine stepA_row _ _ _ _ _ (s hd r) (w hd l) _ _ _ _ (fun x => score_mask i arg4 arg5 q X4 X5 s w H kk h hd r x) (hld7 hd r)
          (fun hl x => ?_) (fun hl x => ?_) (hld8 hd r l)
        · rw [vM_at]; exact H.value hd ⟨l.val, hl⟩ ⟨512 * k + x.val, by omega⟩
        · rw [ones_at, H.ones hd l _ hl]
end
end Cert.KernelIdeal.Attn
end
end
-- ==== Proof.Block.lean ====
module
public import proofs.«01_k».proof.Proof.Loop
@[expose] public section
set_option maxRecDepth 16384
noncomputable section
open Idealize.ShloMosaic Idealize.ShloMosaic.TcCoe Idealize.SL.Sem

/-! What one grid point leaves in the output block, at the ideal values. -/
namespace Cert.KernelIdeal.Attn
open Cert.KernelIdeal Cert.KernelIdeal.Gen Cert.Softmax

section
variable {F : FTy → Type} [FloatOps F] [Named F]

/-- The queries of the four heads, out of the block of queries. -/
def qv (x : Vec F S512x1024 .bf16) : Fin 4 → FVec F S512x256 .bf16 :=
  ![k0_pay180 (View.ld x (Rect.unit ![0, 0] S512x128.size inb_S512x1024_S512x128_0_0)) (View.ld x (Rect.unit ![0, 128] S512x128.size inb_S512x1024_S512x128_0_128)),
    k0_pay180 (View.ld x (Rect.unit ![0, 256] S512x128.size inb_S512x1024_S512x128_0_256)) (View.ld x (Rect.unit ![0, 384] S512x128.size inb_S512x1024_S512x128_0_384)),
    k0_pay180 (View.ld x (Rect.unit ![0, 512] S512x128.size inb_S512x1024_S512x128_0_512)) (View.ld x (Rect.unit ![0, 640] S512x128.size inb_S512x1024_S512x128_0_640)),
    k0_pay180 (View.ld x (Rect.unit ![0, 768] S512x128.size inb_S512x1024_S512x128_0_768)) (View.ld x (Rect.unit ![0, 896] S512x128.size inb_S512x1024_S512x128_0_896))]

/-- A head's 128 lanes lie inside the block's 512. -/
theorem inbO (h : Fin 4) : ∀ a, (![0, 128 * h.val] : Fin 2 → ℕ) a + S512x128.size a ≤ S512x512.size a := by
  revert h; decide

/-- A head's lanes of the result block. -/
abbrev rectO (h : Fin 4) : Rect S512x512 := Rect.unit ![0, 128 * h.val] S512x128.size (inbO h)

variable (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S512x512 .bf16) (harg6 : arg6.IsWhole) (arg7 : Memref sig .tc .vmem S4x512x128 .f32) (harg7 : arg7.IsWhole) (arg8 : Memref sig .tc .vmem S4x512x256 .f32) (harg8 : arg8.IsWhole)

/-- The contents the scratch arrays are filled with before the loop. -/
abbrev fill7 : BufTy.Contents (Elt F) arg7.view.ty := arg7.view.writes (Elt F) arg7.view.junk
  [⟨Rect.unit ![0, 0, 0] S4x512x128.size inb_S4x512x128_S4x512x128_0_0_0, k0_pay189⟩]
/-- The running sums before the loop. -/
abbrev fill8 : BufTy.Contents (Elt F) arg8.view.ty := arg8.view.writes (Elt F) arg8.view.junk
  [⟨Rect.unit ![0, 0, 0] S4x512x256.size inb_S4x512x256_S4x512x256_0_0_0, k0_pay190⟩]
end

variable (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S512x512 .bf16) (harg6 : arg6.IsWhole) (arg7 : Memref sig .tc .vmem S4x512x128 .f32) (harg7 : arg7.IsWhole) (arg8 : Memref sig .tc .vmem S4x512x256 .f32) (harg8 : arg8.IsWhole)
  (x0 : Vec Ideal S512x1024 .bf16) (x1 x2 : Vec Ideal S2048x1024 .bf16)

/-- The stores of the output block: head by head, the accumulator divided by the sum of the weights. -/
theorem run_pieces : ∃ (v69 : BitVec 32) (L : List (View.Piece (Elt Ideal) S4x512x256 .f32))
    (A : Fin 4 → Vec Ideal S1x512x256 .f32), L = [] ∧
    (A = fun hd => arg8.view.readCov (L ++
          ((pieces c i arg3 harg3 arg4 harg4 arg5 harg5 arg6 harg6 arg7 harg7 arg8 harg8
              (qv (arg3.view.read (Elt Ideal) (harg3.unread x0))) v69 (harg4.unread x1) (harg5.unread x2)
              (fill7 arg7) (fill8 arg8) (k0_t1_loop i).trips).2
            ++ [⟨Rect.unit ![0, 0, 0] S4x512x256.size inb_S4x512x256_S4x512x256_0_0_0, k0_pay190 (F := Ideal)⟩])) (rect8 hd).toLoadRect) ∧
    (kernelRun0_A (F := Ideal) c i arg3 harg3 arg4 harg4 arg5 harg5 arg6 harg6 arg7 harg7 arg8 harg8 x0 x1 x2).1
      = [⟨rectO 3, k0_pay203 (A 3)⟩, ⟨rectO 2, k0_pay203 (A 2)⟩, ⟨rectO 1, k0_pay203 (A 1)⟩, ⟨rectO 0, k0_pay203 (A 0)⟩] := by
  unfold kernelRun0_A
  dsimp only
  sl_unfold_words
  refine ⟨_, _, _, ?_, rfl, rfl⟩
  have h0 : Scf.trips (k0_t2_loop i).lb (k0_t2_loop i).ub (k0_t2_loop i).st = 0 := trips2_eq i
  rw [h0]
  rfl

/-- The start of the running maximum reads minus infinity. -/
theorem floor_bot : Named.named (F := Ideal) κ "floor" (φ := .f32) 0xEFA18F08#32 = ⊥ := by
  rfl

/-- Before the loop every running maximum is minus infinity. -/
theorem fill7_at (hd : Fin 4) (r : Fin 512) (l : Fin 128) :
    arg7.view.read (Elt Ideal) (fill7 (F := Ideal) arg7) (ix3 hd r l) = ⊥ := by
  refine (View.read_writes_cons_unit_of_mem (Val := Elt Ideal) (s := S4x512x128) arg7.view arg7.view.junk (off := ![0, 0, 0])
    (off' := ![0, 0, 0]) (size := S4x512x128.size) inb_S4x512x128_S4x512x128_0_0_0 (k0_pay189 (F := Ideal)) []
    (ix3 hd r l) (ix3 hd r l) rfl (fun a => match a with
      | ⟨0, _⟩ => (Nat.zero_add _).symm
      | ⟨1, _⟩ => (Nat.zero_add _).symm
      | ⟨2, _⟩ => (Nat.zero_add _).symm)).trans ?_
  pointwise [k0_pay189]
  exact floor_bot

/-- Before the loop every running sum is zero. -/
theorem fill8_at (hd : Fin 4) (r : Fin 512) (l : Fin 256) :
    arg8.view.read (Elt Ideal) (fill8 (F := Ideal) arg8) (ix3 hd r l) = 0 := by
  refine (View.read_writes_cons_unit_of_mem (Val := Elt Ideal) (s := S4x512x256) arg8.view arg8.view.junk (off := ![0, 0, 0])
    (off' := ![0, 0, 0]) (size := S4x512x256.size) inb_S4x512x256_S4x512x256_0_0_0 (k0_pay190 (F := Ideal)) []
    (ix3 hd r l) (ix3 hd r l) rfl (fun a => match a with
      | ⟨0, _⟩ => (Nat.zero_add _).symm
      | ⟨1, _⟩ => (Nat.zero_add _).symm
      | ⟨2, _⟩ => (Nat.zero_add _).symm)).trans ?_
  pointwise [k0_pay190]

/-- A head's columns of the output block, read back. -/
theorem read_out (P : Fin 4 → Vec Ideal S512x128 .bf16) (f : BufTy.Contents (Elt Ideal) VO0_3.ty) (h : Fin 4) (r : Fin 512) (l : Fin 128) :
    VO0_3.read (Elt Ideal) (VO0_3.writes (Elt Ideal) f [⟨rectO 3, P 3⟩, ⟨rectO 2, P 2⟩, ⟨rectO 1, P 1⟩, ⟨rectO 0, P 0⟩])
      (ix2 r ⟨128 * h.val + l.val, by omega⟩) = P h (ix2 r l) := by
  have hit : ∀ (hd : Fin 4) (L : List (View.Piece (Elt Ideal) S512x512 .bf16)),
      VO0_3.read (Elt Ideal) (VO0_3.writes (Elt Ideal) f (⟨rectO hd, P hd⟩ :: L)) (ix2 r ⟨128 * hd.val + l.val, by omega⟩)
        = P hd (ix2 r l) :=
    fun hd L => View.read_writes_cons_unit_of_mem (s := S512x512) VO0_3 f (off := ![0, 128 * hd.val])
      (off' := ![0, 128 * hd.val]) (size := S512x128.size) (inbO hd) (P hd) L _ (ix2 r l) rfl
      (fun a => match a with
        | ⟨0, _⟩ => (Nat.zero_add _).symm
        | ⟨1, _⟩ => rfl)
  have miss : ∀ (hd : Fin 4) (L : List (View.Piece (Elt Ideal) S512x512 .bf16)), h ≠ hd →
      VO0_3.read (Elt Ideal) (VO0_3.writes (Elt Ideal) f (⟨rectO hd, P hd⟩ :: L)) (ix2 r ⟨128 * h.val + l.val, by omega⟩)
        = VO0_3.read (Elt Ideal) (VO0_3.writes (Elt Ideal) f L) (ix2 r ⟨128 * h.val + l.val, by omega⟩) :=
    fun hd L hne => View.read_writes_cons_unit_of_not_mem (s := S512x512) VO0_3 f (off := ![0, 128 * hd.val])
      (off' := ![0, 128 * hd.val]) (size := S512x128.size) (inbO hd) (P hd) L _ rfl (1 : Fin 2)
      (by have : h.val ≠ hd.val := fun e => hne (Fin.ext e)
          show 128 * h.val + l.val < 128 * hd.val ∨ 128 * hd.val + 128 ≤ 128 * h.val + l.val
          omega)
  fin_cases h
  · exact (miss 3 _ (by decide)).trans ((miss 2 _ (by decide)).trans ((miss 1 _ (by decide)).trans (hit 0 _)))
  · exact (miss 3 _ (by decide)).trans ((miss 2 _ (by decide)).trans (hit 1 _))
  · exact (miss 3 _ (by decide)).trans (hit 2 _)
  · exact hit 3 _

/-- The value of one row of attention: the weighted sum of the column over the sum of the weights. -/
def rowVal (s : ℕ → ℝ) (w : ℕ → EReal) (t : ℕ) : EReal :=
  Ideal.div (acc s w t 2048)
    (max (acc s (fun _ => 1) t 2048) (Ideal.ofBits .f32 0x0DA24260#32))

/-- What a grid point leaves in its block: for each head and row, the running weighted sum over the running sum of weights. -/
theorem block_value (s : Fin 4 → Fin 512 → ℕ → ℝ) (w : Fin 4 → Fin 256 → ℕ → EReal) (H : Holds (qv x0) x1 x2 s w)
    (hd : Fin 4) (r : Fin 512) (l : Fin 128) :
    out0_A_3 (F := Ideal) c i arg3 harg3 arg4 harg4 arg5 harg5 arg6 harg6 arg7 harg7 arg8 harg8 x0 x1 x2
        (ix2 r ⟨128 * hd.val + l.val, by omega⟩)
      = rowVal (s hd r) (w hd ⟨l.val, by omega⟩) (512 * (i 2).val + r.val) := by
  obtain ⟨v69, L, A, hL, hA, hp⟩ := run_pieces c i arg3 harg3 arg4 harg4 arg5 harg5 arg6 harg6 arg7 harg7 arg8 harg8 x0 x1 x2
  subst hL
  unfold out0_A_3
  rw [hp, read_out (fun hd => k0_pay203 (F := Ideal) (A hd))]
  have H' : Holds (qv (arg3.view.read (Elt Ideal) (harg3.unread x0))) (arg4.view.read (Elt Ideal) (harg4.unread x1))
      (arg5.view.read (Elt Ideal) (harg5.unread x2)) s w := by
    rw [harg3.read_unread, harg4.read_unread, harg5.read_unread]; exact H
  have inv := (loop_inv c i arg3 harg3 arg4 harg4 arg5 harg5 arg6 harg6 arg7 harg7 arg8 harg8 _ v69 _ _ (fill7 arg7) (fill8 arg8) s w H'
    (fill7_at arg7) (fill8_at arg8) (k0_t1_loop i).trips le_rfl).2
  have hi : (i 2).val < 4 := (i 2).isLt
  have hN : 512 * (i 2).val + r.val < 512 * (k0_t1_loop i).trips := by rw [trips_eq]; omega
  have hA' : ∀ (y : Fin 256), A hd (ix3 0 r y)
      = (acc (s hd r) (w hd y) (512 * (i 2).val + r.val) 2048) := by
    intro y
    rw [hA, acc_stable _ _ _ 2048 _ (by omega) hN, ← inv hd r y, List.nil_append]
    show arg8.view.read (Elt Ideal) (arg8.view.writes (Elt Ideal) arg8.view.junk (_ ++ _)) _ = _
    rw [View.writes_append]
    refine congrArg _ (funext fun d => Fin.ext ?_)
    match d with
    | ⟨0, _⟩ => show hd.val + 1 * 0 = hd.val; omega
    | ⟨1, _⟩ => show 0 + 1 * r.val = r.val; omega
    | ⟨2, _⟩ => show 0 + 1 * y.val = y.val; omega
  have h1 : w hd ⟨128 + l.val, by omega⟩ = fun _ => 1 := funext fun j => H.ones hd _ j (by simp)
  pointwise [k0_pay203]
  rw [hA', hA', h1]
  rfl
end Cert.KernelIdeal.Attn
end
end
-- ==== Proof.Array.lean ====
module

public import proofs.«01_k».proof.Proof.Block
public import proofs.«01_k».proof.Proof.Gen.KernelIdeal.Value
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
open Idealize.ShloMosaic.Pipeline (Dat)

namespace Cert.KernelIdeal.Attn

open Cert.KernelIdeal Cert.KernelIdeal.Gen Cert.Softmax

/-! The final array, from the arguments: the host's padding, scaling and reshaping read entry by entry, then every block. -/

/-- What the program hands the kernel for an array of 192 lanes per head: each head filled up to 256 lanes with zeros, heads side by side. -/
def padArr (X : FVec Ideal S4x2048x16x192 .f32) : FVec Ideal S8192x4096 .bf16 :=
  truncf .bf16 (shapeCast S8192x4096 (pad S4x2048x16x256 ![0, 0, 0, 0] ![0, 0, 0, 64] ![0, 0, 0, 0] X
    (sitofp (F := Ideal) .f32 (constantI S_ 32 0#32)) pads_S4x2048x16x192_S4x2048x16x256_000_000_000_0640 h_S_)
    shapeCasts_S4x2048x16x256_S8192x4096) bitsLt_bf16_f32

/-- An entry of the padded array in the first 192 lanes of a head: the argument's entry. -/
theorem padArr_lo (X : FVec Ideal S4x2048x16x192 .f32) (r : Fin 8192) (j : Fin 4096) (h : j.val % 256 < 192) :
    padArr X (ix2 r j) = X (ix4 ⟨r.val / 2048, by omega⟩ ⟨r.val % 2048, by omega⟩ ⟨j.val / 256, by omega⟩ ⟨j.val % 256, h⟩) := by
  pointwise [padArr]
  exact dif_pos ⟨by omega, by omega, by omega, h⟩

/-- An entry of the padded array in the last 64 lanes of a head: zero. -/
theorem padArr_hi (X : FVec Ideal S4x2048x16x192 .f32) (r : Fin 8192) (j : Fin 4096) (h : ¬j.val % 256 < 192) :
    padArr X (ix2 r j) = (0 : EReal) := by
  pointwise [padArr]
  have hz : FloatOps.sitofp (F := Ideal) FTy.f32 0#32 = (0 : EReal) := by
    show ((((0#32 : BitVec 32).toInt : ℤ) : ℝ) : EReal) = 0
    simp
  exact (dif_neg fun h' => h h'.2.2.2).trans hz

/-- The four heads' queries, entry by entry: the block of queries itself. -/
theorem qv_at (x : Vec Ideal S512x1024 .bf16) (hd : Fin 4) (r : Fin 512) (l : Fin 256) :
    qv x hd (ix2 r l) = x (ix2 r ⟨256 * hd.val + l.val, by omega⟩) := by
  match hd with
  | 0 =>
    show k0_pay180 _ _ (ix2 r l) = _
    pointwise [k0_pay180]
    split <;> exact congrArg x (congrArg (ix2 r) (Fin.ext (by first | (show _ = _ + _; simp only [Fin.val_zero, Fin.val_one, Fin.val_two]; omega) | (simp; omega) | simp)))
  | 1 =>
    show k0_pay180 _ _ (ix2 r l) = _
    pointwise [k0_pay180]
    split <;> exact congrArg x (congrArg (ix2 r) (Fin.ext (by first | (show _ = _ + _; simp only [Fin.val_zero, Fin.val_one, Fin.val_two]; omega) | (simp; omega) | simp)))
  | 2 =>
    show k0_pay180 _ _ (ix2 r l) = _
    pointwise [k0_pay180]
    split <;> exact congrArg x (congrArg (ix2 r) (Fin.ext (by first | (show _ = _ + _; simp only [Fin.val_zero, Fin.val_one, Fin.val_two]; omega) | (simp; omega) | simp)))
  | 3 =>
    show k0_pay180 _ _ (ix2 r l) = _
    pointwise [k0_pay180]
    split <;> exact congrArg x (congrArg (ix2 r) (Fin.ext (by first | (show _ = _ + _; simp only [Fin.val_zero, Fin.val_one, Fin.val_two]; omega) | (simp; omega) | simp)))

variable (m : (ℓ : Loc nD τ sig) → Buf (Elt Ideal) ℓ)

/-- The kernel's queries: the argument times the scale, padded. -/
theorem entry_q (c : Dev nD) : (V m c main_v4 : FVec Ideal S8192x4096 .bf16)
    = padArr (mulf (m ((c : Thread nD τ).loc main_arg0)) (broadcastInDim S4x2048x16x192 ![] bcast_S_S4x2048x16x192 (constant S_ .f32 0x3D93CD3A#32))) := by
  simp only [V, hostOps0, hostOps0_1, hostOps0_2, hostOps0_3, hostOps0_4, List.flatten_cons, List.flatten_nil, List.append_nil, List.cons_append, List.nil_append]
  entry_read
  rfl

/-- The kernel's keys: the argument, padded. -/
theorem entry_k (c : Dev nD) : (V m c main_v7 : FVec Ideal S8192x4096 .bf16) = padArr (m ((c : Thread nD τ).loc main_arg1)) := by
  simp only [V, hostOps0, hostOps0_1, hostOps0_2, hostOps0_3, hostOps0_4, List.flatten_cons, List.flatten_nil, List.append_nil, List.cons_append, List.nil_append]
  entry_read
  rfl

/-- The kernel's up-projected array, whose second 128 lanes per head are the values: the argument, reshaped. -/
theorem entry_v (c : Dev nD) (r : Fin 8192) (j : Fin 4096) :
    (V m c main_v9 : FVec Ideal S8192x4096 .bf16) (ix2 r j)
      = m ((c : Thread nD τ).loc main_arg2) (ix4 ⟨r.val / 2048, by omega⟩ ⟨r.val % 2048, by omega⟩ ⟨j.val / 256, by omega⟩ ⟨j.val % 256, by omega⟩) := by
  simp only [V, hostOps0, hostOps0_1, hostOps0_2, hostOps0_3, hostOps0_4, List.flatten_cons, List.flatten_nil, List.append_nil, List.cons_append, List.nil_append]
  entry_read
  pointwise

/-- Where each grid point's blocks lie. -/
theorem idx : ∀ t : Fin cfg0.N,
    win0_0.index t = ![4 * (grid0.coords t 0).val + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![4 * (grid0.coords t 0).val + (grid0.coords t 2).val, (grid0.coords t 1).val] :=
  (by decide +kernel : ∀ t : Fin grid0.N, _)

/-- The grid is four by four by four. -/
theorem coords_lt (i : grid0.Coords) : (i 0).val < 4 ∧ (i 1).val < 4 ∧ (i 2).val < 4 := ⟨(i 0).isLt, (i 1).isLt, (i 2).isLt⟩

/-- The block of queries at a grid point, entry by entry. -/
theorem iblk0_at (c : Dev nD) (t : Fin cfg0.N) (i : grid0.Coords) (hi : i = grid0.coords t) (r : Fin 512) (j : Fin 1024) :
    (iblk m c 0 t : Vec Ideal S512x1024 .bf16) (ix2 r j) = (V m c main_v4 : FVec Ideal S8192x4096 .bf16)
      (ix2 ⟨2048 * (i 0).val + 512 * (i 2).val + r.val, by have := coords_lt i; omega⟩ ⟨1024 * (i 1).val + j.val, by have := coords_lt i; omega⟩) := by
  subst hi
  blk_simp [iblk]
  generalize V m c main_v4 = A
  blk_ext [idx t]
  all_goals omega

/-- The block of keys at a grid point, entry by entry. -/
theorem iblk1_at (c : Dev nD) (t : Fin cfg0.N) (i : grid0.Coords) (hi : i = grid0.coords t) (r : Fin 2048) (j : Fin 1024) :
    (iblk m c 1 t : Vec Ideal S2048x1024 .bf16) (ix2 r j) = (V m c main_v7 : FVec Ideal S8192x4096 .bf16)
      (ix2 ⟨2048 * (i 0).val + r.val, by have := coords_lt i; omega⟩ ⟨1024 * (i 1).val + j.val, by have := coords_lt i; omega⟩) := by
  subst hi
  blk_simp [iblk]
  generalize V m c main_v7 = A
  blk_ext [idx t]
  all_goals omega

/-- The block of values at a grid point, entry by entry. -/
theorem iblk2_at (c : Dev nD) (t : Fin cfg0.N) (i : grid0.Coords) (hi : i = grid0.coords t) (r : Fin 2048) (j : Fin 1024) :
    (iblk m c 2 t : Vec Ideal S2048x1024 .bf16) (ix2 r j) = (V m c main_v9 : FVec Ideal S8192x4096 .bf16)
      (ix2 ⟨2048 * (i 0).val + r.val, by have := coords_lt i; omega⟩ ⟨1024 * (i 1).val + j.val, by have := coords_lt i; omega⟩) := by
  subst hi
  blk_simp [iblk]
  generalize V m c main_v9 = A
  blk_ext [idx t]
  all_goals omega

/-- The scores of one query: its product with each key, times the scale. -/
def scoreR (q k : Fin 4 → Fin 2048 → Fin 16 → Fin 192 → ℝ) (c0 : ℝ) (b : Fin 4) (h : Fin 16) (t : Fin 2048) (j : ℕ) : ℝ :=
  if hj : j < 2048 then (∑ d, q b t h d * k b ⟨j, hj⟩ h d) * c0 else 0

/-- One lane of the values of a head, and 1 in the lanes that count. -/
def valueR (v : Fin 4 → Fin 2048 → Fin 16 → Fin 256 → EReal) (b : Fin 4) (h : Fin 16) (l : Fin 256) (j : ℕ) : EReal :=
  if hl : l.val < 128 then (if hj : j < 2048 then v b ⟨j, hj⟩ h ⟨128 + l.val, by omega⟩ else 0) else 1

/-- The attention's result, row by row. -/
def outR (q k : Fin 4 → Fin 2048 → Fin 16 → Fin 192 → ℝ) (v : Fin 4 → Fin 2048 → Fin 16 → Fin 256 → EReal) (c0 : ℝ)
    (r : Fin 8192) (j : Fin 2048) : EReal :=
  rowVal (scoreR q k c0 ⟨r.val / 2048, by omega⟩ ⟨j.val / 128, by omega⟩ ⟨r.val % 2048, by omega⟩)
    (valueR v ⟨r.val / 2048, by omega⟩ ⟨j.val / 128, by omega⟩ ⟨j.val % 128, by omega⟩) (r.val % 2048)

/-- The result at the row of a query and the lane of a head. -/
theorem outR_at (q k : Fin 4 → Fin 2048 → Fin 16 → Fin 192 → ℝ) (v : Fin 4 → Fin 2048 → Fin 16 → Fin 256 → EReal) (c0 : ℝ)
    (b : Fin 4) (t : Fin 2048) (h : Fin 16) (l : Fin 128) (r : Fin 8192) (j : Fin 2048)
    (hr : r.val = 2048 * b.val + t.val) (hj : j.val = 128 * h.val + l.val) :
    outR q k v c0 r j = rowVal (scoreR q k c0 b h t) (valueR v b h ⟨l.val, by omega⟩) t.val := by
  have e1 : (⟨r.val / 2048, by omega⟩ : Fin 4) = b := Fin.ext (by simp only []; omega)
  have e2 : (⟨r.val % 2048, by omega⟩ : Fin 2048) = t := Fin.ext (by simp only []; omega)
  have e3 : (⟨j.val / 128, by omega⟩ : Fin 16) = h := Fin.ext (by simp only []; omega)
  have e4 : (⟨j.val % 128, by omega⟩ : Fin 256) = ⟨l.val, by omega⟩ := Fin.ext (by simp only []; omega)
  have e5 : r.val % 2048 = t.val := by omega
  rw [outR, e1, e2, e3, e4, e5]

/-- A padded query against a padded key is the score: the padded lanes add nothing. -/
theorem score_pad (Q K : FVec Ideal S4x2048x16x192 .f32) (q k : Fin 4 → Fin 2048 → Fin 16 → Fin 192 → ℝ) (c0 : ℝ)
    (hq : ∀ b t h d, Q (ix4 b t h d) = ((q b t h d : ℝ) : EReal)) (hk : ∀ b t h d, K (ix4 b t h d) = ((k b t h d : ℝ) : EReal))
    (hc : Ideal.ofBits .f32 0x3D93CD3A#32 = (c0 : EReal))
    (b : Fin 4) (h : Fin 16) (t j : Fin 2048) (rq rk : Fin 8192) (cx : Fin 256 → Fin 4096)
    (hrq : rq.val = 2048 * b.val + t.val) (hrk : rk.val = 2048 * b.val + j.val) (hcx : ∀ x, (cx x).val = 256 * h.val + x.val) :
    ∑ x : Fin 256, padArr (mulf Q (broadcastInDim S4x2048x16x192 ![] bcast_S_S4x2048x16x192 (constant S_ .f32 0x3D93CD3A#32))) (ix2 rq (cx x))
        * padArr K (ix2 rk (cx x)) = ((scoreR q k c0 b h t j.val : ℝ) : EReal) := by
  have lo : ∀ x : Fin 192, padArr (mulf Q (broadcastInDim S4x2048x16x192 ![] bcast_S_S4x2048x16x192 (constant S_ .f32 0x3D93CD3A#32))) (ix2 rq (cx (Fin.castAdd 64 x)))
        * padArr K (ix2 rk (cx (Fin.castAdd 64 x))) = ((q b t h x * c0 * k b j h x : ℝ) : EReal) := by
    intro x
    have hx : (cx (Fin.castAdd 64 x)).val = 256 * h.val + x.val := hcx _
    have h192 : (cx (Fin.castAdd 64 x)).val % 256 < 192 := by omega
    rw [padArr_lo _ _ _ h192, padArr_lo _ _ _ h192]
    have e : (mulf Q (broadcastInDim S4x2048x16x192 ![] bcast_S_S4x2048x16x192 (constant S_ .f32 0x3D93CD3A#32)) : FVec Ideal S4x2048x16x192 .f32)
        (ix4 ⟨rq.val / 2048, by omega⟩ ⟨rq.val % 2048, by omega⟩ ⟨(cx (Fin.castAdd 64 x)).val / 256, by omega⟩ ⟨(cx (Fin.castAdd 64 x)).val % 256, h192⟩)
        = Q (ix4 b t h x) * Ideal.ofBits .f32 0x3D93CD3A#32 := by
      pointwise
      refine congrArg (· * Ideal.ofBits .f32 0x3D93CD3A#32) (congrArg Q ?_)
      congr 1 <;> exact Fin.ext (by simp only []; omega)
    have e' : K (ix4 ⟨rk.val / 2048, by omega⟩ ⟨rk.val % 2048, by omega⟩ ⟨(cx (Fin.castAdd 64 x)).val / 256, by omega⟩ ⟨(cx (Fin.castAdd 64 x)).val % 256, h192⟩)
        = K (ix4 b j h x) := by
      refine congrArg K ?_
      congr 1 <;> exact Fin.ext (by simp only []; omega)
    rw [e, e', hq, hk, hc]
    push_cast
    rfl
  have hi : ∀ x : Fin 64, padArr (mulf Q (broadcastInDim S4x2048x16x192 ![] bcast_S_S4x2048x16x192 (constant S_ .f32 0x3D93CD3A#32))) (ix2 rq (cx (Fin.natAdd 192 x)))
        * padArr K (ix2 rk (cx (Fin.natAdd 192 x))) = (0 : EReal) := by
    intro x
    have hx : (cx (Fin.natAdd 192 x)).val = 256 * h.val + (192 + x.val) := hcx _
    have h192 : ¬(cx (Fin.natAdd 192 x)).val % 256 < 192 := by omega
    rw [padArr_hi _ _ _ h192, padArr_hi _ _ _ h192]
    exact mul_zero _
  refine (Fin.sum_univ_add (a := 192) (b := 64) _).trans ?_
  rw [Finset.sum_congr rfl fun x _ => lo x, Finset.sum_congr rfl fun x _ => hi x, Finset.sum_const_zero, add_zero, ← coe_sum]
  refine congrArg _ ?_
  rw [scoreR, dif_pos j.isLt, Finset.sum_mul]
  exact Finset.sum_congr rfl fun x _ => by ring

section
variable (q k : Fin 4 → Fin 2048 → Fin 16 → Fin 192 → ℝ) (v : Fin 4 → Fin 2048 → Fin 16 → Fin 256 → EReal) (c0 : ℝ) (c : Dev nD)
  (hq : ∀ b t h d, (m ((c : Thread nD τ).loc main_arg0) : FVec Ideal S4x2048x16x192 .f32) (ix4 b t h d) = ((q b t h d : ℝ) : EReal))
  (hk : ∀ b t h d, (m ((c : Thread nD τ).loc main_arg1) : FVec Ideal S4x2048x16x192 .f32) (ix4 b t h d) = ((k b t h d : ℝ) : EReal))
  (hv : ∀ b t h d, (m ((c : Thread nD τ).loc main_arg2) : FVec Ideal S4x2048x16x256 .f32) (ix4 b t h d) = (v b t h d))
  (hc : Ideal.ofBits .f32 0x3D93CD3A#32 = (c0 : EReal))
include hq hk hv hc

/-- The blocks at a grid point hold the scores and values of its batch entry and its four heads. -/
theorem holds_at (t : Fin cfg0.N) (i : grid0.Coords) (hi : i = grid0.coords t) :
    Holds (qv (iblk m c 0 t)) (iblk m c 1 t) (iblk m c 2 t)
      (fun hd r => scoreR q k c0 ⟨(i 0).val, (coords_lt i).1⟩ ⟨4 * (i 1).val + hd.val, by have := coords_lt i; omega⟩ ⟨512 * (i 2).val + r.val, by have := coords_lt i; omega⟩)
      (fun hd => valueR v ⟨(i 0).val, (coords_lt i).1⟩ ⟨4 * (i 1).val + hd.val, by have := coords_lt i; omega⟩) := by
  obtain ⟨h0, h1, h2⟩ := coords_lt i
  refine ⟨fun hd r j => ?_, fun hd l j => ?_, fun hd l j hl => ?_⟩
  · simp only [qv_at]
    refine (Finset.sum_congr rfl fun x _ => congrArg₂ (fun a b : EReal => a * b)
      ((iblk0_at m c t i hi r ⟨256 * hd.val + x.val, by omega⟩).trans (congrFun (entry_q m c) _))
      ((iblk1_at m c t i hi j ⟨256 * hd.val + x.val, by omega⟩).trans (congrFun (entry_k m c) _))).trans ?_
    refine score_pad _ _ q k c0 hq hk hc _ _ _ _ _ _ (fun x => ⟨1024 * (i 1).val + (256 * hd.val + x.val), by omega⟩) ?_ rfl ?_
    · simp only []; omega
    · intro x; simp only []; omega
  · rw [iblk2_at m c t i hi, entry_v m c]
    simp only [valueR, l.isLt, j.isLt, dif_pos]
    rw [← hv]
    refine congrArg (m ((c : Thread nD τ).loc main_arg2)) ?_
    congr 1 <;> exact Fin.ext (by simp only []; omega)
  · exact dif_neg hl

/-- The result array after the run is the attention. -/
theorem final : (dats m 0 c).arrAt 3 cfg0.N
    = fun y : S8192x2048.Idx => outR q k v c0 (y 0) (y 1) := by
  refine (dats m 0 c).arrAt_eq_of_covers 3 _ (by decide +kernel) fun t _ y => ?_
  blk_simp
  rw [after0_3, outsAt0]
  obtain ⟨i0, i1, i2⟩ := coords_lt (grid0.coords t)
  have e0 : ((win0_3.blk t).view.emb y 0).val = 2048 * (grid0.coords t 0).val + (512 * (grid0.coords t 2).val + (y 0).val) := by
    blk_simp [idx t]
    omega
  have e1 : ((win0_3.blk t).view.emb y 1).val = 128 * (4 * (grid0.coords t 1).val + (y 1).val / 128) + (y 1).val % 128 := by
    blk_simp [idx t]
    omega
  have y0 : (y 0).val < 512 := (y 0).isLt
  have y1 : (y 1).val < 512 := (y 1).isLt
  rw [outR_at q k v c0 ⟨(grid0.coords t 0).val, i0⟩ ⟨512 * (grid0.coords t 2).val + (y 0).val, by omega⟩
    ⟨4 * (grid0.coords t 1).val + (y 1).val / 128, by omega⟩ ⟨(y 1).val % 128, by omega⟩ _ _ e0 e1]
  refine Eq.trans ?_ (block_value c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t) _ _
    (holds_at m q k v c0 c hq hk hv hc t _ rfl) ⟨(y 1).val / 128, by omega⟩ ⟨(y 0).val, y0⟩ ⟨(y 1).val % 128, by omega⟩)
  refine congrArg _ (funext fun a => ?_)
  match a with
  | ⟨0, _⟩ => rfl
  | ⟨1, _⟩ => exact Fin.ext (Nat.div_add_mod _ _).symm
end

end Cert.KernelIdeal.Attn
end
end
-- ==== Proof.Ref.lean ====
module

public import proofs.«01_k».proof.Proof.Array
public import proofs.«01_k».proof.Proof.Gen.ReferenceIdeal.Run
public import Idealize.ShloMosaic.Lib.WordCmp
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
open Idealize.ShloMosaic.Pipeline (Dat)

namespace Cert.ReferenceIdeal.Attn

open Cert.ReferenceIdeal Cert.ReferenceIdeal.Gen Cert.Softmax

open Cert.KernelIdeal.Attn (rowVal scoreR valueR outR outR_at)

/-! The reference's result, stage by stage, read entry by entry. -/

section
variable {F : FTy → Type} [FloatOps F]

/-- The scores, those of the keys after the query replaced by −∞. -/
def scores (Q K : FVec F S4x2048x16x192 .f32) : FVec F S4x16x2048x2048 .f32 :=
  select (broadcastInDim S4x16x2048x2048 ![2, 3] bcast_S2048x2048_S4x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (mulf (Host.dotGeneral dot_S4x2048x16x192_S4x2048x16x192_S4x16x2048x2048_3_3_1_1_02_02 none Q K) (broadcastInDim S4x16x2048x2048 ![] bcast_S_S4x16x2048x2048 (constant S_ .f32 0x3D93CD3A#32)))
    (broadcastInDim S4x16x2048x2048 ![] bcast_S_S4x16x2048x2048 (constant S_ .f32 0xFF800000#32))

/-- The largest score of each row. -/
def tops (S : FVec F S4x16x2048x2048 .f32) : FVec F S4x16x2048 .f32 :=
  Host.reduce FloatOps.maximumf S (constant S_ .f32 0xFF800000#32) reducesTo_S4x16x2048x2048_S4x16x2048_d3 h_S_

/-- The largest score of each row where it is finite, 0 where it is not. -/
def guarded (M : FVec F S4x16x2048 .f32) : FVec F S4x16x2048x1 .f32 :=
  select (cmpf .olt (Host.absf (broadcastInDim S4x16x2048x1 ![0, 1, 2] bcast_S4x16x2048_S4x16x2048x1_0_1_2 M)) (broadcastInDim S4x16x2048x1 ![] bcast_S_S4x16x2048x1 (constant S_ .f32 0x7F800000#32)))
    (broadcastInDim S4x16x2048x1 ![0, 1, 2] bcast_S4x16x2048_S4x16x2048x1_0_1_2 M) (broadcastInDim S4x16x2048x1 ![] bcast_S_S4x16x2048x1 (constant S_ .f32 0x00000000#32))

/-- The exponentials of the scores less the row's largest. -/
def exps (S : FVec F S4x16x2048x2048 .f32) (G : FVec F S4x16x2048x1 .f32) : FVec F S4x16x2048x2048 .f32 :=
  Host.exp (subf S (broadcastInDim S4x16x2048x2048 ![0, 1, 2, 3] bcast_S4x16x2048x1_S4x16x2048x2048_0_1_2_3 G))

/-- Each row's sum, at least 1e-30. -/
def denoms (E : FVec F S4x16x2048x2048 .f32) : FVec F S4x16x2048x1 .f32 :=
  maximumf (broadcastInDim S4x16x2048x1 ![0, 1, 2] bcast_S4x16x2048_S4x16x2048x1_0_1_2 (Host.reduceAdd E (constant S_ .f32 0x00000000#32) reducesTo_S4x16x2048x2048_S4x16x2048_d3 h_S_)) (broadcastInDim S4x16x2048x1 ![] bcast_S_S4x16x2048x1 (constant S_ .f32 0x0DA24260#32))

/-- The quotients, against the values; heads side by side. -/
def mixed (V : FVec F S4x2048x16x256 .f32) (E : FVec F S4x16x2048x2048 .f32) (D : FVec F S4x16x2048x1 .f32) : FVec F S8192x2048 .bf16 :=
  truncf .bf16 (shapeCast S8192x2048 (transpose S4x2048x16x128 [0, 3, 1, 2] (Host.dotGeneral dot_S4x2048x16x128_S4x16x2048x2048_S4x16x128x2048_1_3_3_2_02_01 none (extractStridedSlice S4x2048x16x128 ![0, 0, 0, 128] V slices_S4x2048x16x256_S4x2048x16x128_0_0_0_128) (Host.divf E (broadcastInDim S4x16x2048x2048 ![0, 1, 2, 3] bcast_S4x16x2048x1_S4x16x2048x2048_0_1_2_3 D))) transposes_S4x16x128x2048_S4x2048x16x128_0_3_1_2) shapeCasts_S4x2048x16x128_S8192x2048) bitsLt_bf16_f32

/-- The reference's result is its stages in order. -/
theorem result_eq (m : (ℓ : Loc nD τ sig) → Buf (Elt F) ℓ) (c : Dev nD) :
    Cert.ReferenceIdeal.Value.res_main_v29 m c
      = (let S := scores (m ((c.tc : Thread nD τ).loc main_arg0)) (m ((c.tc : Thread nD τ).loc main_arg1))
         let E := exps S (guarded (tops S))
         mixed (m ((c.tc : Thread nD τ).loc main_arg2)) E (denoms E)) := rfl
end

/-- A score, seen only from the keys up to the query. -/
theorem scores_at (Q K : FVec Ideal S4x2048x16x192 .f32) (q k : Fin 4 → Fin 2048 → Fin 16 → Fin 192 → ℝ) (c0 : ℝ)
    (hq : ∀ b t h d, Q (ix4 b t h d) = ((q b t h d : ℝ) : EReal)) (hk : ∀ b t h d, K (ix4 b t h d) = ((k b t h d : ℝ) : EReal))
    (hc : Ideal.ofBits .f32 0x3D93CD3A#32 = (c0 : EReal)) (b : Fin 4) (h : Fin 16) (t j : Fin 2048) :
    scores Q K (ix4 b h t j) = seen (scoreR q k c0 b h t) t.val j.val := by
  pointwise [scores]
  have hb : Ideal.ofBits FTy.f32 4286578688#32 = ⊥ := by simp [Ideal.ofBits, Ideal.ieee]
  have hs : (∑ x, Q (ix4 b t h x) * K (ix4 b j h x)) * Ideal.ofBits FTy.f32 1033096506#32
      = ((scoreR q k c0 b h t j.val : ℝ) : EReal) := by
    rw [scoreR, dif_pos j.isLt, EReal.coe_mul, coe_sum, hc]
    refine congrArg (· * (c0 : EReal)) (Finset.sum_congr rfl fun x _ => ?_)
    rw [hq, hk, EReal.coe_mul]
  rw [hs, hb]
  have hw : IntOp.cmpi CmpIPredicate.sle (BitVec.ofNat 32 ↑j) (BitVec.ofNat 32 ↑t) = 1 ↔ j.val ≤ t.val :=
    WordCmp.cmpi_sle_ofNat_eq_one_iff (by omega) (by omega)
  unfold seen Scalar.select
  by_cases hjt : j.val ≤ t.val
  · rw [if_pos hjt, if_pos (hw.2 hjt)]
  · rw [if_neg hjt, if_neg (fun h => hjt (hw.1 h))]

/-- The largest score of a row. -/
theorem tops_at (S : FVec Ideal S4x16x2048x2048 .f32) (b : Fin 4) (h : Fin 16) (t : Fin 2048) (s : ℕ → ℝ)
    (hS : ∀ j : Fin 2048, S (ix4 b h t j) = seen s t.val j.val) : tops S (ix3 b h t) = top s t.val 2048 := by
  pointwise [tops]
  refine eq_of_forall_ge_iff fun x => ?_
  have hb : Ideal.ofBits FTy.f32 4286578688#32 = ⊥ := by simp [Ideal.ofBits, Ideal.ieee]
  rw [Finset.fold_max_le, top_le, hb]
  constructor
  · rintro ⟨-, h⟩ j hj
    exact (hS ⟨j, hj⟩).symm.le.trans (h ⟨j, hj⟩ (Finset.mem_univ _))
  · intro h
    exact ⟨bot_le, fun j _ => (hS j).le.trans (h j.val j.isLt)⟩

/-- A largest score that is a number is kept. -/
theorem guarded_at (M : FVec Ideal S4x16x2048 .f32) (b : Fin 4) (h : Fin 16) (t : Fin 2048) (x : ℝ)
    (hM : M (ix3 b h t) = (x : EReal)) : guarded M (ix4 b h t 0) = (x : EReal) := by
  pointwise [guarded]
  have ht : Ideal.ofBits FTy.f32 2139095040#32 = ⊤ := by simp [Ideal.ofBits, Ideal.ieee]
  rw [hM, ht]
  refine if_pos ?_
  show ((max x (-x) : ℝ) : EReal) < ⊤
  exact EReal.coe_lt_top _

/-- An entry of the result: the quotients of its row against a column of values. -/
theorem mixed_at (V : FVec Ideal S4x2048x16x256 .f32) (E : FVec Ideal S4x16x2048x2048 .f32) (D : FVec Ideal S4x16x2048x1 .f32)
    (r : Fin 8192) (j : Fin 2048) (b : Fin 4) (t : Fin 2048) (h : Fin 16) (l : Fin 128) (hb : b = ⟨r.val / 2048, by omega⟩)
    (ht : t = ⟨r.val % 2048, by omega⟩) (hh : h = ⟨j.val / 128, by omega⟩) (hl : l = ⟨j.val % 128, by omega⟩) :
    mixed V E D (ix2 r j) = ∑ x : Fin 2048, V (ix4 b x h ⟨128 + l.val, by omega⟩) * Ideal.div (E (ix4 b h t x)) (D (ix4 b h t 0)) := by
  subst hb ht hh hl
  pointwise [mixed]

/-- The floor of the denominators is a number. -/
theorem floor_coe : ∃ l : ℝ, Ideal.ofBits .f32 0x0DA24260#32 = (l : EReal) := by
  simp [Ideal.ofBits, Ideal.ieee]
  exact ⟨_, (EReal.coe_mul _ _).symm⟩

/-- The scale is a number. -/
theorem scale_coe : ∃ l : ℝ, Ideal.ofBits .f32 0x3D93CD3A#32 = (l : EReal) := by
  simp [Ideal.ofBits, Ideal.ieee]
  exact ⟨_, (EReal.coe_mul _ _).symm⟩

section
variable (m : (ℓ : Loc nD τ sig) → Buf (Elt Ideal) ℓ)
variable (q k : Fin 4 → Fin 2048 → Fin 16 → Fin 192 → ℝ) (v : Fin 4 → Fin 2048 → Fin 16 → Fin 256 → EReal) (c0 : ℝ) (c : Dev nD)
  (hq : ∀ b t h d, (m ((c.tc : Thread nD τ).loc main_arg0) : FVec Ideal S4x2048x16x192 .f32) (ix4 b t h d) = ((q b t h d : ℝ) : EReal))
  (hk : ∀ b t h d, (m ((c.tc : Thread nD τ).loc main_arg1) : FVec Ideal S4x2048x16x192 .f32) (ix4 b t h d) = ((k b t h d : ℝ) : EReal))
  (hv : ∀ b t h d, (m ((c.tc : Thread nD τ).loc main_arg2) : FVec Ideal S4x2048x16x256 .f32) (ix4 b t h d) = (v b t h d))
  (hc : Ideal.ofBits .f32 0x3D93CD3A#32 = (c0 : EReal))
include hq hk hv hc

/-- The reference's result is the attention. -/
theorem final : (Cert.ReferenceIdeal.Value.res_main_v29 m c : FVec Ideal S8192x2048 .bf16)
    = fun y : S8192x2048.Idx => outR q k v c0 (y 0) (y 1) := by
  rw [result_eq]
  funext y
  idx_vars y
  generalize hSd : scores (F := Ideal) (m ((c.tc : Thread nD τ).loc main_arg0)) (m ((c.tc : Thread nD τ).loc main_arg1)) = S
  obtain ⟨b, hb⟩ : ∃ b : Fin 4, b = ⟨y0.val / 2048, by omega⟩ := ⟨_, rfl⟩
  obtain ⟨t, ht⟩ : ∃ t : Fin 2048, t = ⟨y0.val % 2048, by omega⟩ := ⟨_, rfl⟩
  obtain ⟨h, hh⟩ : ∃ h : Fin 16, h = ⟨y1.val / 128, by omega⟩ := ⟨_, rfl⟩
  obtain ⟨l, hl⟩ : ∃ l : Fin 128, l = ⟨y1.val % 128, by omega⟩ := ⟨_, rfl⟩
  have hS : ∀ j : Fin 2048, S (ix4 b h t j) = seen (scoreR q k c0 b h t) t.val j.val :=
    fun j => by rw [← hSd]; exact scores_at _ _ q k c0 hq hk hc b h t j
  have hM := tops_at S b h t _ hS
  rw [top_coe _ _ _ (by norm_num)] at hM
  have hG := guarded_at (tops S) b h t _ hM
  rw [← top_coe _ _ _ (by norm_num)] at hG
  generalize guarded (tops S) = G at hG ⊢
  have hE : ∀ j : Fin 2048, exps S G (ix4 b h t j)
      = Ideal.exp (seen (scoreR q k c0 b h t) t.val j.val - top (scoreR q k c0 b h t) t.val 2048) := by
    intro j
    pointwise [exps]
    rw [hS, hG]
  generalize exps S G = E at hE ⊢
  obtain ⟨f, hf⟩ := floor_coe
  have hD : denoms E (ix4 b h t 0) = max (acc (scoreR q k c0 b h t) (fun _ => 1) t.val 2048) (f : EReal) := by
    pointwise [denoms]
    rw [hf, acc_eq_sum _ _ _ _ (by norm_num)]
    refine congrArg (max · (f : EReal)) (Finset.sum_congr rfl fun j _ => ?_)
    rw [hE, mul_one]
  generalize denoms E = D at hD ⊢
  rw [outR_at q k v c0 b t h l y0 y1 (by rw [hb, ht]; simp only []; omega) (by rw [hh, hl]; simp only []; omega), rowVal, hf,
    quot _ _ _ _ (by norm_num)]
  rw [mixed_at _ _ _ _ _ b t h l hb ht hh hl]
  refine Finset.sum_congr rfl fun j _ => ?_
  rw [hE, hD, hv, mul_comm]
  refine congrArg _ ?_
  rw [valueR, dif_pos l.isLt, dif_pos j.isLt]
end
end Cert.ReferenceIdeal.Attn
end
end
-- ==== Proof.Algebraic.lean ====
module

public import proofs.«01_k».proof.Defs
public import proofs.«01_k».proof.Proof.Array
public import proofs.«01_k».proof.Proof.Ref
public import proofs.«01_k».proof.Proof.Gen.Kernel
public import proofs.«01_k».proof.Proof.Gen.KernelIdeal
public import proofs.«01_k».proof.Proof.Gen.ReferenceIdeal
public import proofs.«01_k».proof.Proof.Gen.Pre_finite_inputs
public import Idealize.ShloMosaic.Lib.ReduceAll
public import Idealize.ShloMosaic.Lib.Claim
public import Idealize.ShloMosaic.Lib.Pointwise

@[expose] public section

set_option maxRecDepth 16384

noncomputable section
open Idealize.ShloMosaic Idealize.ShloMosaic.TcCoe Idealize.SL.Sem

/-! The value claim: both programs end with the attention of their arguments. -/

namespace Cert.Proof

/-- A number whose absolute value is below infinity is a real number. -/
theorem real_of_abs (x : EReal) (h : max x (-x) < (⊤ : EReal)) : ((x.toReal : ℝ) : EReal) = x := by
  refine EReal.coe_toReal ?_ ?_
  · rintro rfl; simp at h
  · rintro rfl; simp at h

/-- The entries of an array that passes the test are real numbers. -/
theorem finite_of {s : Shape} (x : FVec Ideal s .f32) (B : FVec Ideal s .f32) (hB : ∀ i, B i = (⊤ : EReal))
    {u t : Shape} {axes : List (Fin s.rank)} [Subsingleton t.Idx] (init : u.Idx → BitVec 1) (h : s.ReducesTo axes t) (hu : 0 < u.numel) (j : t.Idx)
    (e : Host.reduce IntOp.andi (cmpf .olt (Host.absf x) B) init h hu j = 1#1) (i : s.Idx) :
    (((x i : EReal).toReal : ℝ) : EReal) = x i := by
  have hi := Host.reduce_andi_all _ _ h hu j e i
  refine real_of_abs _ ?_
  rw [ValueIdx.cmpf_apply, hB] at hi
  by_contra hn
  have : FloatOps.cmpf (F := Ideal) .olt (Host.absf x i) (⊤ : EReal) = 0#1 := congrArg BitVec.ofBool (decide_eq_false hn)
  rw [this] at hi
  exact absurd hi (by decide)

/-- Under the precondition every entry of the queries and of the keys is a real number. -/
theorem finite_args (x0 x1 : FVec Ideal Cert.Pre_finite_inputs.S4x2048x16x192 .f32) (x2 : FVec Ideal Cert.Pre_finite_inputs.S4x2048x16x256 .f32)
    (h : Cert.Pre_finite_inputs.fn (F := Ideal) x0 x1 x2 = fun _ => 1#1) :
    (∀ i, (((x0 i : EReal).toReal : ℝ) : EReal) = x0 i) ∧ (∀ i, (((x1 i : EReal).toReal : ℝ) : EReal) = x1 i) := by
  have h0 := congrFun h ix0
  unfold Cert.Pre_finite_inputs.fn at h0
  have ht : Ideal.ofBits FTy.f32 2139095040#32 = ⊤ := by simp [Ideal.ofBits, Ideal.ieee]
  haveI : Subsingleton Cert.Pre_finite_inputs.S_.Idx := ⟨fun a b => funext fun k => k.elim0⟩
  obtain ⟨h0, h1⟩ := IntOp.andi_eq_one.1 h0
  exact ⟨finite_of _ _ (fun _ => ht) _ _ _ _ h0, finite_of _ _ (fun _ => ht) _ _ _ _ h1⟩

/-- Both programs end with the attention of their arguments. -/
theorem algebraic : Cert.algebraic_KernelIdeal_ReferenceIdeal_pre_finite_inputs := by
  intro m g m' g' hpre hag
  obtain ⟨c0, hc⟩ := Cert.ReferenceIdeal.Attn.scale_coe
  let q (c : Dev Cert.KernelIdeal.nD) : Fin 4 → Fin 2048 → Fin 16 → Fin 192 → ℝ := fun b t h d =>
    ((m ((c.tc : Thread Cert.KernelIdeal.nD Cert.KernelIdeal.τ).loc Cert.KernelIdeal.main_arg0) : FVec Ideal Cert.KernelIdeal.S4x2048x16x192 .f32) (ix4 b t h d) : EReal).toReal
  let k (c : Dev Cert.KernelIdeal.nD) : Fin 4 → Fin 2048 → Fin 16 → Fin 192 → ℝ := fun b t h d =>
    ((m ((c.tc : Thread Cert.KernelIdeal.nD Cert.KernelIdeal.τ).loc Cert.KernelIdeal.main_arg1) : FVec Ideal Cert.KernelIdeal.S4x2048x16x192 .f32) (ix4 b t h d) : EReal).toReal
  let v (c : Dev Cert.KernelIdeal.nD) : Fin 4 → Fin 2048 → Fin 16 → Fin 256 → EReal := fun b t h d =>
    (m ((c.tc : Thread Cert.KernelIdeal.nD Cert.KernelIdeal.τ).loc Cert.KernelIdeal.main_arg2) : FVec Ideal Cert.KernelIdeal.S4x2048x16x256 .f32) (ix4 b t h d)
  refine ⟨fun c => fun y : Cert.KernelIdeal.S8192x2048.Idx => Cert.KernelIdeal.Attn.outR (q c) (k c) (v c) c0 (y 0) (y 1), ?_, ?_⟩
  · refine (θ_run Cert.KernelIdeal.defs _ _).mono (fun r h c => ⟨(h c).1.trans ?_, (h c).2⟩) (Cert.KernelIdeal.Value.run_blocks (F := Ideal) m g)
    obtain ⟨f0, f1⟩ := finite_args _ _ _ (hpre c)
    exact Cert.KernelIdeal.Attn.final m (q c) (k c) (v c) c0 c (fun b t h d => (f0 _).symm) (fun b t h d => (f1 _).symm) (fun _ _ _ _ => rfl) hc
  · refine (θ_run Cert.ReferenceIdeal.defs _ _).mono (fun r h c => ⟨(h c).1.trans ?_, (h c).2⟩) (Cert.ReferenceIdeal.Value.run (F := Ideal) m' g')
    obtain ⟨f0, f1⟩ := finite_args _ _ _ (hpre c)
    obtain ⟨a0, a1, a2⟩ := hag c
    exact Cert.ReferenceIdeal.Attn.final m' (q c) (k c) (v c) c0 c
      (fun b t h d => (congrFun a0 _).trans (f0 _).symm) (fun b t h d => (congrFun a1 _).trans (f1 _).symm) (fun b t h d => congrFun a2 _) hc

end Cert.Proof
end
end
-- ==== Proof.lean ====
/- The claim assembled: the witnesses of the programs' stated facts, then one theorem per claim. -/
module

public import proofs.«01_k».proof.Defs
public import proofs.«01_k».proof.Proof.Gen.KernelIdeal.Value
public import proofs.«01_k».proof.Proof.Gen.Kernel
public import proofs.«01_k».proof.Proof.Gen.KernelIdeal
public import proofs.«01_k».proof.Proof.Gen.ReferenceIdeal
public import proofs.«01_k».proof.Proof.Gen.Pre_finite_inputs
public import proofs.«01_k».proof.Proof.Gen.Kernel2
public import proofs.«01_k».proof.Proof.Gen.Kernel2Ideal
public import proofs.«01_k».proof.Proof.Gen.Reference2Ideal
public import proofs.«01_k».proof.Proof.OutOdd
public import proofs.«01_k».proof.Proof.Gen.Kernel3
public import proofs.«01_k».proof.Proof.Gen.Kernel3Ideal
public import proofs.«01_k».proof.Proof.Gen.Reference3Ideal
public import proofs.«01_k».proof.Proof.OutEven
public import proofs.«01_k».proof.Proof.Gen.Kernel4
public import proofs.«01_k».proof.Proof.Gen.Kernel4Ideal
public import proofs.«01_k».proof.Proof.Gen.Reference4Ideal
public import proofs.«01_k».proof.Proof.InOdd
public import proofs.«01_k».proof.Proof.Gen.Kernel5
public import proofs.«01_k».proof.Proof.Gen.Kernel5Ideal
public import proofs.«01_k».proof.Proof.Gen.Reference5Ideal
public import proofs.«01_k».proof.Proof.InEven
public import proofs.«01_k».proof.Proof.Gen.Kernel6
public import proofs.«01_k».proof.Proof.Gen.Kernel6Ideal
public import proofs.«01_k».proof.Proof.Gen.Reference6Ideal
public import proofs.«01_k».proof.Proof.UpQ
public import proofs.«01_k».proof.Proof.Gen.Kernel7
public import proofs.«01_k».proof.Proof.Gen.Kernel7Ideal
public import proofs.«01_k».proof.Proof.Gen.Reference7Ideal
public import proofs.«01_k».proof.Proof.UpKv
public import proofs.«01_k».proof.Proof.Gen.Kernel8
public import proofs.«01_k».proof.Proof.Gen.Kernel8Ideal
public import proofs.«01_k».proof.Proof.Gen.Reference8Ideal
public import proofs.«01_k».proof.Proof.NormMod
public import proofs.«01_k».proof.Proof.Gen.Kernel9
public import proofs.«01_k».proof.Proof.Gen.Kernel9Ideal
public import proofs.«01_k».proof.Proof.Gen.Reference9Ideal
public import proofs.«01_k».proof.Proof.Combine
public import proofs.«01_k».proof.Proof.Gen.Kernel10
public import proofs.«01_k».proof.Proof.Gen.Kernel10Ideal
public import proofs.«01_k».proof.Proof.Gen.Reference10Ideal
public import proofs.«01_k».proof.Proof.Adaln
public import proofs.«01_k».proof.Proof.Gen.Kernel11
public import proofs.«01_k».proof.Proof.Gen.Kernel11Ideal
public import proofs.«01_k».proof.Proof.Gen.Reference11Ideal
public import proofs.«01_k».proof.Proof.PrepQ
public import proofs.«01_k».proof.Proof.Gen.Kernel12
public import proofs.«01_k».proof.Proof.Gen.Kernel12Ideal
public import proofs.«01_k».proof.Proof.Gen.Reference12Ideal
public import proofs.«01_k».proof.Proof.PrepK
public import proofs.«01_k».proof.Proof.Frames
public import proofs.«01_k».proof.Proof.ProjFrames
public import proofs.«01_k».proof.Proof.Algebraic

@[expose] public section

noncomputable section

namespace Cert.Proof

/-- Every claim of every program. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite_inputs.Gen.facts,
  frame_kernel, frame_ideal, fun m ρ _ => Cert.KernelIdeal.Gen.frame m ρ, frame_reference, fun m ρ _ => run_reference m ρ,
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  preserves, algebraic, preserves2, algebraic2, preserves3, algebraic3, preserves4, algebraic4, preserves5, algebraic5, preserves6, algebraic6, preserves7, algebraic7, preserves8, algebraic8, preserves9, algebraic9, preserves10, algebraic10, preserves11, algebraic11, preserves12, algebraic12⟩

end Cert.Proof

end
